-- ==== Defs.lean ====
def Pre_Kernel [hPre_drawn_range : Cert.Pre_drawn_range.Facts] (m : (ℓ : Loc Cert.Kernel.nD Cert.Kernel.τ Cert.Kernel.sig) → Buf (Elt Bits) ℓ) : Prop :=
  ∀ c : Dev Cert.Kernel.nD,
    (Cert.Pre_drawn_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_drawn_range : Cert.Pre_drawn_range.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_range [hPre_drawn_range : Cert.Pre_drawn_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_drawn_range : Cert.Pre_drawn_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_drawn_range : Cert.Pre_drawn_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_drawn_range [hReferenceIdeal : Cert.ReferenceIdeal.Facts] [hPre_drawn_range : Cert.Pre_drawn_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn_range : Cert.Pre_drawn_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_drawn_range : Cert.Pre_drawn_range.Facts),
    quiescent_Kernel (hKernel := hKernel) (hPre_drawn_range := hPre_drawn_range)
    ∧ quiescent_KernelIdeal (hKernelIdeal := hKernelIdeal) (hPre_drawn_range := hPre_drawn_range)
    ∧ quiescent_ReferenceIdeal (hReferenceIdeal := hReferenceIdeal)
    ∧ quiescent_ReferenceIdeal_pre_drawn_range (hReferenceIdeal := hReferenceIdeal) (hPre_drawn_range := hPre_drawn_range)
    ∧ preserves_Kernel_KernelIdeal
    ∧ algebraic_KernelIdeal_ReferenceIdeal (hKernelIdeal := hKernelIdeal) (hReferenceIdeal := hReferenceIdeal) (hPre_drawn_range := hPre_drawn_range)
-- ==== Pre_drawn_range.lean ====
abbrev S4096 : Shape := ⟨1, ![4096]⟩
abbrev S4096x20 : Shape := ⟨2, ![4096, 20]⟩
abbrev S100000x1000 : Shape := ⟨2, ![100000, 1000]⟩
abbrev S100000x64 : Shape := ⟨2, ![100000, 64]⟩
abbrev S1000x64 : Shape := ⟨2, ![1000, 64]⟩
abbrev S128x192 : Shape := ⟨2, ![128, 192]⟩
abbrev S64x192 : Shape := ⟨2, ![64, 192]⟩
abbrev S192 : Shape := ⟨1, ![192]⟩
abbrev S64x64 : Shape := ⟨2, ![64, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_arg2 : IVec S4096x20 32) (main_v12 : IVec S_ 1) (main_v14 : IVec S4096x20 1) (main_v15 : IVec S4096x20 32) : IVec S_ 1 :=
  let main_v16 : IVec S4096x20 1 := cmpi .slt main_arg2 main_v15
  let main_v17 : IVec S4096x20 1 := andi main_v14 main_v16
  let main_c_7 : IVec S_ 1 := constantI S_ 1 1#1
  let main_v18 : IVec S_ 1 := (fun x v => Host.reduce IntOp.andi x v reducesTo_S4096x20_S_d0_1 h_S_) main_v17 main_c_7
  let main_v19 : IVec S_ 1 := andi main_v12 main_v18
  main_v19

def fn {F : FTy → Type} [FloatOps F] (main_arg0 : IVec S4096 32) (main_arg1 : IVec S4096 32) (main_arg2 : IVec S4096x20 32) (main_arg3 : FVec F S100000x1000 .f32) (main_arg4 : FVec F S100000x64 .f32) (main_arg5 : FVec F S1000x64 .f32) (main_arg6 : FVec F S128x192 .f32) (main_arg7 : FVec F S64x192 .f32) (main_arg8 : FVec F S192 .f32) (main_arg9 : FVec F S64x64 .f32) : IVec S_ 1 :=
  let main_c : IVec S_ 32 := constantI S_ 32 1#32
  let main_v0 : IVec S4096 32 := broadcastInDim S4096 ![] bcast_S_S4096 main_c
  let main_v1 : IVec S4096 1 := cmpi .sge main_arg0 main_v0
  let main_c_0 : IVec S_ 32 := constantI S_ 32 20#32
  let main_v2 : IVec S4096 32 := broadcastInDim S4096 ![] bcast_S_S4096 main_c_0
  let main_v3 : IVec S4096 1 := cmpi .sle main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 100000#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096x20 32 := broadcastInDim S4096x20 ![] bcast_S_S4096x20 main_c_5
  let main_v14 : IVec S4096x20 1 := cmpi .sge main_arg2 main_v13
  let main_c_6 : IVec S_ 32 := constantI S_ 32 1000#32
  let main_v15 : IVec S4096x20 32 := broadcastInDim S4096x20 ![] bcast_S_S4096x20 main_c_6
  fn_part1 (F := F) main_arg2 main_v12 main_v14 main_v15
-- ==== Kernel.lean ====
abbrev S4096 : Shape := ⟨1, ![4096]⟩
abbrev S4096x20 : Shape := ⟨2, ![4096, 20]⟩
abbrev S100000x1000 : Shape := ⟨2, ![100000, 1000]⟩
abbrev S100000x64 : Shape := ⟨2, ![100000, 64]⟩
abbrev S1000x64 : Shape := ⟨2, ![1000, 64]⟩
abbrev S128x192 : Shape := ⟨2, ![128, 192]⟩
abbrev S64x192 : Shape := ⟨2, ![64, 192]⟩
abbrev S192 : Shape := ⟨1, ![192]⟩
abbrev S64x64 : Shape := ⟨2, ![64, 64]⟩
abbrev S20x4096 : Shape := ⟨2, ![20, 4096]⟩
abbrev S81920 : Shape := ⟨1, ![81920]⟩
abbrev S4096x1 : Shape := ⟨2, ![4096, 1]⟩
abbrev S_ : Shape := ⟨0, ![]⟩
abbrev S1000x128 : Shape := ⟨2, ![1000, 128]⟩
abbrev S81920x128 : Shape := ⟨2, ![81920, 128]⟩
abbrev S2560 : Shape := ⟨1, ![2560]⟩
abbrev S512x128 : Shape := ⟨2, ![512, 128]⟩
abbrev S512 : Shape := ⟨1, ![512]⟩
abbrev S50 : Shape := ⟨1, ![50]⟩
abbrev S1x4096 : Shape := ⟨2, ![1, 4096]⟩
abbrev S50x1 : Shape := ⟨2, ![50, 1]⟩
abbrev S50x4096 : Shape := ⟨2, ![50, 4096]⟩
abbrev S1000x100000 : Shape := ⟨2, ![1000, 100000]⟩
abbrev S64x100000 : Shape := ⟨2, ![64, 100000]⟩
abbrev S8x1000 : Shape := ⟨2, ![8, 1000]⟩
abbrev S4096x1000 : Shape := ⟨2, ![4096, 1000]⟩
abbrev S4096x64 : Shape := ⟨2, ![4096, 64]⟩
abbrev S1000x2048 : Shape := ⟨2, ![1000, 2048]⟩
abbrev S64x2048 : Shape := ⟨2, ![64, 2048]⟩
abbrev S2048x1000 : Shape := ⟨2, ![2048, 1000]⟩
abbrev S2048x64 : Shape := ⟨2, ![2048, 64]⟩
abbrev S1 : Shape := ⟨1, ![1]⟩
abbrev S1x1000 : Shape := ⟨2, ![1, 1000]⟩
abbrev S1x64 : Shape := ⟨2, ![1, 64]⟩
abbrev S256x8x1000 : Shape := ⟨3, ![256, 8, 1000]⟩
abbrev S2048x1 : Shape := ⟨2, ![2048, 1]⟩
abbrev S20x4096x128 : Shape := ⟨3, ![20, 4096, 128]⟩
abbrev S64x1000 : Shape := ⟨2, ![64, 1000]⟩
abbrev S1x192 : Shape := ⟨2, ![1, 192]⟩
abbrev S20x4096x64 : Shape := ⟨3, ![20, 4096, 64]⟩
abbrev S256x64 : Shape := ⟨2, ![256, 64]⟩
abbrev S20x256x128 : Shape := ⟨3, ![20, 256, 128]⟩
abbrev S256x1000 : Shape := ⟨2, ![256, 1000]⟩
abbrev S256x1 : Shape := ⟨2, ![256, 1]⟩
abbrev S20x256x64 : Shape := ⟨3, ![20, 256, 64]⟩
abbrev S5120x128 : Shape := ⟨2, ![5120, 128]⟩
abbrev S5120x64 : Shape := ⟨2, ![5120, 64]⟩
abbrev S256x192 : Shape := ⟨2, ![256, 192]⟩
abbrev S1000 : Shape := ⟨1, ![1000]⟩
abbrev S1x1x1000 : Shape := ⟨3, ![1, 1, 1000]⟩
abbrev S1x1x1 : Shape := ⟨3, ![1, 1, 1]⟩
abbrev S256 : Shape := ⟨1, ![256]⟩
abbrev S5120x192 : Shape := ⟨2, ![5120, 192]⟩
abbrev S5120x1 : Shape := ⟨2, ![5120, 1]⟩
abbrev S4096x20x64 : Shape := ⟨3, ![4096, 20, 64]⟩

abbrev nBuf : Table → Nat
  | .hbm => 85
  | .local .tc .vmem => 27
  | .local .tc .smem => 3
  | .local .scVector .vmem => 2
  | _ => 0

abbrev bufTy : (tb : Table) → Fin (nBuf tb) → BufTy
  | .hbm, ⟨0, _⟩ => ⟨S4096, .i32⟩
  | .hbm, ⟨1, _⟩ => ⟨S4096, .i32⟩
  | .hbm, ⟨2, _⟩ => ⟨S4096x20, .i32⟩
  | .hbm, ⟨3, _⟩ => ⟨S100000x1000, .f32⟩
  | .hbm, ⟨4, _⟩ => ⟨S100000x64, .f32⟩
  | .hbm, ⟨5, _⟩ => ⟨S1000x64, .f32⟩
  | .hbm, ⟨6, _⟩ => ⟨S128x192, .f32⟩
  | .hbm, ⟨7, _⟩ => ⟨S64x192, .f32⟩
  | .hbm, ⟨8, _⟩ => ⟨S192, .f32⟩
  | .hbm, ⟨9, _⟩ => ⟨S64x64, .f32⟩
  | .hbm, ⟨10, _⟩ => ⟨S20x4096, .i32⟩
  | .hbm, ⟨11, _⟩ => ⟨S81920, .i32⟩
  | .hbm, ⟨12, _⟩ => ⟨S4096, .f32⟩
  | .hbm, ⟨13, _⟩ => ⟨S4096x1, .f32⟩
  | .hbm, ⟨14, _⟩ => ⟨S_, .i32⟩
  | .hbm, ⟨15, _⟩ => ⟨S_, .f32⟩
  | .hbm, ⟨16, _⟩ => ⟨S1000x128, .f32⟩
  | .hbm, ⟨17, _⟩ => ⟨S81920x128, .f32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S_, .i1⟩
  | .hbm, ⟨57, _⟩ => ⟨S4096, .i1⟩
  | .hbm, ⟨58, _⟩ => ⟨S4096, .i1⟩
  | .hbm, ⟨59, _⟩ => ⟨S4096, .i1⟩
  | .hbm, ⟨60, _⟩ => ⟨S4096, .i32⟩
  | .hbm, ⟨61, _⟩ => ⟨S4096, .i32⟩
  | .hbm, ⟨62, _⟩ => ⟨S50, .i32⟩
  | .hbm, ⟨63, _⟩ => ⟨S_, .i32⟩
  | .hbm, ⟨64, _⟩ => ⟨S50, .i32⟩
  | .hbm, ⟨65, _⟩ => ⟨S50, .i32⟩
  | .hbm, ⟨66, _⟩ => ⟨S1x4096, .i32⟩
  | .hbm, ⟨67, _⟩ => ⟨S50x1, .i32⟩
  | .hbm, ⟨68, _⟩ => ⟨S50x4096, .i32⟩
  | .hbm, ⟨69, _⟩ => ⟨S50x4096, .i32⟩
  | .hbm, ⟨70, _⟩ => ⟨S50x4096, .i1⟩
  | .hbm, ⟨71, _⟩ => ⟨S50x4096, .i32⟩
  | .hbm, ⟨72, _⟩ => ⟨S_, .i32⟩
  | .hbm, ⟨73, _⟩ => ⟨S1000x100000, .f32⟩
  | .hbm, ⟨74, _⟩ => ⟨S64x100000, .f32⟩
  | .hbm, ⟨75, _⟩ => ⟨S8x1000, .f32⟩
  | .hbm, ⟨76, _⟩ => ⟨S4096x1000, .f32⟩
  | .hbm, ⟨77, _⟩ => ⟨S4096x64, .f32⟩
  | .hbm, ⟨78, _⟩ => ⟨S20x4096x128, .f32⟩
  | .hbm, ⟨79, _⟩ => ⟨S64x1000, .f32⟩
  | .hbm, ⟨80, _⟩ => ⟨S1x192, .f32⟩
  | .hbm, ⟨81, _⟩ => ⟨S4096x1000, .f32⟩
  | .hbm, ⟨82, _⟩ => ⟨S4096x64, .f32⟩
  | .hbm, ⟨83, _⟩ => ⟨S20x4096x64, .f32⟩
  | .hbm, ⟨84, _⟩ => ⟨S4096x20x64, .f32⟩
  | .local .tc .vmem, ⟨0, _⟩ => ⟨S1000x2048, .f32⟩
  | .local .tc .vmem, ⟨1, _⟩ => ⟨S1000x2048, .f32⟩
  | .local .tc .vmem, ⟨2, _⟩ => ⟨S64x2048, .f32⟩
  | .local .tc .vmem, ⟨3, _⟩ => ⟨S64x2048, .f32⟩
  | .local .tc .vmem, ⟨4, _⟩ => ⟨S8x1000, .f32⟩
  | .local .tc .vmem, ⟨5, _⟩ => ⟨S2048x1000, .f32⟩
  | .local .tc .vmem, ⟨6, _⟩ => ⟨S2048x64, .f32⟩
  | .local .tc .vmem, ⟨7, _⟩ => ⟨S256x64, .f32⟩
  | .local .tc .vmem, ⟨8, _⟩ => ⟨S256x64, .f32⟩
  | .local .tc .vmem, ⟨9, _⟩ => ⟨S20x256x128, .f32⟩
  | .local .tc .vmem, ⟨10, _⟩ => ⟨S20x256x128, .f32⟩
  | .local .tc .vmem, ⟨11, _⟩ => ⟨S256x1000, .f32⟩
  | .local .tc .vmem, ⟨12, _⟩ => ⟨S256x1000, .f32⟩
  | .local .tc .vmem, ⟨13, _⟩ => ⟨S256x1, .f32⟩
  | .local .tc .vmem, ⟨14, _⟩ => ⟨S256x1, .f32⟩
  | .local .tc .vmem, ⟨15, _⟩ => ⟨S8x1000, .f32⟩
  | .local .tc .vmem, ⟨16, _⟩ => ⟨S64x1000, .f32⟩
  | .local .tc .vmem, ⟨17, _⟩ => ⟨S128x192, .f32⟩
  | .local .tc .vmem, ⟨18, _⟩ => ⟨S64x192, .f32⟩
  | .local .tc .vmem, ⟨19, _⟩ => ⟨S1x192, .f32⟩
  | .local .tc .vmem, ⟨20, _⟩ => ⟨S64x64, .f32⟩
  | .local .tc .vmem, ⟨21, _⟩ => ⟨S256x1000, .f32⟩
  | .local .tc .vmem, ⟨22, _⟩ => ⟨S256x1000, .f32⟩
  | .local .tc .vmem, ⟨23, _⟩ => ⟨S256x64, .f32⟩
  | .local .tc .vmem, ⟨24, _⟩ => ⟨S256x64, .f32⟩
  | .local .tc .vmem, ⟨25, _⟩ => ⟨S20x256x64, .f32⟩
  | .local .tc .vmem, ⟨26, _⟩ => ⟨S20x256x64, .f32⟩
  | .local .tc .smem, ⟨0, _⟩ => ⟨S4096, .i32⟩
  | .local .tc .smem, ⟨1, _⟩ => ⟨S4096, .i32⟩
  | .local .tc .smem, ⟨2, _⟩ => ⟨S50, .i32⟩
  | .local .scVector .vmem, ⟨0, _⟩ => ⟨S2560, .i32⟩
  | .local .scVector .vmem, ⟨1, _⟩ => ⟨S512x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_c_2 : Ref sig .tc := ⟨.hbm, 41, rfl⟩
abbrev main_call3_v0 : Ref sig .tc := ⟨.hbm, 42, rfl⟩
abbrev main_call3_c : Ref sig .tc := ⟨.hbm, 43, rfl⟩
abbrev main_call3_v1 : Ref sig .tc := ⟨.hbm, 44, rfl⟩
abbrev main_call3_c_0 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_c_1 : Ref sig .tc := ⟨.hbm, 49, rfl⟩
abbrev main_call3_v5 : Ref sig .tc := ⟨.hbm, 50, rfl⟩
abbrev main_call3_v6 : Ref sig .tc := ⟨.hbm, 51, rfl⟩
abbrev main_call3_c_2 : Ref sig .tc := ⟨.hbm, 52, rfl⟩
abbrev main_call3_v7 : Ref sig .tc := ⟨.hbm, 53, rfl⟩
abbrev main_call3_v8 : Ref sig .tc := ⟨.hbm, 54, rfl⟩
abbrev main_call3_c_3 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_v12 : Ref sig .tc := ⟨.hbm, 59, rfl⟩
abbrev main_call3_v13 : Ref sig .tc := ⟨.hbm, 60, rfl⟩
abbrev main_call3_v14 : Ref sig .tc := ⟨.hbm, 61, rfl⟩
abbrev main_v13 : Ref sig .tc := ⟨.hbm, 62, rfl⟩
abbrev main_c_3 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_4 : Ref sig .tc := ⟨.hbm, 72, rfl⟩
abbrev main_v23 : Ref sig .tc := ⟨.hbm, 73, rfl⟩
abbrev main_v24 : Ref sig .tc := ⟨.hbm, 74, rfl⟩
abbrev main_v25_0 : Ref sig .tc := ⟨.hbm, 75, rfl⟩
abbrev main_v25_1 : Ref sig .tc := ⟨.hbm, 76, rfl⟩
abbrev main_v25_2 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29_0 : Ref sig .tc := ⟨.hbm, 81, rfl⟩
abbrev main_v29_1 : Ref sig .tc := ⟨.hbm, 82, rfl⟩
abbrev main_v29_2 : Ref sig .tc := ⟨.hbm, 83, rfl⟩
abbrev main_v30 : Ref sig .tc := ⟨.hbm, 84, rfl⟩
abbrev main_v11 : Ref sig .tc := ⟨.smem, 0, rfl⟩
abbrev main_v12 : Ref sig .tc := ⟨.smem, 1, rfl⟩
abbrev main_v22 : Ref sig .tc := ⟨.smem, 2, rfl⟩
abbrev main_v4_scv : Ref sig .scVector := ⟨.hbm, 16, rfl⟩
abbrev main_v1_scv : Ref sig .scVector := ⟨.hbm, 11, rfl⟩
abbrev main_v5_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_scratch0 : Ref sig .tc := ⟨.vmem, 5, rfl⟩
abbrev cc1_scratch1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg9_0 : Ref sig .tc := ⟨.vmem, 20, rfl⟩
abbrev cc2_stg10_0 : Ref sig .tc := ⟨.vmem, 21, rfl⟩
abbrev cc2_stg10_1 : Ref sig .tc := ⟨.vmem, 22, rfl⟩
abbrev cc2_stg11_0 : Ref sig .tc := ⟨.vmem, 23, rfl⟩
abbrev cc2_stg11_1 : Ref sig .tc := ⟨.vmem, 24, rfl⟩
abbrev cc2_stg12_0 : Ref sig .tc := ⟨.vmem, 25, rfl⟩
abbrev cc2_stg12_1 : Ref sig .tc := ⟨.vmem, 26, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem10_1 : DmaSem sig := 29
abbrev cc2_sem11_0 : DmaSem sig := 30
abbrev cc2_sem11_1 : DmaSem sig := 31
abbrev cc2_sem12_0 : DmaSem sig := 32
abbrev cc2_sem12_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  ![v2.toNat]
def k0_off2 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let v7 : BitVec 32 := Scalar.addi v2 c0_i32_5
  let c0_i32_30_r1 : BitVec 32 := 0#32
  ![v7.toNat, 0]
abbrev grid1 : Pipeline.Grid := ⟨1, ![49], ![false]⟩

abbrev pre1 : Pipeline.Prefetch sig := ⟨3, ![main_v11.idx, main_v12.idx, main_v22.idx], fun | 0 => main_v11.names | 1 => main_v12.names | 2 => main_v22.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k1_off1 (i : grid1.Coords) : Fin 1 → Nat :=
  let arg0 : BitVec 32 := BitVec.ofNat 32 (i 0).val
  let c1_i32_26 : BitVec 32 := 1#32
  let v58 : BitVec 32 := Scalar.subi arg0 c1_i32_26
  let v59 : Index := Scalar.indexCast v58
  ![v59.toNat]
def k1_off2 (i : grid1.Coords) : Fin 1 → Nat :=
  let arg0 : BitVec 32 := BitVec.ofNat 32 (i 0).val
  let v61 : Index := Scalar.indexCast arg0
  ![v61.toNat]
@[reducible] def k1_t1_loop (v60 : BitVec 32) (v62 : BitVec 32) : Scf.Loop 32 :=
  let c0_i32_35 : BitVec 32 := 0#32
  let v63 : BitVec 32 := Scalar.subi v62 v60
  let c3_i32_27 : BitVec 32 := 3#32
  let v64 : BitVec 32 := Scalar.addi v63 c3_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c4_i32_28 : BitVec 32 := 4#32
  let c0_i32_31 : BitVec 32 := 0#32
  let v71 : BitVec 1 := Scalar.cmpi .sgt c4_i32_28 c0_i32_31
  let v72 : BitVec 32 := Scalar.extui v71
  let c0_i32_32 : BitVec 32 := 0#32
  let v73 : BitVec 1 := Scalar.cmpi .slt c4_i32_28 c0_i32_32
  let v74 : BitVec 32 := Scalar.extui v73
  let v75 : BitVec 32 := Scalar.subi v72 v74
  let v76 : BitVec 1 := Scalar.cmpi .ne v70 v75
  let v77 : BitVec 32 := Scalar.remsi v64 c4_i32_28
  let c0_i32_33 : BitVec 32 := 0#32
  let v78 : BitVec 1 := Scalar.cmpi .ne v77 c0_i32_33
  let v79 : BitVec 1 := Scalar.andi v76 v78
  let v65 : BitVec 32 := Scalar.divsi v64 c4_i32_28
  let c1_i32_34 : BitVec 32 := 1#32
  let v80 : BitVec 32 := Scalar.subi v65 c1_i32_34
  let v81 : BitVec 32 := Scalar.select v79 v80 v65
  let v82 : BitVec 32 := Scalar.subi v81 c0_i32_35
  let c1_i32_37 : BitVec 32 := 1#32
  let v84 : BitVec 32 := Scalar.divsi v82 c1_i32_37
  let v85 : BitVec 32 := Scalar.muli v84 c1_i32_37
  let v86 : BitVec 32 := Scalar.addi c0_i32_35 v85
  let c1_i32_38 : BitVec 32 := 1#32
  ⟨c0_i32_35, v86, c1_i32_38⟩

@[reducible] def k1_t2_loop (v60 : BitVec 32) (v62 : BitVec 32) : Scf.Loop 32 :=
  let c0_i32_35 : BitVec 32 := 0#32
  let v63 : BitVec 32 := Scalar.subi v62 v60
  let c3_i32_27 : BitVec 32 := 3#32
  let v64 : BitVec 32 := Scalar.addi v63 c3_i32_27
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c4_i32_28 : BitVec 32 := 4#32
  let c0_i32_31 : BitVec 32 := 0#32
  let v71 : BitVec 1 := Scalar.cmpi .sgt c4_i32_28 c0_i32_31
  let v72 : BitVec 32 := Scalar.extui v71
  let c0_i32_32 : BitVec 32 := 0#32
  let v73 : BitVec 1 := Scalar.cmpi .slt c4_i32_28 c0_i32_32
  let v74 : BitVec 32 := Scalar.extui v73
  let v75 : BitVec 32 := Scalar.subi v72 v74
  let v76 : BitVec 1 := Scalar.cmpi .ne v70 v75
  let v77 : BitVec 32 := Scalar.remsi v64 c4_i32_28
  let c0_i32_33 : BitVec 32 := 0#32
  let v78 : BitVec 1 := Scalar.cmpi .ne v77 c0_i32_33
  let v79 : BitVec 1 := Scalar.andi v76 v78
  let v65 : BitVec 32 := Scalar.divsi v64 c4_i32_28
  let c1_i32_34 : BitVec 32 := 1#32
  let v80 : BitVec 32 := Scalar.subi v65 c1_i32_34
  let v81 : BitVec 32 := Scalar.select v79 v80 v65
  let v82 : BitVec 32 := Scalar.subi v81 c0_i32_35
  let c1_i32_37 : BitVec 32 := 1#32
  let v84 : BitVec 32 := Scalar.divsi v82 c1_i32_37
  let v85 : BitVec 32 := Scalar.muli v84 c1_i32_37
  let v86 : BitVec 32 := Scalar.addi c0_i32_35 v85
  let v83 : BitVec 32 := Scalar.addi c0_i32_35 v82
  let c1_i32_39 : BitVec 32 := 1#32
  ⟨v86, v83, c1_i32_39⟩

def k1_chk1 (i : grid1.Coords) (v60 : BitVec 32) (v62 : BitVec 32) : Prop :=
  (∀ (k1_h2 : k1_cond2 i = 1#1), (k1_t1_loop v60 v62).OK) ∧
  (∀ (k1_h2 : k1_cond2 i = 1#1), (k1_t2_loop v60 v62).OK)
theorem k1_t1_ok : ∀ (i : grid1.Coords) (v60 : BitVec 32) (v62 : BitVec 32) (k1_hw1 : k1_chk1 i v60 v62), ∀ (k1_h2 : k1_cond2 i = 1#1), (k1_t1_loop v60 v62).OK := fun i v60 v62 k1_hw1 k1_h2 => k1_hw1.1 k1_h2
theorem k1_t2_ok : ∀ (i : grid1.Coords) (v60 : BitVec 32) (v62 : BitVec 32) (k1_hw1 : k1_chk1 i v60 v62), ∀ (k1_h2 : k1_cond2 i = 1#1), (k1_t2_loop v60 v62).OK := fun i v60 v62 k1_hw1 k1_h2 => k1_hw1.2 k1_h2

def k1_off3 (i : grid1.Coords) : Fin 1 → Nat :=
  let arg0 : BitVec 32 := BitVec.ofNat 32 (i 0).val
  let v24 : Index := Scalar.indexCast arg0
  ![v24.toNat]
def k1_off4 (i : grid1.Coords) : Fin 1 → Nat :=
  let arg0 : BitVec 32 := BitVec.ofNat 32 (i 0).val
  let c1_i32 : BitVec 32 := 1#32
  let v26 : BitVec 32 := Scalar.addi arg0 c1_i32
  let v27 : Index := Scalar.indexCast v26
  ![v27.toNat]
@[reducible] def k1_t3_loop (v25 : BitVec 32) (v28 : BitVec 32) : Scf.Loop 32 :=
  let c0_i32_19 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v48 : BitVec 32 := Scalar.subi v47 c0_i32_19
  let c1_i32_21 : BitVec 32 := 1#32
  let v50 : BitVec 32 := Scalar.divsi v48 c1_i32_21
  let v51 : BitVec 32 := Scalar.muli v50 c1_i32_21
  let v52 : BitVec 32 := Scalar.addi c0_i32_19 v51
  let c1_i32_22 : BitVec 32 := 1#32
  ⟨c0_i32_19, v52, c1_i32_22⟩

def k1_off5 (v25 : BitVec 32) (v28 : BitVec 32) (k1_t3 : Fin (k1_t3_loop v25 v28).trips) : Fin 1 → Nat :=
  let c0_i32_19 : BitVec 32 := 0#32
  let c1_i32_22 : BitVec 32 := 1#32
  let arg13 : BitVec 32 := Scf.iv c0_i32_19 c1_i32_22 k1_t3
  let c4_i32_26 : BitVec 32 := 4#32
  let v58 : BitVec 32 := Scalar.muli arg13 c4_i32_26
  let v59 : BitVec 32 := Scalar.addi v25 v58
  let c0_i32_27 : BitVec 32 := 0#32
  let v60 : BitVec 32 := Scalar.addi v59 c0_i32_27
  let c1_i32_28 : BitVec 32 := 1#32
  let v61 : BitVec 32 := Scalar.subi v28 c1_i32_28
  let v62 : BitVec 32 := Scalar.minsi v60 v61
  let v63 : Index := Scalar.indexCast v62
  ![v63.toNat]
def k1_off6 (v68 : BitVec 32) : Fin 2 → Nat :=
  let c0_i32_29 : BitVec 32 := 0#32
  ![v68.toNat, 0]

def k1_off7 (i : grid1.Coords) (v64 : BitVec 32) : Fin 2 → Nat :=
  let arg0 : BitVec 32 := BitVec.ofNat 32 (i 0).val
  let c2048_i32 : BitVec 32 := 2048#32
  let v65 : BitVec 32 := Scalar.muli arg0 c2048_i32
  let v66 : BitVec 32 := Scalar.subi v64 v65
  let c0_i32_30 : BitVec 32 := 0#32
  ![v66.toNat, 0]

def k1_off8 (v68 : BitVec 32) : Fin 2 → Nat :=
  let c0_i32_31 : BitVec 32 := 0#32
  ![v68.toNat, 0]

def k1_chk3 (v68 : BitVec 32) : Prop :=
  (∀ a, (k1_off6 v68) a + S1x1000.size a ≤ S4096x1000.size a) ∧
  (∀ a, (k1_off8 v68) a + S1x64.size a ≤ S4096x64.size a)
theorem k1_off6_inb : ∀ (v68 : BitVec 32) (k1_hw3 : k1_chk3 v68), ∀ a, (k1_off6 v68) a + S1x1000.size a ≤ S4096x1000.size a := fun v68 k1_hw3 => k1_hw3.1
theorem k1_off8_inb : ∀ (v68 : BitVec 32) (k1_hw3 : k1_chk3 v68), ∀ a, (k1_off8 v68) a + S1x64.size a ≤ S4096x64.size a := fun v68 k1_hw3 => k1_hw3.2

def k1_off9 (i : grid1.Coords) (v64 : BitVec 32) : Fin 2 → Nat :=
  let arg0 : BitVec 32 := BitVec.ofNat 32 (i 0).val
  let c2048_i32 : BitVec 32 := 2048#32
  let v65 : BitVec 32 := Scalar.muli arg0 c2048_i32
  let v66 : BitVec 32 := Scalar.subi v64 v65
  let c0_i32_32 : BitVec 32 := 0#32
  ![v66.toNat, 0]

def k1_chk4 (i : grid1.Coords) (v64 : BitVec 32) : Prop :=
  (∀ a, (k1_off7 i v64) a + S1x1000.size a ≤ S2048x1000.size a) ∧
  (∀ a, (k1_off9 i v64) a + S1x64.size a ≤ S2048x64.size a)
theorem k1_off7_inb : ∀ (i : grid1.Coords) (v64 : BitVec 32) (k1_hw4 : k1_chk4 i v64), ∀ a, (k1_off7 i v64) a + S1x1000.size a ≤ S2048x1000.size a := fun i v64 k1_hw4 => k1_hw4.1
theorem k1_off9_inb : ∀ (i : grid1.Coords) (v64 : BitVec 32) (k1_hw4 : k1_chk4 i v64), ∀ a, (k1_off9 i v64) a + S1x64.size a ≤ S2048x64.size a := fun i v64 k1_hw4 => k1_hw4.2

def k1_off10 (v25 : BitVec 32) (v28 : BitVec 32) (k1_t3 : Fin (k1_t3_loop v25 v28).trips) : Fin 1 → Nat :=
  let c0_i32_19 : BitVec 32 := 0#32
  let c1_i32_22 : BitVec 32 := 1#32
  let arg13 : BitVec 32 := Scf.iv c0_i32_19 c1_i32_22 k1_t3
  let c4_i32_26 : BitVec 32 := 4#32
  let v58 : BitVec 32 := Scalar.muli arg13 c4_i32_26
  let v59 : BitVec 32 := Scalar.addi v25 v58
  let c1_i32_33 : BitVec 32 := 1#32
  let v73 : BitVec 32 := Scalar.addi v59 c1_i32_33
  let c1_i32_34 : BitVec 32 := 1#32
  let v74 : BitVec 32 := Scalar.subi v28 c1_i32_34
  let v75 : BitVec 32 := Scalar.minsi v73 v74
  let v76 : Index := Scalar.indexCast v75
  ![v76.toNat]
def k1_off11 (v81 : BitVec 32) : Fin 2 → Nat :=
  let c0_i32_36 : BitVec 32 := 0#32
  ![v81.toNat, 0]

def k1_off12 (i : grid1.Coords) (v77 : BitVec 32) : Fin 2 → Nat :=
  let arg0 : BitVec 32 := BitVec.ofNat 32 (i 0).val
  let c2048_i32_35 : BitVec 32 := 2048#32
  let v78 : BitVec 32 := Scalar.muli arg0 c2048_i32_35
  let v79 : BitVec 32 := Scalar.subi v77 v78
  let c0_i32_37 : BitVec 32 := 0#32
  ![v79.toNat, 0]

def k1_off13 (v81 : BitVec 32) : Fin 2 → Nat :=
  let c0_i32_38 : BitVec 32 := 0#32
  ![v81.toNat, 0]

def k1_chk5 (v81 : BitVec 32) : Prop :=
  (∀ a, (k1_off11 v81) a + S1x1000.size a ≤ S4096x1000.size a) ∧
  (∀ a, (k1_off13 v81) a + S1x64.size a ≤ S4096x64.size a)
theorem k1_off11_inb : ∀ (v81 : BitVec 32) (k1_hw5 : k1_chk5 v81), ∀ a, (k1_off11 v81) a + S1x1000.size a ≤ S4096x1000.size a := fun v81 k1_hw5 => k1_hw5.1
theorem k1_off13_inb : ∀ (v81 : BitVec 32) (k1_hw5 : k1_chk5 v81), ∀ a, (k1_off13 v81) a + S1x64.size a ≤ S4096x64.size a := fun v81 k1_hw5 => k1_hw5.2

def k1_off14 (i : grid1.Coords) (v77 : BitVec 32) : Fin 2 → Nat :=
  let arg0 : BitVec 32 := BitVec.ofNat 32 (i 0).val
  let c2048_i32_35 : BitVec 32 := 2048#32
  let v78 : BitVec 32 := Scalar.muli arg0 c2048_i32_35
  let v79 : BitVec 32 := Scalar.subi v77 v78
  let c0_i32_39 : BitVec 32 := 0#32
  ![v79.toNat, 0]

def k1_chk6 (i : grid1.Coords) (v77 : BitVec 32) : Prop :=
  (∀ a, (k1_off12 i v77) a + S1x1000.size a ≤ S2048x1000.size a) ∧
  (∀ a, (k1_off14 i v77) a + S1x64.size a ≤ S2048x64.size a)
theorem k1_off12_inb : ∀ (i : grid1.Coords) (v77 : BitVec 32) (k1_hw6 : k1_chk6 i v77), ∀ a, (k1_off12 i v77) a + S1x1000.size a ≤ S2048x1000.size a := fun i v77 k1_hw6 => k1_hw6.1
theorem k1_off14_inb : ∀ (i : grid1.Coords) (v77 : BitVec 32) (k1_hw6 : k1_chk6 i v77), ∀ a, (k1_off14 i v77) a + S1x64.size a ≤ S2048x64.size a := fun i v77 k1_hw6 => k1_hw6.2

def k1_off15 (v25 : BitVec 32) (v28 : BitVec 32) (k1_t3 : Fin (k1_t3_loop v25 v28).trips) : Fin 1 → Nat :=
  let c0_i32_19 : BitVec 32 := 0#32
  let c1_i32_22 : BitVec 32 := 1#32
  let arg13 : BitVec 32 := Scf.iv c0_i32_19 c1_i32_22 k1_t3
  let c4_i32_26 : BitVec 32 := 4#32
  let v58 : BitVec 32 := Scalar.muli arg13 c4_i32_26
  let v59 : BitVec 32 := Scalar.addi v25 v58
  let c2_i32 : BitVec 32 := 2#32
  let v86 : BitVec 32 := Scalar.addi v59 c2_i32
  let c1_i32_40 : BitVec 32 := 1#32
  let v87 : BitVec 32 := Scalar.subi v28 c1_i32_40
  let v88 : BitVec 32 := Scalar.minsi v86 v87
  let v89 : Index := Scalar.indexCast v88
  ![v89.toNat]
def k1_off16 (v94 : BitVec 32) : Fin 2 → Nat :=
  let c0_i32_42 : BitVec 32 := 0#32
  ![v94.toNat, 0]

def k1_off17 (i : grid1.Coords) (v90 : BitVec 32) : Fin 2 → Nat :=
  let arg0 : BitVec 32 := BitVec.ofNat 32 (i 0).val
  let c2048_i32_41 : BitVec 32 := 2048#32
  let v91 : BitVec 32 := Scalar.muli arg0 c2048_i32_41
  let v92 : BitVec 32 := Scalar.subi v90 v91
  let c0_i32_43 : BitVec 32 := 0#32
  ![v92.toNat, 0]

def k1_off18 (v94 : BitVec 32) : Fin 2 → Nat :=
  let c0_i32_44 : BitVec 32 := 0#32
  ![v94.toNat, 0]

def k1_chk7 (v94 : BitVec 32) : Prop :=
  (∀ a, (k1_off16 v94) a + S1x1000.size a ≤ S4096x1000.size a) ∧
  (∀ a, (k1_off18 v94) a + S1x64.size a ≤ S4096x64.size a)
theorem k1_off16_inb : ∀ (v94 : BitVec 32) (k1_hw7 : k1_chk7 v94), ∀ a, (k1_off16 v94) a + S1x1000.size a ≤ S4096x1000.size a := fun v94 k1_hw7 => k1_hw7.1
theorem k1_off18_inb : ∀ (v94 : BitVec 32) (k1_hw7 : k1_chk7 v94), ∀ a, (k1_off18 v94) a + S1x64.size a ≤ S4096x64.size a := fun v94 k1_hw7 => k1_hw7.2

def k1_off19 (i : grid1.Coords) (v90 : BitVec 32) : Fin 2 → Nat :=
  let arg0 : BitVec 32 := BitVec.ofNat 32 (i 0).val
  let c2048_i32_41 : BitVec 32 := 2048#32
  let v91 : BitVec 32 := Scalar.muli arg0 c2048_i32_41
  let v92 : BitVec 32 := Scalar.subi v90 v91
  let c0_i32_45 : BitVec 32 := 0#32
  ![v92.toNat, 0]

def k1_chk8 (i : grid1.Coords) (v90 : BitVec 32) : Prop :=
  (∀ a, (k1_off17 i v90) a + S1x1000.size a ≤ S2048x1000.size a) ∧
  (∀ a, (k1_off19 i v90) a + S1x64.size a ≤ S2048x64.size a)
theorem k1_off17_inb : ∀ (i : grid1.Coords) (v90 : BitVec 32) (k1_hw8 : k1_chk8 i v90), ∀ a, (k1_off17 i v90) a + S1x1000.size a ≤ S2048x1000.size a := fun i v90 k1_hw8 => k1_hw8.1
theorem k1_off19_inb : ∀ (i : grid1.Coords) (v90 : BitVec 32) (k1_hw8 : k1_chk8 i v90), ∀ a, (k1_off19 i v90) a + S1x64.size a ≤ S2048x64.size a := fun i v90 k1_hw8 => k1_hw8.2

def k1_off20 (v25 : BitVec 32) (v28 : BitVec 32) (k1_t3 : Fin (k1_t3_loop v25 v28).trips) : Fin 1 → Nat :=
  let c0_i32_19 : BitVec 32 := 0#32
  let c1_i32_22 : BitVec 32 := 1#32
  let arg13 : BitVec 32 := Scf.iv c0_i32_19 c1_i32_22 k1_t3
  let c4_i32_26 : BitVec 32 := 4#32
  let v58 : BitVec 32 := Scalar.muli arg13 c4_i32_26
  let v59 : BitVec 32 := Scalar.addi v25 v58
  let c3_i32_46 : BitVec 32 := 3#32
  let v99 : BitVec 32 := Scalar.addi v59 c3_i32_46
  let c1_i32_47 : BitVec 32 := 1#32
  let v100 : BitVec 32 := Scalar.subi v28 c1_i32_47
  let v101 : BitVec 32 := Scalar.minsi v99 v100
  let v102 : Index := Scalar.indexCast v101
  ![v102.toNat]
def k1_off21 (v107 : BitVec 32) : Fin 2 → Nat :=
  let c0_i32_49 : BitVec 32 := 0#32
  ![v107.toNat, 0]

def k1_off22 (i : grid1.Coords) (v103 : BitVec 32) : Fin 2 → Nat :=
  let arg0 : BitVec 32 := BitVec.ofNat 32 (i 0).val
  let c2048_i32_48 : BitVec 32 := 2048#32
  let v104 : BitVec 32 := Scalar.muli arg0 c2048_i32_48
  let v105 : BitVec 32 := Scalar.subi v103 v104
  let c0_i32_50 : BitVec 32 := 0#32
  ![v105.toNat, 0]

def k1_off23 (v107 : BitVec 32) : Fin 2 → Nat :=
  let c0_i32_51 : BitVec 32 := 0#32
  ![v107.toNat, 0]

def k1_chk9 (v107 : BitVec 32) : Prop :=
  (∀ a, (k1_off21 v107) a + S1x1000.size a ≤ S4096x1000.size a) ∧
  (∀ a, (k1_off23 v107) a + S1x64.size a ≤ S4096x64.size a)
theorem k1_off21_inb : ∀ (v107 : BitVec 32) (k1_hw9 : k1_chk9 v107), ∀ a, (k1_off21 v107) a + S1x1000.size a ≤ S4096x1000.size a := fun v107 k1_hw9 => k1_hw9.1
theorem k1_off23_inb : ∀ (v107 : BitVec 32) (k1_hw9 : k1_chk9 v107), ∀ a, (k1_off23 v107) a + S1x64.size a ≤ S4096x64.size a := fun v107 k1_hw9 => k1_hw9.2

def k1_off24 (i : grid1.Coords) (v103 : BitVec 32) : Fin 2 → Nat :=
  let arg0 : BitVec 32 := BitVec.ofNat 32 (i 0).val
  let c2048_i32_48 : BitVec 32 := 2048#32
  let v104 : BitVec 32 := Scalar.muli arg0 c2048_i32_48
  let v105 : BitVec 32 := Scalar.subi v103 v104
  let c0_i32_52 : BitVec 32 := 0#32
  ![v105.toNat, 0]

def k1_chk10 (i : grid1.Coords) (v103 : BitVec 32) : Prop :=
  (∀ a, (k1_off22 i v103) a + S1x1000.size a ≤ S2048x1000.size a) ∧
  (∀ a, (k1_off24 i v103) a + S1x64.size a ≤ S2048x64.size a)
theorem k1_off22_inb : ∀ (i : grid1.Coords) (v103 : BitVec 32) (k1_hw10 : k1_chk10 i v103), ∀ a, (k1_off22 i v103) a + S1x1000.size a ≤ S2048x1000.size a := fun i v103 k1_hw10 => k1_hw10.1
theorem k1_off24_inb : ∀ (i : grid1.Coords) (v103 : BitVec 32) (k1_hw10 : k1_chk10 i v103), ∀ a, (k1_off24 i v103) a + S1x64.size a ≤ S2048x64.size a := fun i v103 k1_hw10 => k1_hw10.2

@[reducible] def k1_t4_loop (v25 : BitVec 32) (v28 : BitVec 32) : Scf.Loop 32 :=
  let c0_i32_19 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v48 : BitVec 32 := Scalar.subi v47 c0_i32_19
  let c1_i32_21 : BitVec 32 := 1#32
  let v50 : BitVec 32 := Scalar.divsi v48 c1_i32_21
  let v51 : BitVec 32 := Scalar.muli v50 c1_i32_21
  let v52 : BitVec 32 := Scalar.addi c0_i32_19 v51
  let v49 : BitVec 32 := Scalar.addi c0_i32_19 v48
  let c1_i32_23 : BitVec 32 := 1#32
  ⟨v52, v49, c1_i32_23⟩
def k1_off25 (v25 : BitVec 32) (v28 : BitVec 32) (k1_t4 : Fin (k1_t4_loop v25 v28).trips) : Fin 1 → Nat :=
  let c0_i32_19 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v48 : BitVec 32 := Scalar.subi v47 c0_i32_19
  let c1_i32_21 : BitVec 32 := 1#32
  let v50 : BitVec 32 := Scalar.divsi v48 c1_i32_21
  let v51 : BitVec 32 := Scalar.muli v50 c1_i32_21
  let v52 : BitVec 32 := Scalar.addi c0_i32_19 v51
  let c1_i32_23 : BitVec 32 := 1#32
  let arg13 : BitVec 32 := Scf.iv v52 c1_i32_23 k1_t4
  let c4_i32_26 : BitVec 32 := 4#32
  let v58 : BitVec 32 := Scalar.muli arg13 c4_i32_26
  let v59 : BitVec 32 := Scalar.addi v25 v58
  let c0_i32_27 : BitVec 32 := 0#32
  let v60 : BitVec 32 := Scalar.addi v59 c0_i32_27
  let c1_i32_28 : BitVec 32 := 1#32
  let v61 : BitVec 32 := Scalar.subi v28 c1_i32_28
  let v62 : BitVec 32 := Scalar.minsi v60 v61
  let v63 : Index := Scalar.indexCast v62
  ![v63.toNat]
def k1_off26 (v68 : BitVec 32) : Fin 2 → Nat :=
  let c0_i32_29 : BitVec 32 := 0#32
  ![v68.toNat, 0]

def k1_off27 (i : grid1.Coords) (v64 : BitVec 32) : Fin 2 → Nat :=
  let arg0 : BitVec 32 := BitVec.ofNat 32 (i 0).val
  let c2048_i32 : BitVec 32 := 2048#32
  let v65 : BitVec 32 := Scalar.muli arg0 c2048_i32
  let v66 : BitVec 32 := Scalar.subi v64 v65
  let c0_i32_30 : BitVec 32 := 0#32
  ![v66.toNat, 0]

def k1_off28 (v68 : BitVec 32) : Fin 2 → Nat :=
  let c0_i32_31 : BitVec 32 := 0#32
  ![v68.toNat, 0]

def k1_chk11 (v68 : BitVec 32) : Prop :=
  (∀ a, (k1_off26 v68) a + S1x1000.size a ≤ S4096x1000.size a) ∧
  (∀ a, (k1_off28 v68) a + S1x64.size a ≤ S4096x64.size a)
theorem k1_off26_inb : ∀ (v68 : BitVec 32) (k1_hw11 : k1_chk11 v68), ∀ a, (k1_off26 v68) a + S1x1000.size a ≤ S4096x1000.size a := fun v68 k1_hw11 => k1_hw11.1
theorem k1_off28_inb : ∀ (v68 : BitVec 32) (k1_hw11 : k1_chk11 v68), ∀ a, (k1_off28 v68) a + S1x64.size a ≤ S4096x64.size a := fun v68 k1_hw11 => k1_hw11.2

def k1_off29 (i : grid1.Coords) (v64 : BitVec 32) : Fin 2 → Nat :=
  let arg0 : BitVec 32 := BitVec.ofNat 32 (i 0).val
  let c2048_i32 : BitVec 32 := 2048#32
  let v65 : BitVec 32 := Scalar.muli arg0 c2048_i32
  let v66 : BitVec 32 := Scalar.subi v64 v65
  let c0_i32_32 : BitVec 32 := 0#32
  ![v66.toNat, 0]

def k1_chk12 (i : grid1.Coords) (v64 : BitVec 32) : Prop :=
  (∀ a, (k1_off27 i v64) a + S1x1000.size a ≤ S2048x1000.size a) ∧
  (∀ a, (k1_off29 i v64) a + S1x64.size a ≤ S2048x64.size a)
theorem k1_off27_inb : ∀ (i : grid1.Coords) (v64 : BitVec 32) (k1_hw12 : k1_chk12 i v64), ∀ a, (k1_off27 i v64) a + S1x1000.size a ≤ S2048x1000.size a := fun i v64 k1_hw12 => k1_hw12.1
theorem k1_off29_inb : ∀ (i : grid1.Coords) (v64 : BitVec 32) (k1_hw12 : k1_chk12 i v64), ∀ a, (k1_off29 i v64) a + S1x64.size a ≤ S2048x64.size a := fun i v64 k1_hw12 => k1_hw12.2

def k1_off30 (v25 : BitVec 32) (v28 : BitVec 32) (k1_t4 : Fin (k1_t4_loop v25 v28).trips) : Fin 1 → Nat :=
  let c0_i32_19 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v48 : BitVec 32 := Scalar.subi v47 c0_i32_19
  let c1_i32_21 : BitVec 32 := 1#32
  let v50 : BitVec 32 := Scalar.divsi v48 c1_i32_21
  let v51 : BitVec 32 := Scalar.muli v50 c1_i32_21
  let v52 : BitVec 32 := Scalar.addi c0_i32_19 v51
  let c1_i32_23 : BitVec 32 := 1#32
  let arg13 : BitVec 32 := Scf.iv v52 c1_i32_23 k1_t4
  let c4_i32_26 : BitVec 32 := 4#32
  let v58 : BitVec 32 := Scalar.muli arg13 c4_i32_26
  let v59 : BitVec 32 := Scalar.addi v25 v58
  let c1_i32_33 : BitVec 32 := 1#32
  let v73 : BitVec 32 := Scalar.addi v59 c1_i32_33
  let c1_i32_34 : BitVec 32 := 1#32
  let v74 : BitVec 32 := Scalar.subi v28 c1_i32_34
  let v75 : BitVec 32 := Scalar.minsi v73 v74
  let v76 : Index := Scalar.indexCast v75
  ![v76.toNat]
def k1_off31 (v81 : BitVec 32) : Fin 2 → Nat :=
  let c0_i32_36 : BitVec 32 := 0#32
  ![v81.toNat, 0]

def k1_off32 (i : grid1.Coords) (v77 : BitVec 32) : Fin 2 → Nat :=
  let arg0 : BitVec 32 := BitVec.ofNat 32 (i 0).val
  let c2048_i32_35 : BitVec 32 := 2048#32
  let v78 : BitVec 32 := Scalar.muli arg0 c2048_i32_35
  let v79 : BitVec 32 := Scalar.subi v77 v78
  let c0_i32_37 : BitVec 32 := 0#32
  ![v79.toNat, 0]

def k1_off33 (v81 : BitVec 32) : Fin 2 → Nat :=
  let c0_i32_38 : BitVec 32 := 0#32
  ![v81.toNat, 0]

def k1_chk13 (v81 : BitVec 32) : Prop :=
  (∀ a, (k1_off31 v81) a + S1x1000.size a ≤ S4096x1000.size a) ∧
  (∀ a, (k1_off33 v81) a + S1x64.size a ≤ S4096x64.size a)
theorem k1_off31_inb : ∀ (v81 : BitVec 32) (k1_hw13 : k1_chk13 v81), ∀ a, (k1_off31 v81) a + S1x1000.size a ≤ S4096x1000.size a := fun v81 k1_hw13 => k1_hw13.1
theorem k1_off33_inb : ∀ (v81 : BitVec 32) (k1_hw13 : k1_chk13 v81), ∀ a, (k1_off33 v81) a + S1x64.size a ≤ S4096x64.size a := fun v81 k1_hw13 => k1_hw13.2

def k1_off34 (i : grid1.Coords) (v77 : BitVec 32) : Fin 2 → Nat :=
  let arg0 : BitVec 32 := BitVec.ofNat 32 (i 0).val
  let c2048_i32_35 : BitVec 32 := 2048#32
  let v78 : BitVec 32 := Scalar.muli arg0 c2048_i32_35
  let v79 : BitVec 32 := Scalar.subi v77 v78
  let c0_i32_39 : BitVec 32 := 0#32
  ![v79.toNat, 0]

def k1_chk14 (i : grid1.Coords) (v77 : BitVec 32) : Prop :=
  (∀ a, (k1_off32 i v77) a + S1x1000.size a ≤ S2048x1000.size a) ∧
  (∀ a, (k1_off34 i v77) a + S1x64.size a ≤ S2048x64.size a)
theorem k1_off32_inb : ∀ (i : grid1.Coords) (v77 : BitVec 32) (k1_hw14 : k1_chk14 i v77), ∀ a, (k1_off32 i v77) a + S1x1000.size a ≤ S2048x1000.size a := fun i v77 k1_hw14 => k1_hw14.1
theorem k1_off34_inb : ∀ (i : grid1.Coords) (v77 : BitVec 32) (k1_hw14 : k1_chk14 i v77), ∀ a, (k1_off34 i v77) a + S1x64.size a ≤ S2048x64.size a := fun i v77 k1_hw14 => k1_hw14.2

def k1_off35 (v25 : BitVec 32) (v28 : BitVec 32) (k1_t4 : Fin (k1_t4_loop v25 v28).trips) : Fin 1 → Nat :=
  let c0_i32_19 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v48 : BitVec 32 := Scalar.subi v47 c0_i32_19
  let c1_i32_21 : BitVec 32 := 1#32
  let v50 : BitVec 32 := Scalar.divsi v48 c1_i32_21
  let v51 : BitVec 32 := Scalar.muli v50 c1_i32_21
  let v52 : BitVec 32 := Scalar.addi c0_i32_19 v51
  let c1_i32_23 : BitVec 32 := 1#32
  let arg13 : BitVec 32 := Scf.iv v52 c1_i32_23 k1_t4
  let c4_i32_26 : BitVec 32 := 4#32
  let v58 : BitVec 32 := Scalar.muli arg13 c4_i32_26
  let v59 : BitVec 32 := Scalar.addi v25 v58
  let c2_i32 : BitVec 32 := 2#32
  let v86 : BitVec 32 := Scalar.addi v59 c2_i32
  let c1_i32_40 : BitVec 32 := 1#32
  let v87 : BitVec 32 := Scalar.subi v28 c1_i32_40
  let v88 : BitVec 32 := Scalar.minsi v86 v87
  let v89 : Index := Scalar.indexCast v88
  ![v89.toNat]
def k1_off36 (v94 : BitVec 32) : Fin 2 → Nat :=
  let c0_i32_42 : BitVec 32 := 0#32
  ![v94.toNat, 0]

def k1_off37 (i : grid1.Coords) (v90 : BitVec 32) : Fin 2 → Nat :=
  let arg0 : BitVec 32 := BitVec.ofNat 32 (i 0).val
  let c2048_i32_41 : BitVec 32 := 2048#32
  let v91 : BitVec 32 := Scalar.muli arg0 c2048_i32_41
  let v92 : BitVec 32 := Scalar.subi v90 v91
  let c0_i32_43 : BitVec 32 := 0#32
  ![v92.toNat, 0]

def k1_off38 (v94 : BitVec 32) : Fin 2 → Nat :=
  let c0_i32_44 : BitVec 32 := 0#32
  ![v94.toNat, 0]

def k1_chk15 (v94 : BitVec 32) : Prop :=
  (∀ a, (k1_off36 v94) a + S1x1000.size a ≤ S4096x1000.size a) ∧
  (∀ a, (k1_off38 v94) a + S1x64.size a ≤ S4096x64.size a)
theorem k1_off36_inb : ∀ (v94 : BitVec 32) (k1_hw15 : k1_chk15 v94), ∀ a, (k1_off36 v94) a + S1x1000.size a ≤ S4096x1000.size a := fun v94 k1_hw15 => k1_hw15.1
theorem k1_off38_inb : ∀ (v94 : BitVec 32) (k1_hw15 : k1_chk15 v94), ∀ a, (k1_off38 v94) a + S1x64.size a ≤ S4096x64.size a := fun v94 k1_hw15 => k1_hw15.2

def k1_off39 (i : grid1.Coords) (v90 : BitVec 32) : Fin 2 → Nat :=
  let arg0 : BitVec 32 := BitVec.ofNat 32 (i 0).val
  let c2048_i32_41 : BitVec 32 := 2048#32
  let v91 : BitVec 32 := Scalar.muli arg0 c2048_i32_41
  let v92 : BitVec 32 := Scalar.subi v90 v91
  let c0_i32_45 : BitVec 32 := 0#32
  ![v92.toNat, 0]

def k1_chk16 (i : grid1.Coords) (v90 : BitVec 32) : Prop :=
  (∀ a, (k1_off37 i v90) a + S1x1000.size a ≤ S2048x1000.size a) ∧
  (∀ a, (k1_off39 i v90) a + S1x64.size a ≤ S2048x64.size a)
theorem k1_off37_inb : ∀ (i : grid1.Coords) (v90 : BitVec 32) (k1_hw16 : k1_chk16 i v90), ∀ a, (k1_off37 i v90) a + S1x1000.size a ≤ S2048x1000.size a := fun i v90 k1_hw16 => k1_hw16.1
theorem k1_off39_inb : ∀ (i : grid1.Coords) (v90 : BitVec 32) (k1_hw16 : k1_chk16 i v90), ∀ a, (k1_off39 i v90) a + S1x64.size a ≤ S2048x64.size a := fun i v90 k1_hw16 => k1_hw16.2

def k1_off40 (v25 : BitVec 32) (v28 : BitVec 32) (k1_t4 : Fin (k1_t4_loop v25 v28).trips) : Fin 1 → Nat :=
  let c0_i32_19 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v48 : BitVec 32 := Scalar.subi v47 c0_i32_19
  let c1_i32_21 : BitVec 32 := 1#32
  let v50 : BitVec 32 := Scalar.divsi v48 c1_i32_21
  let v51 : BitVec 32 := Scalar.muli v50 c1_i32_21
  let v52 : BitVec 32 := Scalar.addi c0_i32_19 v51
  let c1_i32_23 : BitVec 32 := 1#32
  let arg13 : BitVec 32 := Scf.iv v52 c1_i32_23 k1_t4
  let c4_i32_26 : BitVec 32 := 4#32
  let v58 : BitVec 32 := Scalar.muli arg13 c4_i32_26
  let v59 : BitVec 32 := Scalar.addi v25 v58
  let c3_i32_46 : BitVec 32 := 3#32
  let v99 : BitVec 32 := Scalar.addi v59 c3_i32_46
  let c1_i32_47 : BitVec 32 := 1#32
  let v100 : BitVec 32 := Scalar.subi v28 c1_i32_47
  let v101 : BitVec 32 := Scalar.minsi v99 v100
  let v102 : Index := Scalar.indexCast v101
  ![v102.toNat]
def k1_off41 (v107 : BitVec 32) : Fin 2 → Nat :=
  let c0_i32_49 : BitVec 32 := 0#32
  ![v107.toNat, 0]

def k1_off42 (i : grid1.Coords) (v103 : BitVec 32) : Fin 2 → Nat :=
  let arg0 : BitVec 32 := BitVec.ofNat 32 (i 0).val
  let c2048_i32_48 : BitVec 32 := 2048#32
  let v104 : BitVec 32 := Scalar.muli arg0 c2048_i32_48
  let v105 : BitVec 32 := Scalar.subi v103 v104
  let c0_i32_50 : BitVec 32 := 0#32
  ![v105.toNat, 0]

def k1_off43 (v107 : BitVec 32) : Fin 2 → Nat :=
  let c0_i32_51 : BitVec 32 := 0#32
  ![v107.toNat, 0]

def k1_chk17 (v107 : BitVec 32) : Prop :=
  (∀ a, (k1_off41 v107) a + S1x1000.size a ≤ S4096x1000.size a) ∧
  (∀ a, (k1_off43 v107) a + S1x64.size a ≤ S4096x64.size a)
theorem k1_off41_inb : ∀ (v107 : BitVec 32) (k1_hw17 : k1_chk17 v107), ∀ a, (k1_off41 v107) a + S1x1000.size a ≤ S4096x1000.size a := fun v107 k1_hw17 => k1_hw17.1
theorem k1_off43_inb : ∀ (v107 : BitVec 32) (k1_hw17 : k1_chk17 v107), ∀ a, (k1_off43 v107) a + S1x64.size a ≤ S4096x64.size a := fun v107 k1_hw17 => k1_hw17.2

def k1_off44 (i : grid1.Coords) (v103 : BitVec 32) : Fin 2 → Nat :=
  let arg0 : BitVec 32 := BitVec.ofNat 32 (i 0).val
  let c2048_i32_48 : BitVec 32 := 2048#32
  let v104 : BitVec 32 := Scalar.muli arg0 c2048_i32_48
  let v105 : BitVec 32 := Scalar.subi v103 v104
  let c0_i32_52 : BitVec 32 := 0#32
  ![v105.toNat, 0]

def k1_chk18 (i : grid1.Coords) (v103 : BitVec 32) : Prop :=
  (∀ a, (k1_off42 i v103) a + S1x1000.size a ≤ S2048x1000.size a) ∧
  (∀ a, (k1_off44 i v103) a + S1x64.size a ≤ S2048x64.size a)
theorem k1_off42_inb : ∀ (i : grid1.Coords) (v103 : BitVec 32) (k1_hw18 : k1_chk18 i v103), ∀ a, (k1_off42 i v103) a + S1x1000.size a ≤ S2048x1000.size a := fun i v103 k1_hw18 => k1_hw18.1
theorem k1_off44_inb : ∀ (i : grid1.Coords) (v103 : BitVec 32) (k1_hw18 : k1_chk18 i v103), ∀ a, (k1_off44 i v103) a + S1x64.size a ≤ S2048x64.size a := fun i v103 k1_hw18 => k1_hw18.2

def k1_cond5 (i : grid1.Coords) : BitVec 1 :=
  let arg0 : BitVec 32 := BitVec.ofNat 32 (i 0).val
  let c48_i32_24 : BitVec 32 := 48#32
  let v55 : BitVec 1 := Scalar.cmpi .eq arg0 c48_i32_24
  let v56 : BitVec 32 := Scalar.extui v55
  let c0_i32_25 : BitVec 32 := 0#32
  let v57 : BitVec 1 := Scalar.cmpi .ne v56 c0_i32_25
  v57

@[reducible] def k1_t5_loop (v25 : BitVec 32) (v28 : BitVec 32) : Scf.Loop 32 :=
  let c0_i32_26 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v58 : BitVec 32 := Scalar.subi v47 c0_i32_26
  let c1_i32_28 : BitVec 32 := 1#32
  let v60 : BitVec 32 := Scalar.divsi v58 c1_i32_28
  let v61 : BitVec 32 := Scalar.muli v60 c1_i32_28
  let v62 : BitVec 32 := Scalar.addi c0_i32_26 v61
  let c1_i32_29 : BitVec 32 := 1#32
  ⟨c0_i32_26, v62, c1_i32_29⟩
@[reducible] def k1_t6_loop (v25 : BitVec 32) (v28 : BitVec 32) : Scf.Loop 32 :=
  let c0_i32_26 : BitVec 32 := 0#32
  let v29 : BitVec 32 := Scalar.subi v28 v25
  let c3_i32 : BitVec 32 := 3#32
  let v30 : BitVec 32 := Scalar.addi v29 c3_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v30 c4_i32
  let c0_i32_17 : BitVec 32 := 0#32
  let v44 : BitVec 1 := Scalar.cmpi .ne v43 c0_i32_17
  let v45 : BitVec 1 := Scalar.andi v42 v44
  let v31 : BitVec 32 := Scalar.divsi v30 c4_i32
  let c1_i32_18 : BitVec 32 := 1#32
  let v46 : BitVec 32 := Scalar.subi v31 c1_i32_18
  let v47 : BitVec 32 := Scalar.select v45 v46 v31
  let v58 : BitVec 32 := Scalar.subi v47 c0_i32_26
  let c1_i32_28 : BitVec 32 := 1#32
  let v60 : BitVec 32 := Scalar.divsi v58 c1_i32_28
  let v61 : BitVec 32 := Scalar.muli v60 c1_i32_28
  let v62 : BitVec 32 := Scalar.addi c0_i32_26 v61
  let v59 : BitVec 32 := Scalar.addi c0_i32_26 v58
  let c1_i32_30 : BitVec 32 := 1#32
  ⟨v62, v59, c1_i32_30⟩

def k1_chk2 (i : grid1.Coords) (v25 : BitVec 32) (v28 : BitVec 32) : Prop :=
  ((k1_t3_loop v25 v28).OK) ∧
  (∀ k1_t3 : Fin (k1_t3_loop v25 v28).trips, ∀ a, (k1_off5 v25 v28 k1_t3) a + S1.size a ≤ S4096.size a) ∧
  (∀ k1_t3 : Fin (k1_t3_loop v25 v28).trips, ∀ a, (k1_off10 v25 v28 k1_t3) a + S1.size a ≤ S4096.size a) ∧
  (∀ k1_t3 : Fin (k1_t3_loop v25 v28).trips, ∀ a, (k1_off15 v25 v28 k1_t3) a + S1.size a ≤ S4096.size a) ∧
  (∀ k1_t3 : Fin (k1_t3_loop v25 v28).trips, ∀ a, (k1_off20 v25 v28 k1_t3) a + S1.size a ≤ S4096.size a) ∧
  ((k1_t4_loop v25 v28).OK) ∧
  (∀ k1_t4 : Fin (k1_t4_loop v25 v28).trips, ∀ a, (k1_off25 v25 v28 k1_t4) a + S1.size a ≤ S4096.size a) ∧
  (∀ k1_t4 : Fin (k1_t4_loop v25 v28).trips, ∀ a, (k1_off30 v25 v28 k1_t4) a + S1.size a ≤ S4096.size a) ∧
  (∀ k1_t4 : Fin (k1_t4_loop v25 v28).trips, ∀ a, (k1_off35 v25 v28 k1_t4) a + S1.size a ≤ S4096.size a) ∧
  (∀ k1_t4 : Fin (k1_t4_loop v25 v28).trips, ∀ a, (k1_off40 v25 v28 k1_t4) a + S1.size a ≤ S4096.size a) ∧
  (∀ (k1_h5 : k1_cond5 i = 1#1), (k1_t5_loop v25 v28).OK) ∧
  (∀ (k1_h5 : k1_cond5 i = 1#1), (k1_t6_loop v25 v28).OK)
theorem k1_t3_ok : ∀ (i : grid1.Coords) (v25 : BitVec 32) (v28 : BitVec 32) (k1_hw2 : k1_chk2 i v25 v28), (k1_t3_loop v25 v28).OK := fun i v25 v28 k1_hw2 => k1_hw2.1
theorem k1_off5_inb : ∀ (i : grid1.Coords) (v25 : BitVec 32) (v28 : BitVec 32) (k1_hw2 : k1_chk2 i v25 v28) (k1_t3 : Fin (k1_t3_loop v25 v28).trips), ∀ a, (k1_off5 v25 v28 k1_t3) a + S1.size a ≤ S4096.size a := fun i v25 v28 k1_hw2 k1_t3 => k1_hw2.2.1 k1_t3
theorem k1_off10_inb : ∀ (i : grid1.Coords) (v25 : BitVec 32) (v28 : BitVec 32) (k1_hw2 : k1_chk2 i v25 v28) (k1_t3 : Fin (k1_t3_loop v25 v28).trips), ∀ a, (k1_off10 v25 v28 k1_t3) a + S1.size a ≤ S4096.size a := fun i v25 v28 k1_hw2 k1_t3 => k1_hw2.2.2.1 k1_t3
theorem k1_off15_inb : ∀ (i : grid1.Coords) (v25 : BitVec 32) (v28 : BitVec 32) (k1_hw2 : k1_chk2 i v25 v28) (k1_t3 : Fin (k1_t3_loop v25 v28).trips), ∀ a, (k1_off15 v25 v28 k1_t3) a + S1.size a ≤ S4096.size a := fun i v25 v28 k1_hw2 k1_t3 => k1_hw2.2.2.2.1 k1_t3
theorem k1_off20_inb : ∀ (i : grid1.Coords) (v25 : BitVec 32) (v28 : BitVec 32) (k1_hw2 : k1_chk2 i v25 v28) (k1_t3 : Fin (k1_t3_loop v25 v28).trips), ∀ a, (k1_off20 v25 v28 k1_t3) a + S1.size a ≤ S4096.size a := fun i v25 v28 k1_hw2 k1_t3 => k1_hw2.2.2.2.2.1 k1_t3
theorem k1_t4_ok : ∀ (i : grid1.Coords) (v25 : BitVec 32) (v28 : BitVec 32) (k1_hw2 : k1_chk2 i v25 v28), (k1_t4_loop v25 v28).OK := fun i v25 v28 k1_hw2 => k1_hw2.2.2.2.2.2.1
theorem k1_off25_inb : ∀ (i : grid1.Coords) (v25 : BitVec 32) (v28 : BitVec 32) (k1_hw2 : k1_chk2 i v25 v28) (k1_t4 : Fin (k1_t4_loop v25 v28).trips), ∀ a, (k1_off25 v25 v28 k1_t4) a + S1.size a ≤ S4096.size a := fun i v25 v28 k1_hw2 k1_t4 => k1_hw2.2.2.2.2.2.2.1 k1_t4
theorem k1_off30_inb : ∀ (i : grid1.Coords) (v25 : BitVec 32) (v28 : BitVec 32) (k1_hw2 : k1_chk2 i v25 v28) (k1_t4 : Fin (k1_t4_loop v25 v28).trips), ∀ a, (k1_off30 v25 v28 k1_t4) a + S1.size a ≤ S4096.size a := fun i v25 v28 k1_hw2 k1_t4 => k1_hw2.2.2.2.2.2.2.2.1 k1_t4
theorem k1_off35_inb : ∀ (i : grid1.Coords) (v25 : BitVec 32) (v28 : BitVec 32) (k1_hw2 : k1_chk2 i v25 v28) (k1_t4 : Fin (k1_t4_loop v25 v28).trips), ∀ a, (k1_off35 v25 v28 k1_t4) a + S1.size a ≤ S4096.size a := fun i v25 v28 k1_hw2 k1_t4 => k1_hw2.2.2.2.2.2.2.2.2.1 k1_t4
theorem k1_off40_inb : ∀ (i : grid1.Coords) (v25 : BitVec 32) (v28 : BitVec 32) (k1_hw2 : k1_chk2 i v25 v28) (k1_t4 : Fin (k1_t4_loop v25 v28).trips), ∀ a, (k1_off40 v25 v28 k1_t4) a + S1.size a ≤ S4096.size a := fun i v25 v28 k1_hw2 k1_t4 => k1_hw2.2.2.2.2.2.2.2.2.2.1 k1_t4
theorem k1_t5_ok : ∀ (i : grid1.Coords) (v25 : BitVec 32) (v28 : BitVec 32) (k1_hw2 : k1_chk2 i v25 v28), ∀ (k1_h5 : k1_cond5 i = 1#1), (k1_t5_loop v25 v28).OK := fun i v25 v28 k1_hw2 k1_h5 => k1_hw2.2.2.2.2.2.2.2.2.2.2.1 k1_h5
theorem k1_t6_ok : ∀ (i : grid1.Coords) (v25 : BitVec 32) (v28 : BitVec 32) (k1_hw2 : k1_chk2 i v25 v28), ∀ (k1_h5 : k1_cond5 i = 1#1), (k1_t6_loop v25 v28).OK := fun i v25 v28 k1_hw2 k1_h5 => k1_hw2.2.2.2.2.2.2.2.2.2.2.2 k1_h5

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond3 (i : grid1.Coords) : BitVec 1 :=
  let arg0 : BitVec 32 := BitVec.ofNat 32 (i 0).val
  let c48_i32 : BitVec 32 := 48#32
  let v18 : BitVec 1 := Scalar.cmpi .slt arg0 c48_i32
  let v19 : BitVec 32 := Scalar.extui v18
  let c0_i32_10 : BitVec 32 := 0#32
  let v20 : BitVec 1 := Scalar.cmpi .ne v19 c0_i32_10
  v20

def k1_cond4 (i : grid1.Coords) : BitVec 1 :=
  let arg0 : BitVec 32 := BitVec.ofNat 32 (i 0).val
  let c48_i32_11 : BitVec 32 := 48#32
  let v21 : BitVec 1 := Scalar.cmpi .eq arg0 c48_i32_11
  let v22 : BitVec 32 := Scalar.extui v21
  let c0_i32_12 : BitVec 32 := 0#32
  let v23 : BitVec 1 := Scalar.cmpi .ne v22 c0_i32_12
  v23

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20x256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S8x1000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x192 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x192 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x192 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S256x1000 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S256x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S20x256x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S4096x20 : Shape := ⟨2, ![4096, 20]⟩
abbrev S100000x1000 : Shape := ⟨2, ![100000, 1000]⟩
abbrev S100000x64 : Shape := ⟨2, ![100000, 64]⟩
abbrev S1000x64 : Shape := ⟨2, ![1000, 64]⟩
abbrev S128x192 : Shape := ⟨2, ![128, 192]⟩
abbrev S64x192 : Shape := ⟨2, ![64, 192]⟩
abbrev S192 : Shape := ⟨1, ![192]⟩
abbrev S64x64 : Shape := ⟨2, ![64, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1000 : Shape := ⟨2, ![4096, 1000]⟩
abbrev S1000 : Shape := ⟨1, ![1000]⟩
abbrev S1x1000 : Shape := ⟨2, ![1, 1000]⟩
abbrev S4096x64 : Shape := ⟨2, ![4096, 64]⟩
abbrev S81920 : Shape := ⟨1, ![81920]⟩
abbrev S81920x1 : Shape := ⟨2, ![81920, 1]⟩
abbrev S81920x64 : Shape := ⟨2, ![81920, 64]⟩
abbrev S4096x20x64 : Shape := ⟨3, ![4096, 20, 64]⟩
abbrev S20 : Shape := ⟨1, ![20]⟩
abbrev S1x20 : Shape := ⟨2, ![1, 20]⟩
abbrev S4096x20x1 : Shape := ⟨3, ![4096, 20, 1]⟩
abbrev S4096x128 : Shape := ⟨2, ![4096, 128]⟩
abbrev S4096x1x64 : Shape := ⟨3, ![4096, 1, 64]⟩
abbrev S4096x20x128 : Shape := ⟨3, ![4096, 20, 128]⟩
abbrev S4096x192 : Shape := ⟨2, ![4096, 192]⟩
abbrev S1x192 : Shape := ⟨2, ![1, 192]⟩
abbrev S81920x128 : Shape := ⟨2, ![81920, 128]⟩
abbrev S81920x192 : Shape := ⟨2, ![81920, 192]⟩
abbrev S64x1000 : Shape := ⟨2, ![64, 1000]⟩

abbrev nBuf : Space → Nat
  | .hbm => 236
  | .vmem => 0
  | .smem => 0
  | _ => 0

abbrev hbmTy0_0 (i : Nat) : BufTy := match i % 128 with
  | 0 => ⟨S4096, .i32⟩
  | 1 => ⟨S4096, .i32⟩
  | 2 => ⟨S4096x20, .i32⟩
  | 3 => ⟨S100000x1000, .f32⟩
  | 4 => ⟨S100000x64, .f32⟩
  | 5 => ⟨S1000x64, .f32⟩
  | 6 => ⟨S128x192, .f32⟩
  | 7 => ⟨S64x192, .f32⟩
  | 8 => ⟨S192, .f32⟩
  | 9 => ⟨S64x64, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S1, .i32⟩
  | 19 => ⟨S_, .i32⟩
  | 20 => ⟨S4096x1, .i32⟩
  | 21 => ⟨S4096x1, .i1⟩
  | 22 => ⟨S1x1, .i32⟩
  | 23 => ⟨S4096x1, .i32⟩
  | 24 => ⟨S4096x1, .i1⟩
  | 25 => ⟨S4096x1, .i1⟩
  | 26 => ⟨S_, .i1⟩
  | 27 => ⟨S4096, .i1⟩
  | 28 => ⟨S4096x1000, .f32⟩
  | 29 => ⟨S4096x1000, .i1⟩
  | 30 => ⟨S_, .f32⟩
  | 31 => ⟨S4096x1000, .f32⟩
  | 32 => ⟨S4096x1000, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1000, .f32⟩
  | 40 => ⟨S4096x1000, .f32⟩
  | 41 => ⟨S_, .f32⟩
  | 42 => ⟨S1000, .f32⟩
  | 43 => ⟨S_, .f32⟩
  | 44 => ⟨S_, .f32⟩
  | 45 => ⟨S_, .f32⟩
  | 46 => ⟨S_, .f32⟩
  | 47 => ⟨S1000, .f32⟩
  | 48 => ⟨S1000, .f32⟩
  | 49 => ⟨S_, .f32⟩
  | 50 => ⟨S4096x1000, .f32⟩
  | 51 => ⟨S4096x1000, .f32⟩
  | 52 => ⟨S1x1000, .f32⟩
  | 53 => ⟨S_, .f32⟩
  | 54 => ⟨S1x1000, .f32⟩
  | 55 => ⟨S1x1000, .f32⟩
  | 56 => ⟨S4096x1000, .f32⟩
  | 57 => ⟨S4096x1000, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S1, .i32⟩
  | 67 => ⟨S_, .i32⟩
  | 68 => ⟨S4096x1, .i32⟩
  | 69 => ⟨S4096x1, .i1⟩
  | 70 => ⟨S1x1, .i32⟩
  | 71 => ⟨S4096x1, .i32⟩
  | 72 => ⟨S4096x1, .i1⟩
  | 73 => ⟨S4096x1, .i1⟩
  | 74 => ⟨S_, .i1⟩
  | 75 => ⟨S4096, .i1⟩
  | 76 => ⟨S4096x64, .f32⟩
  | 77 => ⟨S4096x64, .i1⟩
  | 78 => ⟨S_, .f32⟩
  | 79 => ⟨S4096x64, .f32⟩
  | 80 => ⟨S4096x64, .f32⟩
  | 81 => ⟨S81920, .i32⟩
  | 82 => ⟨S_, .i32⟩
  | 83 => ⟨S81920, .i32⟩
  | 84 => ⟨S81920, .i1⟩
  | 85 => ⟨S_, .i32⟩
  | 86 => ⟨S81920, .i32⟩
  | 87 => ⟨S81920, .i32⟩
  | 88 => ⟨S81920, .i32⟩
  | 89 => ⟨S81920x1, .i32⟩
  | 90 => ⟨S1, .i32⟩
  | 91 => ⟨S_, .i32⟩
  | 92 => ⟨S81920x1, .i32⟩
  | 93 => ⟨S81920x1, .i1⟩
  | 94 => ⟨S1x1, .i32⟩
  | 95 => ⟨S81920x1, .i32⟩
  | 96 => ⟨S81920x1, .i1⟩
  | 97 => ⟨S81920x1, .i1⟩
  | 98 => ⟨S_, .i1⟩
  | 99 => ⟨S81920, .i1⟩
  | 100 => ⟨S81920x64, .f32⟩
  | 101 => ⟨S81920x64, .i1⟩
  | 102 => ⟨S_, .f32⟩
  | 103 => ⟨S81920x64, .f32⟩
  | 104 => ⟨S81920x64, .f32⟩
  | 105 => ⟨S4096x20x64, .f32⟩
  | 106 => ⟨S20, .i32⟩
  | 107 => ⟨S1x20, .i32⟩
  | 108 => ⟨S4096x1, .i32⟩
  | 109 => ⟨S4096x20, .i32⟩
  | 110 => ⟨S4096x20, .i32⟩
  | 111 => ⟨S4096x20, .i1⟩
  | 112 => ⟨S4096x20, .f32⟩
  | 113 => ⟨S4096x20x1, .f32⟩
  | 114 => ⟨S4096x20x64, .f32⟩
  | 115 => ⟨S4096x20x64, .f32⟩
  | 116 => ⟨S_, .f32⟩
  | 117 => ⟨S4096x64, .f32⟩
  | 118 => ⟨S_, .i32⟩
  | 119 => ⟨S4096, .i32⟩
  | 120 => ⟨S4096, .i32⟩
  | 121 => ⟨S4096, .f32⟩
  | 122 => ⟨S4096x1, .f32⟩
  | 123 => ⟨S4096x64, .f32⟩
  | 124 => ⟨S4096x64, .f32⟩
  | 125 => ⟨S4096x128, .f32⟩
  | 126 => ⟨S4096x1x64, .f32⟩
  | 127 => ⟨S4096x20x64, .f32⟩
  | _ => ⟨S4096, .i32⟩

abbrev hbmTy0_1 (i : Nat) : BufTy := match i % 128 with
  | 0 => ⟨S4096x20x128, .f32⟩
  | 1 => ⟨S4096x192, .f32⟩
  | 2 => ⟨S1x192, .f32⟩
  | 3 => ⟨S4096x192, .f32⟩
  | 4 => ⟨S4096x192, .f32⟩
  | 5 => ⟨S4096x192, .f32⟩
  | 6 => ⟨S4096x64, .f32⟩
  | 7 => ⟨S4096x64, .f32⟩
  | 8 => ⟨S4096x64, .f32⟩
  | 9 => ⟨S4096x64, .f32⟩
  | 10 => ⟨S4096x64, .f32⟩
  | 11 => ⟨S4096x64, .f32⟩
  | 12 => ⟨S4096x64, .f32⟩
  | 13 => ⟨S4096x64, .f32⟩
  | 14 => ⟨S4096x64, .f32⟩
  | 15 => ⟨S_, .f32⟩
  | 16 => ⟨S4096x64, .f32⟩
  | 17 => ⟨S4096x64, .f32⟩
  | 18 => ⟨S_, .f32⟩
  | 19 => ⟨S4096x64, .f32⟩
  | 20 => ⟨S4096x64, .f32⟩
  | 21 => ⟨S4096x64, .f32⟩
  | 22 => ⟨S4096x64, .f32⟩
  | 23 => ⟨S4096x64, .f32⟩
  | 24 => ⟨S_, .f32⟩
  | 25 => ⟨S4096x64, .f32⟩
  | 26 => ⟨S4096x64, .f32⟩
  | 27 => ⟨S_, .f32⟩
  | 28 => ⟨S4096x64, .f32⟩
  | 29 => ⟨S4096x64, .f32⟩
  | 30 => ⟨S4096x64, .f32⟩
  | 31 => ⟨S4096x64, .f32⟩
  | 32 => ⟨S4096x64, .f32⟩
  | 33 => ⟨S_, .f32⟩
  | 34 => ⟨S4096x64, .f32⟩
  | 35 => ⟨S4096x64, .f32⟩
  | 36 => ⟨S4096x64, .f32⟩
  | 37 => ⟨S4096x64, .f32⟩
  | 38 => ⟨S4096x64, .f32⟩
  | 39 => ⟨S81920x128, .f32⟩
  | 40 => ⟨S81920x64, .f32⟩
  | 41 => ⟨S81920x192, .f32⟩
  | 42 => ⟨S1x192, .f32⟩
  | 43 => ⟨S81920x192, .f32⟩
  | 44 => ⟨S81920x192, .f32⟩
  | 45 => ⟨S81920x192, .f32⟩
  | 46 => ⟨S81920x64, .f32⟩
  | 47 => ⟨S81920x64, .f32⟩
  | 48 => ⟨S81920x64, .f32⟩
  | 49 => ⟨S81920x64, .f32⟩
  | 50 => ⟨S81920x64, .f32⟩
  | 51 => ⟨S81920x64, .f32⟩
  | 52 => ⟨S81920x64, .f32⟩
  | 53 => ⟨S81920x64, .f32⟩
  | 54 => ⟨S81920x64, .f32⟩
  | 55 => ⟨S_, .f32⟩
  | 56 => ⟨S81920x64, .f32⟩
  | 57 => ⟨S81920x64, .f32⟩
  | 58 => ⟨S_, .f32⟩
  | 59 => ⟨S81920x64, .f32⟩
  | 60 => ⟨S81920x64, .f32⟩
  | 61 => ⟨S81920x64, .f32⟩
  | 62 => ⟨S81920x64, .f32⟩
  | 63 => ⟨S81920x64, .f32⟩
  | 64 => ⟨S_, .f32⟩
  | 65 => ⟨S81920x64, .f32⟩
  | 66 => ⟨S81920x64, .f32⟩
  | 67 => ⟨S_, .f32⟩
  | 68 => ⟨S81920x64, .f32⟩
  | 69 => ⟨S81920x64, .f32⟩
  | 70 => ⟨S81920x64, .f32⟩
  | 71 => ⟨S81920x64, .f32⟩
  | 72 => ⟨S81920x64, .f32⟩
  | 73 => ⟨S_, .f32⟩
  | 74 => ⟨S81920x64, .f32⟩
  | 75 => ⟨S81920x64, .f32⟩
  | 76 => ⟨S81920x64, .f32⟩
  | 77 => ⟨S81920x64, .f32⟩
  | 78 => ⟨S81920x64, .f32⟩
  | 79 => ⟨S4096x20x64, .f32⟩
  | 80 => ⟨S4096x20x1, .f32⟩
  | 81 => ⟨S4096x20x64, .f32⟩
  | 82 => ⟨S4096x20x64, .f32⟩
  | 83 => ⟨S4096x20x1, .f32⟩
  | 84 => ⟨S_, .f32⟩
  | 85 => ⟨S4096x20x1, .f32⟩
  | 86 => ⟨S4096x20x1, .f32⟩
  | 87 => ⟨S4096x20x64, .f32⟩
  | 88 => ⟨S4096x20x64, .f32⟩
  | 89 => ⟨S4096x20x64, .f32⟩
  | 90 => ⟨S4096x64, .f32⟩
  | 91 => ⟨S64x1000, .f32⟩
  | 92 => ⟨S4096x1000, .f32⟩
  | 93 => ⟨S4096x1000, .f32⟩
  | 94 => ⟨S4096x1000, .f32⟩
  | 95 => ⟨S_, .f32⟩
  | 96 => ⟨S4096x1000, .f32⟩
  | 97 => ⟨S4096x1000, .f32⟩
  | 98 => ⟨S_, .f32⟩
  | 99 => ⟨S4096x1000, .f32⟩
  | 100 => ⟨S4096x1000, .f32⟩
  | 101 => ⟨S_, .f32⟩
  | 102 => ⟨S4096x1000, .f32⟩
  | 103 => ⟨S4096x1000, .f32⟩
  | 104 => ⟨S_, .f32⟩
  | 105 => ⟨S4096x1000, .f32⟩
  | 106 => ⟨S4096x1000, .f32⟩
  | 107 => ⟨S4096x1000, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_cst_0 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_4 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_5 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v19 : Ref sig .tc := ⟨.hbm, 80, rfl⟩
abbrev main_v20 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v21 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_cst_6 : Ref sig .tc := ⟨.hbm, 116, rfl⟩
abbrev main_v33 : Ref sig .tc := ⟨.hbm, 117, rfl⟩
abbrev main_c : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_cst_7 : Ref sig .tc := ⟨.hbm, 143, rfl⟩
abbrev main_v58 : Ref sig .tc := ⟨.hbm, 144, rfl⟩
abbrev main_v59 : Ref sig .tc := ⟨.hbm, 145, rfl⟩
abbrev main_cst_8 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_cst_9 : Ref sig .tc := ⟨.hbm, 152, rfl⟩
abbrev main_v65 : Ref sig .tc := ⟨.hbm, 153, rfl⟩
abbrev main_v66 : Ref sig .tc := ⟨.hbm, 154, rfl⟩
abbrev main_cst_10 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_cst_11 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_cst_12 : Ref sig .tc := ⟨.hbm, 183, rfl⟩
abbrev main_v93 : Ref sig .tc := ⟨.hbm, 184, rfl⟩
abbrev main_v94 : Ref sig .tc := ⟨.hbm, 185, rfl⟩
abbrev main_cst_13 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_cst_14 : Ref sig .tc := ⟨.hbm, 192, rfl⟩
abbrev main_v100 : Ref sig .tc := ⟨.hbm, 193, rfl⟩
abbrev main_v101 : Ref sig .tc := ⟨.hbm, 194, rfl⟩
abbrev main_cst_15 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_cst_16 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_17 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_cst_18 : Ref sig .tc := ⟨.hbm, 223, rfl⟩
abbrev main_v127 : Ref sig .tc := ⟨.hbm, 224, rfl⟩
abbrev main_v128 : Ref sig .tc := ⟨.hbm, 225, rfl⟩
abbrev main_cst_19 : Ref sig .tc := ⟨.hbm, 226, rfl⟩
abbrev main_v129 : Ref sig .tc := ⟨.hbm, 227, rfl⟩
abbrev main_v130 : Ref sig .tc := ⟨.hbm, 228, rfl⟩
abbrev main_cst_20 : Ref sig .tc := ⟨.hbm, 229, rfl⟩
abbrev main_v131 : Ref sig .tc := ⟨.hbm, 230, rfl⟩
abbrev main_v132 : Ref sig .tc := ⟨.hbm, 231, rfl⟩
abbrev main_cst_21 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩

abbrev nD : Nat := 1
abbrev τ : Topo := Topo.v7x

variable {F : FTy → Type} [FloatOps F]
-- ==== Proof.Tile.lean ====
/-
  The SparseCore's part: thirty-two tasks, one on each vector subcore of the two SparseCores. Each task fetches its 2560
  row numbers, and then, five times, gathers 512 rows of the table by 512 of those numbers and copies them out to its
  rows of the result. What is proved here, at any float values: the 512 rows that a task writes in each round hold the
  table's rows at the listed numbers (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.WriteMode
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
/-- The transfers into result rows that any of several may write (`WmRA`). -/
abbrev UW (F : FTy → Type) : Type := WmRA nD τ sig (Elt F)
abbrev UU (F : FTy → Type) : Type := UH × (UP × (UW F × Counters))

local notation "𝕄" => MT nD τ sig (HIx 1) (Elt F) ℕ (UU F) ℕ

abbrev EH : Emb UH (MT nD τ sig (HIx 1) (Elt F) ℕ (UU F) ℕ) := embL

/-! ## The buffers -/

abbrev iLoc (d : Dev nD) : Loc nD τ sig := (SparseCore.T d).loc main_v1
abbrev xLoc (d : Dev nD) : Loc nD τ sig := (SparseCore.T d).loc main_v4
abbrev oLoc (d : Dev nD) : Loc nD τ sig := (SparseCore.T d).loc main_v5

local notation "iV" => (Memref.whole Cert.KernelIdeal.main_v1_scv : Memref Cert.KernelIdeal.sig Kind.scVector Space.hbm Cert.KernelIdeal.S81920 EltTy.i32)
local notation "xV" => (Memref.whole Cert.KernelIdeal.main_v4_scv : Memref Cert.KernelIdeal.sig Kind.scVector Space.hbm Cert.KernelIdeal.S1000x128 EltTy.f32)
local notation "oV" => (Memref.whole Cert.KernelIdeal.main_v5_scv : Memref Cert.KernelIdeal.sig Kind.scVector Space.hbm Cert.KernelIdeal.S81920x128 EltTy.f32)
local notation "sV" => (Memref.whole Cert.KernelIdeal.cc0_scratch0 : Memref Cert.KernelIdeal.sig Kind.scVector Space.vmem Cert.KernelIdeal.S2560 EltTy.i32)
local notation "rV" => (Memref.whole Cert.KernelIdeal.cc0_scratch1 : Memref Cert.KernelIdeal.sig Kind.scVector Space.vmem Cert.KernelIdeal.S512x128 EltTy.f32)

/-! ## The gathered rows -/

/-- The one index of a list. -/
def ixL (n : Fin 81920) : S81920.Idx := fun | 0 => n

/-- Row `n`, lane `l` of the table. -/
def ixT (n : Fin 1000) (l : Fin 128) : S1000x128.Idx := fun | 0 => n | 1 => l

/-- Row `r`, lane `l` of the gathered rows: row `ls r` of the table, lane `l`. -/
def gath (tb : S1000x128.Idx → Elt F .f32) (ls : S81920.Idx → Elt F .i32) : S81920x128.Idx → Elt F .f32 :=
  fun y => tb (ixT ⟨(ls (ixL (y 0))).toNat % 1000, Nat.mod_lt _ (by decide)⟩ (y 1))

/-! ## The blocks: 32 of the list, 160 of the result -/

theorem idiv : 32 ∣ S81920.size 0 := ⟨2560, rfl⟩
theorem odiv : 160 ∣ S81920x128.size 0 := ⟨512, rfl⟩
abbrev irow (t : Fin 32) : Rect S81920 := Rect.part (s := S81920) (a₀ := 0) idiv t
abbrev orow (t : Fin 160) : Rect S81920x128 := Rect.part (s := S81920x128) (a₀ := 0) odiv t
abbrev iRowSet (t : Fin 32) : Finset S81920.Idx := ((iV).view.slice (irow t)).set
abbrev oRowSet (t : Fin 160) : Finset S81920x128.Idx := ((oV).view.slice (orow t)).set

/-- The task's number: subcore `s` of SparseCore `c` is task `2 s + c`. -/
def tk (c : Fin 2) (s : Fin 16) : Fin 32 := ⟨2 * s.val + c.val, by omega⟩
/-- Round `j` of task `t` writes block `5 t + j`. -/
def ck (t : Fin 32) (j : Fin 5) : Fin 160 := ⟨5 * t.val + j.val, by omega⟩

/-- Task `t`'s share of the table. -/
abbrev xq (t : Fin 32) : PosShare TreeShare := ShareLeaves.leaf 5 fullShare t

variable (tb : (d : Dev nD) → Buf (Elt F) (xLoc d)) (ls : (d : Dev nD) → Buf (Elt F) (iLoc d)) (o0 : (d : Dev nD) → Buf (Elt F) (oLoc d))

abbrev iRowPts (d : Dev nD) (t : Fin 32) : sProp 𝕄 := iLoc d ↦[iRowSet t]{fullShare} ls d
abbrev xShPts (d : Dev nD) (t : Fin 32) : sProp 𝕄 := xLoc d ↦{xq t} tb d
abbrev oRowPts (d : Dev nD) (t : Fin 160) (f : Buf (Elt F) (oLoc d)) : sProp 𝕄 := oLoc d ↦[oRowSet t]{fullShare} f
/-- A task's five blocks of the result. -/
abbrev oBlks (d : Dev nD) (t : Fin 32) (f : Buf (Elt F) (oLoc d)) : sProp 𝕄 :=
  iprop(oRowPts d (ck t 0) f ∗ oRowPts d (ck t 1) f ∗ oRowPts d (ck t 2) f ∗ oRowPts d (ck t 3) f ∗ oRowPts d (ck t 4) f)

/-- The gathered rows on device `d`. -/
abbrev gt (d : Dev nD) : Buf (Elt F) (oLoc d) := gath (F := F) (tb d) (ls d)

/-- What a task is handed, and what it brings back. -/
abbrev tkIn (d : Dev nD) (t : Fin 32) : sProp 𝕄 := iprop(iRowPts ls d t ∗ xShPts tb d t ∗ oBlks d t (o0 d))
abbrev tkOut (d : Dev nD) (t : Fin 32) : sProp 𝕄 := iprop(iRowPts ls d t ∗ xShPts tb d t ∗ oBlks d t (gt tb ls d))

/-- Every listed number is a row of the table. -/
def PreOK : Prop := ∀ (d : Dev nD) (j : S81920.Idx), (ls d j : BitVec 32).toNat < 1000

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev tL (L : grid0.Coords) : Fin 32 := tk (Fin.cast bound_zero (L 0)) (Fin.cast bound_one (L 1))

abbrev irowK (L : grid0.Coords) : Rect S81920 := Rect.unit (s := S81920) (k0_off1 L) S2560.size (k0_off1_inb L)
abbrev orowK (L : grid0.Coords) (j : Fin 5) : Rect S81920x128 := Rect.unit (s := S81920x128) (k0_off2 L (BitVec.ofNat 32 (512 * j.val))) S512x128.size (k0_off2_inb L j)
/-- The task's part of the list, its block `j` of the result, and all of the table, as the task addresses them. -/
abbrev iRowK (L : grid0.Coords) : Memref sig .scVector .hbm S2560 .i32 := (iV).slice (irowK L) (fun _ => rfl)
abbrev oRowK (L : grid0.Coords) (j : Fin 5) : Memref sig .scVector .hbm S512x128 .f32 := (oV).slice (orowK L j) (fun _ => rfl)
abbrev xAllK : Memref sig .scVector .hbm S1000x128 .f32 := (xV).slice (Rect.unit (s := S1000x128) ![0, 0] S1000x128.size inb_S1000x128_S1000x128_0_0) (fun _ => rfl)

theorem tL_val : (tL L).val = 2 * (L 1).val + (L 0).val := rfl

omit [FloatOps F] in
theorem irowK_eq : irowK L = irow (tL L) := by
  unfold irowK irow Rect.part Rect.block
  congr 1 <;> funext a
  · rw [k0_off1_eq]
    match a with
    | 0 => simp [Shape.partIx, Shape.partSize, tL_val]; omega
  · match a with
    | 0 => simp [Shape.partSize]
omit [FloatOps F] in
theorem orowK_eq (j : Fin 5) : orowK L j = orow (ck (tL L) j) := by
  unfold orowK orow Rect.part Rect.block
  congr 1 <;> funext a
  · rw [k0_off2_eq]
    match a with
    | 0 => simp [Shape.partIx, Shape.partSize, ck, tL_val]; omega
    | 1 => simp [Shape.partIx, Shape.partSize]
  · match a with
    | 0 => simp [Shape.partSize]
    | 1 => simp [Shape.partSize]

omit [FloatOps F] in
theorem set_iRowK : (iRowK L).view.set = iRowSet (tL L) := by
  show ((iV).view.slice (irowK L)).set = ((iV).view.slice (irow (tL L))).set
  exact irowK_eq L ▸ rfl
omit [FloatOps F] in
theorem set_oRowK (j : Fin 5) : (oRowK L j).view.set = oRowSet (ck (tL L) j) := by
  show ((oV).view.slice (orowK L j)).set = ((oV).view.slice (orow (ck (tL L) j))).set
  exact orowK_eq L j ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (tL L)]{fullShare} f := by
  rw [set_iRowK]
omit [FloatOps F] in
theorem pts_oRowK (j : Fin 5) (f : Buf (Elt F) (oLoc d)) :
    ((oRowK L j).view.loc (V d (cV L) (jV L)) ↦[(oRowK L j).view.set]{fullShare} f : sProp 𝕄) = oRowPts d (ck (tL L) j) f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev smc (d : Dev nD) (c : Fin τ.nSC) (i : Fin τ.nSub) (s : DmaSems sig S_) : GSem nD τ sig := (V d c i, .dma s.sem)

/-- Distinct semaphores are distinct cells. -/
theorem smc_ne {c : Fin τ.nSC} {i : Fin τ.nSub} {a b : DmaSems sig S_} (h : (SemLoc.dma a.sem : SemLoc sig) ≠ .dma b.sem) :
    smc d c i a ≠ smc d c i b := fun e => h (congrArg Prod.snd e)
/-- A scoped semaphore's cell is one of the subcore's own. -/
theorem smc_mem (c : Fin τ.nSC) (i : Fin τ.nSub) (a : DmaSems sig S_) (h : (SemLoc.dma a.sem : SemLoc sig).isScoped .scVector = true) :
    smc d c i a ∈ ownCells (V d c i) := mem_ownCells.mpr ⟨rfl, h⟩

/-- The subcore's own cells but the task's seven. -/
abbrev restCells (d : Dev nD) (L : grid0.Coords) : Finset (GSem nD τ sig) :=
  (((((((ownCells (V d (cV L) (jV L))).erase (smc d (cV L) (jV L) cc0_scratch2)).erase (smc d (cV L) (jV L) cc0_scoped0)).erase
    (smc d (cV L) (jV L) cc0_scoped1)).erase (smc d (cV L) (jV L) cc0_scoped2)).erase (smc d (cV L) (jV L) cc0_scoped3)).erase
    (smc d (cV L) (jV L) cc0_scoped4)).erase (smc d (cV L) (jV L) cc0_scoped5)

omit [FloatOps F] in
/-- The task's seven semaphores are among the subcore's own. -/
theorem ownSems0_V :
    (ownSems0 (V d (cV L) (jV L)) : sProp 𝕄)
      = iprop(semVal (smc d (cV L) (jV L) cc0_scratch2) 0 ∗ semVal (smc d (cV L) (jV L) cc0_scoped0) 0 ∗ semVal (smc d (cV L) (jV L) cc0_scoped1) 0
          ∗ semVal (smc d (cV L) (jV L) cc0_scoped2) 0 ∗ semVal (smc d (cV L) (jV L) cc0_scoped3) 0 ∗ semVal (smc d (cV L) (jV L) cc0_scoped4) 0
          ∗ semVal (smc d (cV L) (jV L) cc0_scoped5) 0 ∗ bigSep (restCells d L) fun g => semVal g 0) := by
  unfold SparseCore.Cfg.ownSems0 restCells
  rw [SparseCore.bigSep_erase' (smc_mem d (cV L) (jV L) cc0_scratch2 (by decide)),
    SparseCore.bigSep_erase' (i := smc d (cV L) (jV L) cc0_scoped0) (by
      simp only [Finset.mem_erase]; exact ⟨smc_ne d (by decide), smc_mem d _ _ _ (by decide)⟩),
    SparseCore.bigSep_erase' (i := smc d (cV L) (jV L) cc0_scoped1) (by
      simp only [Finset.mem_erase]; exact ⟨smc_ne d (by decide), smc_ne d (by decide), smc_mem d _ _ _ (by decide)⟩),
    SparseCore.bigSep_erase' (i := smc d (cV L) (jV L) cc0_scoped2) (by
      simp only [Finset.mem_erase]; exact ⟨smc_ne d (by decide), smc_ne d (by decide), smc_ne d (by decide), smc_mem d _ _ _ (by decide)⟩),
    SparseCore.bigSep_erase' (i := smc d (cV L) (jV L) cc0_scoped3) (by
      simp only [Finset.mem_erase]
      exact ⟨smc_ne d (by decide), smc_ne d (by decide), smc_ne d (by decide), smc_ne d (by decide), smc_mem d _ _ _ (by decide)⟩),
    SparseCore.bigSep_erase' (i := smc d (cV L) (jV L) cc0_scoped4) (by
      simp only [Finset.mem_erase]
      exact ⟨smc_ne d (by decide), smc_ne d (by decide), smc_ne d (by decide), smc_ne d (by decide), smc_ne d (by decide), smc_mem d _ _ _ (by decide)⟩),
    SparseCore.bigSep_erase' (i := smc d (cV L) (jV L) cc0_scoped5) (by
      simp only [Finset.mem_erase]
      exact ⟨smc_ne d (by decide), smc_ne d (by decide), smc_ne d (by decide), smc_ne d (by decide), smc_ne d (by decide), smc_ne d (by decide),
        smc_mem d _ _ _ (by decide)⟩)]

/-- The subcore's own buffers but the two scratch buffers. -/
abbrev restRefs (L : grid0.Coords) : Finset (DevRef τ sig) :=
  ((ownRefs (τ := τ) (sig := sig) (.scVector (cV L) (jV L))).erase ((Proc.scVector (cV L) (jV L)).devRef cc0_scratch0)).erase
    ((Proc.scVector (cV L) (jV L)).devRef cc0_scratch1)

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the fetch lands in the list's scratch: the task's part of the list. -/
abbrev lst (L : grid0.Coords) : S2560.Idx → Elt F .i32 := (iRowK L).view.read (Elt F) (ls d)

/-- The 512 numbers of round `j`, as the task addresses them. -/
abbrev lstK (o : ℕ) (h : ∀ a, (![o] : Fin 1 → ℕ) a + S512.size a ≤ S2560.size a) : Memref sig .scVector .vmem S512 .i32 :=
  (sV).slice (Rect.unit (s := S2560) ![o] S512.size h) (fun _ => rfl)

omit [FloatOps F] in
/-- Every number that a round reads is a row of the table. -/
theorem inb_of_pre (hpre : PreOK ls) (o : ℕ) (h : ∀ a, (![o] : Fin 1 → ℕ) a + S512.size a ≤ S2560.size a) :
    ∀ x, ((lstK o h).view.read (Elt F) (lst ls d L) x : BitVec 32).toNat < S1000x128.size gathers_S1000x128_S512x128.axis := by
  intro x
  rw [View.read_apply, cast_eq]
  exact hpre d _

omit [FloatOps F] in
/-- A block written whole by rows that are the gathered ones holds the gathered ones. -/
theorem blk_val (j : Fin 5) (f : Buf (Elt F) (oLoc d)) (pay : S512x128.Idx → Elt F .f32)
    (hp : ∀ z, pay z = gt tb ls d ((oRowK L j).view.emb z)) :
    ∀ y ∈ (oRowK L j).view.set, (oRowK L j).view.writes (Elt F) f [⟨Rect.whole S512x128, pay⟩] y = gt tb ls d y := by
  intro y hy
  obtain ⟨z, -, rfl⟩ := Finset.mem_map.mp hy
  rw [← hp z]
  have e := congrFun (View.read_writes_whole (Val := Elt F) (oRowK L j).view f pay) z
  rwa [View.read_apply, cast_eq] at e

omit [FloatOps F] in
/-- The row buffer, read after a whole write, reads what was written last. -/
theorem rV_last (fr : Buf (Elt F) ((V d (cV L) (jV L)).loc cc0_scratch1)) (g : S512x128.Idx → Elt F .f32)
    (Ls : List (View.Piece (Elt F) S512x128 .f32)) :
    (ReadAs.same : ReadAs (Elt F) S512x128 .f32 S512x128 .f32).apply
      ((rV).view.read (Elt F) ((rV).view.writes (Elt F) fr (⟨Rect.whole S512x128, g⟩ :: Ls))) = g := by
  funext z
  have e := View.read_writes_cons_emb (Val := Elt F) (rV).view fr (Rect.whole S512x128) g Ls z
  exact (congrArg _ (Rect.emb_whole_apply S512x128 z).symm).trans e

omit [FloatOps F] in
/-- Round `j`'s gather delivers the gathered rows of the task's block `j`. -/
theorem pay_val (hpre : PreOK ls) (j : Fin 5) (o : ℕ) (ho : o = 512 * j.val) (h : ∀ a, (![o] : Fin 1 → ℕ) a + S512.size a ≤ S2560.size a)
    (hn : S512.numel = S512x128.size gathers_S1000x128_S512x128.axis')
    (hin : ∀ x, ((lstK o h).view.read (Elt F) (lst ls d L) x : BitVec 32).toNat < S1000x128.size gathers_S1000x128_S512x128.axis) (z : S512x128.Idx) :
    SparseCore.gatherPayload gathers_S1000x128_S512x128 ((xAllK).view.read (Elt F) (tb d)) (SparseCore.rows ((lstK o h).view.read (Elt F) (lst ls d L)) hn hin) z
      = gt tb ls d ((oRowK L j).view.emb z) := by
  subst ho
  have hk := k0_off2_eq L j
  have h1 := k0_off1_eq L
  unfold SparseCore.gatherPayload gt gath
  rw [View.read_apply, cast_eq]
  refine congrArg (tb d) (funext fun a => Fin.ext ?_)
  have row : ∀ k : Fin 512, ((S512.rowMajor.symm (k.cast hn.symm)) 0).val = k.val := fun k => by
    rw [← Shape.rowMajor_val_one (d := ![512]), Equiv.apply_symm_apply]; rfl
  match a with
  | 0 =>
    show (0 + 1 * (gathers_S1000x128_S512x128.idx _ z gathers_S1000x128_S512x128.axis).val : ℕ) = _
    rw [Shape.Gathers.idx_axis, Nat.zero_add, Nat.one_mul]
    unfold SparseCore.rows
    show BitVec.toNat ((lstK (512 * j.val) h).view.read (Elt F) (lst ls d L) _) = (ls d _ : BitVec 32).toNat % 1000
    rw [Nat.mod_eq_of_lt (hpre d _), View.read_apply, cast_eq]
    show BitVec.toNat (ls d _) = _
    refine congrArg (fun q => BitVec.toNat (ls d q)) (funext fun b => Fin.ext ?_)
    match b with
    | 0 =>
      show k0_off1 L 0 + 1 * (512 * j.val + 1 * ((S512.rowMajor.symm ((z 0).cast hn.symm)) 0).val) = k0_off2 L (BitVec.ofNat 32 (512 * j.val)) 0 + 1 * (z 0).val
      refine (congrArg (fun q => k0_off1 L 0 + 1 * (512 * j.val + 1 * q)) (row (z 0))).trans ?_
      rw [hk, h1]
      simp; omega
  | 1 =>
    show (0 + 1 * (gathers_S1000x128_S512x128.idx _ z 1).val : ℕ) = k0_off2 L (BitVec.ofNat 32 (512 * j.val)) 1 + 1 * (z 1).val
    rw [Shape.Gathers.idx_of_ne _ _ _ _ (by decide), hk]
    simp

set_option maxHeartbeats 800000 in
theorem tile_body (hF : (K (F := F)).Facts) (hpre : PreOK ls) (O : CellTallies nD τ sig (HIx 1)) (W : Waits sig (HIx 1)) (hO : ∀ g, O g none = 0) :
    iprop(levAts (K (F := F)).L (K (F := F)).lev ∗ emp ∗ tkIn tb ls o0 d (tL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_run L xV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5)
          fun _ => iprop(tkOut tb ls d (tL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_run_eq_skeleton]; unfold cc0_run_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho0, Ho1, Ho2, Ho3, Ho4⟩, ⟨⟨%fs, Hs⟩, ⟨%fr, Hr⟩, Hbufs⟩, ⟨HsG, HsF, Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho0' := (Entails.of_eq (pts_oRowK (F := F) d L 0 _).symm) $$ Ho0
  ihave Ho1' := (Entails.of_eq (pts_oRowK (F := F) d L 1 _).symm) $$ Ho1
  ihave Ho2' := (Entails.of_eq (pts_oRowK (F := F) d L 2 _).symm) $$ Ho2
  ihave Ho3' := (Entails.of_eq (pts_oRowK (F := F) d L 3 _).symm) $$ Ho3
  ihave Ho4' := (Entails.of_eq (pts_oRowK (F := F) d L 4 _).symm) $$ Ho4
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hs' := (Entails.of_eq (show ((sV).view.loc (V d (cV L) (jV L)) ↦{fullShare} View.write (Elt F) (sV).view fs (tile_body.sl.dma0 ls d L) Finset.univ : sProp 𝕄)
      = (sV).view.loc (V d (cV L) (jV L)) ↦{fullShare} lst ls d L by rw [View.write_whole_univ]; rfl)) $$ Hs'
  have h0 := inb_of_pre ls d L hpre 0 inb_S2560_S512_0
  have h1 := inb_of_pre ls d L hpre 512 inb_S2560_S512_512
  have h2 := inb_of_pre ls d L hpre 1024 inb_S2560_S512_1024
  have h3 := inb_of_pre ls d L hpre 1536 inb_S2560_S512_1536
  have h4 := inb_of_pre ls d L hpre 2048 inb_S2560_S512_2048
  sl_exec
  ihave Ho0 := (Entails.of_eq (pointsTo_congr (blk_val tb ls d L 0 (o0 d) _ fun z =>
    (congrFun (rV_last d L fr _ _) z).trans (pay_val tb ls d L hpre 0 0 rfl _ rfl h0 z)))) $$ Ho0'
  ihave Ho1 := (Entails.of_eq (pointsTo_congr (blk_val tb ls d L 1 (o0 d) _ fun z =>
    (congrFun (rV_last d L fr _ _) z).trans (pay_val tb ls d L hpre 1 512 rfl _ rfl h1 z)))) $$ Ho1'
  ihave Ho2 := (Entails.of_eq (pointsTo_congr (blk_val tb ls d L 2 (o0 d) _ fun z =>
    (congrFun (rV_last d L fr _ _) z).trans (pay_val tb ls d L hpre 2 1024 rfl _ rfl h2 z)))) $$ Ho2'
  ihave Ho3 := (Entails.of_eq (pointsTo_congr (blk_val tb ls d L 3 (o0 d) _ fun z =>
    (congrFun (rV_last d L fr _ _) z).trans (pay_val tb ls d L hpre 3 1536 rfl _ rfl h3 z)))) $$ Ho3'
  ihave Ho4 := (Entails.of_eq (pointsTo_congr (blk_val tb ls d L 4 (o0 d) _ fun z =>
    (congrFun (rV_last d L fr _ _) z).trans (pay_val tb ls d L hpre 4 2048 rfl _ rfl h4 z)))) $$ Ho4'
  sl_step
  isplitl [Hi' Hx' Ho0 Ho1 Ho2 Ho3 Ho4]
  · isplitl [Hi']; · iapply (Entails.of_eq (pts_iRowK (F := F) d L _)); iexact Hi'
    isplitl [Hx']; · iexact Hx'
    isplitl [Ho0]; · iapply (Entails.of_eq (pts_oRowK (F := F) d L 0 _)); iexact Ho0
    isplitl [Ho1]; · iapply (Entails.of_eq (pts_oRowK (F := F) d L 1 _)); iexact Ho1
    isplitl [Ho2]; · iapply (Entails.of_eq (pts_oRowK (F := F) d L 2 _)); iexact Ho2
    isplitl [Ho3]; · iapply (Entails.of_eq (pts_oRowK (F := F) d L 3 _)); iexact Ho3
    iapply (Entails.of_eq (pts_oRowK (F := F) d L 4 _)); iexact Ho4
  isplitl [Hs' Hr' Hbufs]
  · isplitl [Hs']; · iexists _; iexact Hs'
    isplitl [Hr']; · iexists _; iexact Hr'
    iexact Hbufs
  isplitl [HsG HsF Hs0 Hs1 Hs2 Hs3 Hs4 Hsems]
  · isplitl [HsG]; · iexact HsG
    isplitl [HsF]; · iexact HsF
    isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  simp only [Finset.mem_insert] at hp
  rcases hp with hp | hp | hp | hp | hp | hp | hp | hp | hp | hp | hp | hp
  iterate 11 exact .inr (hp ▸ rfl)
  exact .inl hp

/-! ## What the handshakes carry, and the obligation -/

/-- The call hands each SparseCore its sixteen tasks' parts, and each subcore its task's; they come back with the rows gathered. -/
def P : (K (F := F)).Pay (nD := nD) (Val := Elt F) (Name := ℕ) (U := UU F) where
  st := fun q d c => match q with
    | 0 => bigSep Finset.univ fun i : Fin ((K (F := F)).nSub 0) => tkIn tb ls o0 d (tk (Fin.cast nCore_zero c) (Fin.cast nSub_zero i))
  dn := fun q d c => match q with
    | 0 => bigSep Finset.univ fun i : Fin ((K (F := F)).nSub 0) => tkOut tb ls d (tk (Fin.cast nCore_zero c) (Fin.cast nSub_zero i))
  go := fun q d c i => match q with | 0 => tkIn tb ls o0 d (tk (Fin.cast nCore_zero c) (Fin.cast nSub_zero i))
  td := fun q d c i => match q with | 0 => tkOut tb ls d (tk (Fin.cast nCore_zero c) (Fin.cast nSub_zero i))
  x := fun _ _ => iprop(emp)

instance P_storable : (P (F := F) tb ls o0).IsStorable where
  st q d c := match q with
    | 0 => (inferInstance : BI.Storable (upEmb : UEmb _ 𝕄)
      (bigSep Finset.univ fun i : Fin ((K (F := F)).nSub 0) => tkIn tb ls o0 d (tk (Fin.cast nCore_zero c) (Fin.cast nSub_zero i))))
  dn q d c := match q with
    | 0 => (inferInstance : BI.Storable (upEmb : UEmb _ 𝕄)
      (bigSep Finset.univ fun i : Fin ((K (F := F)).nSub 0) => tkOut tb ls d (tk (Fin.cast nCore_zero c) (Fin.cast nSub_zero i))))
  go q d c i := match q with
    | 0 => (inferInstance : BI.Storable (upEmb : UEmb _ 𝕄) (tkIn tb ls o0 d (tk (Fin.cast nCore_zero c) (Fin.cast nSub_zero i))))
  td q d c i := match q with
    | 0 => (inferInstance : BI.Storable (upEmb : UEmb _ 𝕄) (tkOut tb ls d (tk (Fin.cast nCore_zero c) (Fin.cast nSub_zero i))))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK ls) : (K (F := F)).TileObl (D (F := F)) 𝒱 (P tb ls o0) v₀ 0 := by
  intro d c i O W hO _ _
  simp only [show (P tb ls o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ls o0 d (coordsV ⟨_, hci.1⟩ ⟨_, hci.2⟩) hF hpre O W hO).trans (wp_mono frame _ _ fun _ => obl_post)

theorem vecSplit : (K (F := F)).VecSplit' (P tb ls o0) 0 := by
  intro d c
  show (bigSep Finset.univ fun i : Fin ((K (F := F)).nSub 0) => tkIn tb ls o0 d (tk (Fin.cast nCore_zero c) (Fin.cast nSub_zero i)))
    ⊢ |={Set.univ}=> iprop(
      (bigSep Finset.univ fun i : Fin ((K (F := F)).nSub 0) => tkIn tb ls o0 d (tk (Fin.cast nCore_zero c) (Fin.cast nSub_zero i)))
      ∗ ((bigSep Finset.univ fun i : Fin ((K (F := F)).nSub 0) => tkOut tb ls d (tk (Fin.cast nCore_zero c) (Fin.cast nSub_zero i)))
          -∗ bigSep Finset.univ fun i : Fin ((K (F := F)).nSub 0) => tkOut tb ls d (tk (Fin.cast nCore_zero c) (Fin.cast nSub_zero i))))
  iintro H; imodintro
  isplitl [H]; · iexact H
  iintro H; iexact H

end Tile

/-! ## The whole arrays and the tasks' parts -/

omit [FloatOps F] in
theorem iRowSet_eq (t : Fin 32) : iRowSet t = (irow t).set := by
  show ((View.whole (main_v1_scv : Ref sig .scVector)).slice (irow t)).set = _
  rw [View.set_slice]; exact Finset.map_refl
omit [FloatOps F] in
theorem oRowSet_eq (t : Fin 160) : oRowSet t = (orow t).set := by
  show ((View.whole (main_v5_scv : Ref sig .scVector)).slice (orow t)).set = _
  rw [View.set_slice]; exact Finset.map_refl

omit [FloatOps F] in
theorem iPts_rows (d : Dev nD) (f : Buf (Elt F) (iLoc d)) :
    (iLoc d ↦{fullShare} f : sProp 𝕄) = bigSep Finset.univ fun t : Fin 32 => iLoc d ↦[iRowSet t]{fullShare} f := by
  rw [← pointsTo_biUnion Finset.univ (ℓ := iLoc d) iRowSet (fun i _ j _ h => by rw [iRowSet_eq, iRowSet_eq]; exact Rect.part_disjoint idiv h),
    show (Finset.univ : Finset (Fin 32)).biUnion iRowSet = Finset.univ from (Finset.biUnion_congr rfl fun i _ => iRowSet_eq i).trans (Rect.biUnion_part idiv)]
  try rfl
omit [FloatOps F] in
theorem oPts_rows (d : Dev nD) (f : Buf (Elt F) (oLoc d)) :
    (oLoc d ↦{fullShare} f : sProp 𝕄) = bigSep Finset.univ fun t : Fin 160 => oRowPts d t f := by
  rw [← pointsTo_biUnion Finset.univ (ℓ := oLoc d) oRowSet (fun i _ j _ h => by rw [oRowSet_eq, oRowSet_eq]; exact Rect.part_disjoint odiv h),
    show (Finset.univ : Finset (Fin 160)).biUnion oRowSet = Finset.univ from (Finset.biUnion_congr rfl fun i _ => oRowSet_eq i).trans (Rect.biUnion_part odiv)]
  try rfl

/-- Two SparseCores of sixteen subcores are thirty-two tasks. -/
def eTk : Fin 2 × Fin 16 ≃ Fin 32 := Equiv.ofBijective (fun p => tk p.1 p.2) (by decide)
/-- Thirty-two tasks of five rounds are 160 blocks. -/
def eCk : Fin 32 × Fin 5 ≃ Fin 160 := finProdFinEquiv
theorem eCk_eq (t : Fin 32) (j : Fin 5) : eCk (t, j) = ck t j := Fin.ext (show j.val + 5 * t.val = 5 * t.val + j.val by omega)

omit [FloatOps F] in
/-- The tasks' blocks of the result are the whole result. -/
theorem oBlks_all (d : Dev nD) (f : Buf (Elt F) (oLoc d)) :
    (bigSep Finset.univ fun t : Fin 32 => oBlks d t f : sProp 𝕄) = (oLoc d ↦{fullShare} f) := by
  rw [oPts_rows, bigSep_univ_equiv eCk, bigSep_univ_prod]
  refine bigSep_congr fun t _ => ?_
  rw [bigSep_univ_eq_bigSepL [0, 1, 2, 3, 4] (by decide) (by decide)]
  simp only [eCk_eq]
  rfl

/-- The tasks' parts, all together, are the three arrays whole. -/
theorem parts_whole (d : Dev nD) (f : Buf (Elt F) (oLoc d)) :
    (bigSep Finset.univ fun c : Fin ((K (F := F)).nCore 0) => bigSep Finset.univ fun i : Fin ((K (F := F)).nSub 0) =>
        (iprop(iRowPts ls d (tk (Fin.cast nCore_zero c) (Fin.cast nSub_zero i)) ∗ xShPts tb d (tk (Fin.cast nCore_zero c) (Fin.cast nSub_zero i))
          ∗ oBlks d (tk (Fin.cast nCore_zero c) (Fin.cast nSub_zero i)) f) : sProp 𝕄))
      = iprop((iLoc d ↦{fullShare} ls d) ∗ (xLoc d ↦{fullShare} tb d) ∗ oLoc d ↦{fullShare} f) := by
  rw [iPts_rows, ← oBlks_all d f, ShareLeaves.pointsTo_leaves Finset.univ (tb d) 5 fullShare, ← bigSep_sep', ← bigSep_sep']
  exact (bigSep_univ_prod (α := Fin 2) (β := Fin 16) fun p => iprop(iRowPts ls d (tk p.1 p.2) ∗ xShPts tb d (tk p.1 p.2) ∗ oBlks d (tk p.1 p.2) f)).symm.trans
    (bigSep_univ_equiv eTk fun t => iprop(iRowPts ls d t ∗ xShPts tb d t ∗ oBlks d t f)).symm

/-- What the call takes, and what it leaves. -/
theorem st0_eq (d : Dev nD) : (bigSep Finset.univ fun c : Fin ((K (F := F)).nCore 0) => (P tb ls o0).st 0 d c)
    = iprop((iLoc d ↦{fullShare} ls d) ∗ (xLoc d ↦{fullShare} tb d) ∗ oLoc d ↦{fullShare} o0 d) := parts_whole tb ls d (o0 d)
theorem dn0_eq (d : Dev nD) : (bigSep Finset.univ fun c : Fin ((K (F := F)).nCore 0) => (P tb ls o0).dn 0 d c)
    = iprop((iLoc d ↦{fullShare} ls d) ∗ (xLoc d ↦{fullShare} tb d) ∗ oLoc d ↦{fullShare} gt tb ls d) := parts_whole tb ls d (gt tb ls d)

end Cert.Proof
-- ==== Proof.Copies.lean ====
/-
  Row copies of one grid point. All the copies that a point starts on one semaphore are a batch. Several copies may write
  one row of the result (the last copies of a point repeat its last user), all with the same words, so the result array
  is held in write mode: every element's target is fixed, any share of it lets a copy write its row, and each holder
  knows which elements have been written. What is proved here: starting a copy of a batch in write mode, and collecting
  all the shares and marks of a batch that has been waited for.
-/
module

public import proofs.«01_k».proof.Proof.Tile
public import Idealize.ShloMosaic.Lib.Batch

@[expose] public section

noncomputable section

namespace Cert.Proof

open Cert.KernelIdeal Cert.KernelIdeal.Gen

open Idealize.ShloMosaic Idealize.ShloMosaic.TcCoe
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

/-- Where the certificate's ghost state keeps the marks of the written elements. -/
def emW : UEmb (WmRA nD τ sig (Elt F)) (UU F) :=
  ((UEmb.inl : UEmb (UW F) (UW F × Counters)).trans UEmb.inr).trans UEmb.inr

/-- Where it keeps the counts of the batches. -/
abbrev EC : UEmb Counters (MT nD τ sig (HIx 1) (Elt F) ℕ (UU F) ℕ) := countersEmb (U := UU F)

/-- The share that is left after `k` copies have each taken theirs, and the share that the next copy takes. -/
def rst : ℕ → PosShare TreeShare
  | 0 => fullShare
  | k + 1 => (rst k).right
abbrev shr (k : ℕ) : PosShare TreeShare := (rst k).left

/-- A share of a result array in write mode: the target of every element is `g`'s, those in `W` have been written. -/
abbrev wb (ℓ : Loc nD τ sig) (q : PosShare TreeShare) (f g : Buf (Elt F) ℓ) (W : Finset (Idx ℓ)) : sProp 𝕄 :=
  willBeTo emW ℓ Finset.univ q f (fun i => some (g i)) W

theorem wb_split (ℓ : Loc nD τ sig) (q : PosShare TreeShare) (f g : Buf (Elt F) ℓ) (W : Finset (Idx ℓ)) :
    (wb ℓ q f g W : sProp 𝕄) ⊢ iprop(wb ℓ q.left f g W ∗ wb ℓ q.right f g W) := by
  haveI := IsOp.posShare_halves q
  iintro H
  icases H with ⟨H1, H2⟩
  isplitl [H1] <;> iassumption

theorem wb_join (ℓ : Loc nD τ sig) (q : PosShare TreeShare) (f g : Buf (Elt F) ℓ) (W₁ W₂ : Finset (Idx ℓ)) :
    (iprop(wb ℓ q.left f g W₁ ∗ wb ℓ q.right f g W₂) : sProp 𝕄) ⊢ wb ℓ q f g (W₁ ∪ W₂) := by
  haveI := IsOp.posShare_halves q
  iintro ⟨H1, H2⟩
  icombine H1 H2 as H
  iexact H

/-- What a copy delivers: its share of the result with its row's elements marked, and its share of the source. -/
abbrev dlv (ℓ ℓs : Loc nD τ sig) (f g : Buf (Elt F) ℓ) (fs : Buf (Elt F) ℓs) (W : Finset (Idx ℓ)) {n : ℕ} (R : Fin n → Finset (Idx ℓ)) (t : Fin n) : sProp 𝕄 :=
  iprop(wb ℓ (shr t.val) f g (W ∪ R t) ∗ (ℓs ↦{shr t.val} fs))

/-- All deliveries and the shares that were left: both arrays whole, every copied row marked. -/
theorem dlv_collect (ℓ ℓs : Loc nD τ sig) (f g : Buf (Elt F) ℓ) (fs : Buf (Elt F) ℓs) (W : Finset (Idx ℓ)) {n : ℕ} (R : Fin n → Finset (Idx ℓ)) :
    (iprop(bigSep Finset.univ (dlv ℓ ℓs f g fs W R) ∗ wb ℓ (rst n) f g W ∗ (ℓs ↦{rst n} fs)) : sProp 𝕄)
      ⊢ iprop(∃ W', ⌜W ⊆ W' ∧ ∀ t, R t ⊆ W'⌝ ∗ wb ℓ fullShare f g W' ∗ (ℓs ↦{fullShare} fs)) := by
  have key : ∀ k, k ≤ n → ((iprop(bigSep (pending (n := n) k) (dlv ℓ ℓs f g fs W R) ∗ wb ℓ (rst n) f g W ∗ (ℓs ↦{rst n} fs)) : sProp 𝕄)
      ⊢ iprop(∃ W', ⌜W ⊆ W' ∧ ∀ t : Fin n, k ≤ t.val → R t ⊆ W'⌝ ∗ wb ℓ (rst k) f g W' ∗ (ℓs ↦{rst k} fs))) := by
    intro k hk
    induction hk using Nat.decreasingInduction with
    | self =>
      iintro ⟨-, H1, H2⟩
      iexists W
      isplitr
      · ipureintro; exact ⟨subset_rfl, fun t ht => absurd t.isLt (by omega)⟩
      isplitl [H1] <;> iassumption
    | of_succ k hk ih =>
      rw [bigSep_pending_step _ k hk]
      iintro ⟨⟨⟨Hw, Hs⟩, Hb⟩, H1, H2⟩
      ihave H := ih $$ [Hb H1 H2]
      · isplitl [Hb]; · iexact Hb
        isplitl [H1] <;> iassumption
      icases H with ⟨%W', %hW, H1, H2⟩
      iexists (W ∪ R ⟨k, hk⟩) ∪ W'
      isplitr
      · ipureintro
        refine ⟨hW.1.trans Finset.subset_union_right, fun t ht => ?_⟩
        rcases Nat.eq_or_lt_of_le ht with h | h
        · have : t = ⟨k, hk⟩ := Fin.ext h.symm
          subst this
          exact Finset.subset_union_right.trans Finset.subset_union_left
        · exact (hW.2 t h).trans Finset.subset_union_right
      isplitl [Hw H1]
      · iapply (wb_join ℓ (rst k) f g _ W')
        isplitl [Hw]; · iexact Hw
        iexact H1
      · iapply (pointsTo_share (PosShare.mem_left_op_right (rst k))).2
        isplitl [Hs]; · iexact Hs
        iexact H2
  have h0 := key 0 (Nat.zero_le n)
  rw [pending_zero] at h0
  iintro H
  ihave H := h0 $$ H
  icases H with ⟨%W', %hW, H1, H2⟩
  iexists W'
  isplitr
  · ipureintro; exact ⟨hW.1, fun t => hW.2 t (Nat.zero_le _)⟩
  isplitl [H1]; · iexact H1
  iexact H2

variable {Λ : Labels} {defs : Defs nD τ sig (Elt F) Λ} (𝒱 : Variants) (bd : Option 𝒱.V) {α : Type} {Q : α → sProp (MT nD τ sig (HIx 1) (Elt F) ℕ (UU F) ℕ)}

/-- Starting the batch's next copy: a row of the scratch buffer into a row of the result, whose targets it agrees with. -/
theorem wp_rowCopy (c : Thread nD τ) {sp sp' : Space} {s : Shape} {e : EltTy} {n : ℕ} {src : Memref sig c.2.kind sp s e} {dst : Memref sig c.2.kind sp' s e}
    {sm : SemLoc sig} {hsrc : src.view.WordExact} {hdst : dst.view.WordExact} {hsem : DmaTarget.Typed (nD := nD) sp sm (.here dst)}
    {k : PUnit → Prog (TpuEff nD τ sig (Elt F) Λ c.2) α} (N : ℕ) (hN : dst.view.amount sm = N)
    {fs : Buf (Elt F) (src.view.loc c)} {f g : Buf (Elt F) (dst.view.loc c)} {W : Finset (Idx (dst.view.loc c))}
    {R : Fin n → Finset (Idx (dst.view.loc c))} {j : ℕ} (hj : j < n) (hR : dst.view.set = R ⟨j, hj⟩) {ιw : ℕ}
    (hadm : dst.view.Admitted (Elt F) (fun i => some (g i)) (src.view.read (Elt F) fs) Finset.univ) :
    iprop(wmInv emW ιw ∗ (src.view.loc c ↦{rst j} fs) ∗ wb (dst.view.loc c) (rst j) f g W
        ∗ Batch EC c sm none N (dlv (dst.view.loc c) (src.view.loc c) f g fs W R) j 0)
      ⊢ iprop((iprop((src.view.loc c ↦{rst (j + 1)} fs) ∗ wb (dst.view.loc c) (rst (j + 1)) f g W
            ∗ Batch EC c sm none N (dlv (dst.view.loc c) (src.view.loc c) f g fs W R) (j + 1) 0)
          -∗ wp frame (wpE defs 𝒱 c bd) Set.univ (k ⟨⟩) Q)
          -∗ wp frame (wpE defs 𝒱 c bd) Set.univ (.op (.enqueueDma src (.here dst) sm hsrc hdst hsem) k) Q) := by
  unfold Batch
  iintro ⟨#Hw, Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (bigSep_pending_step _ j hj)) $$ HI
  icases HI' with ⟨Ht, HI⟩
  ihave Hs' := (pointsTo_share (PosShare.mem_left_op_right (rst j))).1 $$ Hs
  icases Hs' with ⟨Hs1, Hs2⟩
  ihave Hs1' := (pointsTo_split_subset (ℓ := src.view.loc c) (Finset.subset_univ src.view.set)).1 $$ Hs1
  icases Hs1' with ⟨Hsr, Hso⟩
  ihave Hd' := (wb_split _ (rst j) f g W) $$ Hd
  icases Hd' with ⟨Hd1, Hd2⟩
  iapply (wp_enqueueDma 𝒱 c bd Set.univ none N hN) $$ [Hsr Hd1] [Ht Hso]
  · isplitl [Hsr]; · iexact Hsr
    iapply (willBeTo_writeUpdate (emb := emW) (ιwm := ιw) c (Finset.subset_univ dst.view.set) hadm)
    isplitr; · iexact Hw
    iexact Hd1
  · iapply (batch_creditUpdate_with EC ⟨j, hj⟩ (D := dlv (dst.view.loc c) (src.view.loc c) f g fs W R)
      (put := iprop((src.view.loc c) ↦[Finset.univ \ src.view.set]{shr j} fs)) ?_)
    · rw [hR]
      iintro ⟨Hso, Hd1, Hsr⟩
      isplitl [Hd1]; · iexact Hd1
      iapply (pointsTo_split_subset (ℓ := src.view.loc c) (Finset.subset_univ src.view.set)).2
      isplitl [Hsr]; · iexact Hsr
      iexact Hso
    isplitr; · iexact Hinv
    isplitl [Ht]; · iexact Ht
    iexact Hso
  iintro Hcred'
  iapply Hk
  isplitl [Hs2]; · iexact Hs2
  isplitl [Hd2]; · iexact Hd2
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

end Cert.Proof

end
-- ==== Proof.Trips.lean ====
/-
  The counting of the pass over the tables: at a point with `y - x` of the sorted users, the loops make
  `(y - x + 3) / 4` trips of four copies, and the copy `j` of trip `t` is of the user numbered `min (x + 4 t + j) (y - 1)`.
-/
module

public import proofs.«01_k».proof.Defs
public import proofs.«01_k».proof.Proof.Gen.KernelIdeal

@[expose] public section

set_option maxRecDepth 16384

noncomputable section

namespace Cert.Proof

open Cert.KernelIdeal Cert.KernelIdeal.Gen
open Idealize.ShloMosaic

/-! ## The conditions on the point's number -/

theorem cond1_iff (i : grid1.Coords) : k1_cond1 i = 1#1 ↔ (i 0).val = 0 := by
  unfold k1_cond1; generalize i 0 = k; revert k; decide +kernel
theorem cond2_iff (i : grid1.Coords) : k1_cond2 i = 1#1 ↔ 0 < (i 0).val := by
  unfold k1_cond2; generalize i 0 = k; revert k; decide +kernel
theorem cond3_iff (i : grid1.Coords) : k1_cond3 i = 1#1 ↔ (i 0).val < 48 := by
  unfold k1_cond3; generalize i 0 = k; revert k; decide +kernel
theorem cond4_iff (i : grid1.Coords) : k1_cond4 i = 1#1 ↔ (i 0).val = 48 := by
  unfold k1_cond4; generalize i 0 = k; revert k; decide +kernel
theorem cond5_iff (i : grid1.Coords) : k1_cond5 i = 1#1 ↔ (i 0).val = 48 := by
  unfold k1_cond5; generalize i 0 = k; revert k; decide +kernel

theorem off1_eq (i : grid1.Coords) (h : 0 < (i 0).val) : k1_off1 i = ![(i 0).val - 1] := by
  unfold k1_off1; revert h; generalize i 0 = k; revert k; decide +kernel
theorem off2_eq (i : grid1.Coords) : k1_off2 i = ![(i 0).val] := by
  unfold k1_off2; generalize i 0 = k; revert k; decide +kernel
theorem off3_eq (i : grid1.Coords) : k1_off3 i = ![(i 0).val] := by
  unfold k1_off3; generalize i 0 = k; revert k; decide +kernel
theorem off4_eq (i : grid1.Coords) : k1_off4 i = ![(i 0).val + 1] := by
  unfold k1_off4; generalize i 0 = k; revert k; decide +kernel

/-! ## The trips -/

/-- The trips of four that `d` copies need. -/
abbrev nTrip (d : ℕ) : ℕ := (d + 3) / 4

/-- A loop from zero to `n`, and one of no trips. -/
abbrev upTo (n : ℕ) : Scf.Loop 32 := ⟨0#32, BitVec.ofNat 32 n, 1#32⟩
abbrev noTrip (n : ℕ) : Scf.Loop 32 := ⟨BitVec.ofNat 32 n, BitVec.ofNat 32 n, 1#32⟩

theorem toInt_ofNat {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem upTo_trips {n : ℕ} (h : n < 2 ^ 31) : (upTo n).trips = n := by
  show (((BitVec.ofNat 32 n).toInt - (0#32).toInt + (1#32).toInt - 1) / (1#32).toInt).toNat = n
  rw [toInt_ofNat h, show (0#32).toInt = 0 by decide, show (1#32).toInt = 1 by decide]
  omega
theorem upTo_ok {n : ℕ} (h : n < 2 ^ 31) : (upTo n).OK := by
  refine ⟨(by decide : 0 < (1#32).toInt), ?_⟩
  show (0#32).toInt + ((upTo n).trips : Int) * (1#32).toInt < 2 ^ 31
  rw [upTo_trips h, show (0#32).toInt = 0 by decide, show (1#32).toInt = 1 by decide]
  omega
theorem noTrip_trips (n : ℕ) : (noTrip n).trips = 0 := by
  show (((BitVec.ofNat 32 n).toInt - (BitVec.ofNat 32 n).toInt + (1#32).toInt - 1) / (1#32).toInt).toNat = 0
  rw [show (1#32).toInt = 1 by decide]
  omega
theorem noTrip_ok {n : ℕ} (h : n < 2 ^ 31) : (noTrip n).OK := by
  refine ⟨(by decide : 0 < (1#32).toInt), ?_⟩
  show (BitVec.ofNat 32 n).toInt + ((noTrip n).trips : Int) * (1#32).toInt < 2 ^ 31
  rw [noTrip_trips, toInt_ofNat h]
  omega

theorem sub_zero' (a b : BitVec 32) : Scalar.subi (Scalar.subi b a) 0#32 = Scalar.subi b a := BitVec.sub_zero _

theorem t1_shift (a b : BitVec 32) : k1_t1_loop a b = k1_t1_loop 0#32 (Scalar.subi b a) := by unfold k1_t1_loop; simp only [sub_zero']
theorem t2_shift (a b : BitVec 32) : k1_t2_loop a b = k1_t2_loop 0#32 (Scalar.subi b a) := by unfold k1_t2_loop; simp only [sub_zero']
theorem t3_shift (a b : BitVec 32) : k1_t3_loop a b = k1_t3_loop 0#32 (Scalar.subi b a) := by unfold k1_t3_loop; simp only [sub_zero']
theorem t4_shift (a b : BitVec 32) : k1_t4_loop a b = k1_t4_loop 0#32 (Scalar.subi b a) := by unfold k1_t4_loop; simp only [sub_zero']
theorem t5_shift (a b : BitVec 32) : k1_t5_loop a b = k1_t5_loop 0#32 (Scalar.subi b a) := by unfold k1_t5_loop; simp only [sub_zero']
theorem t6_shift (a b : BitVec 32) : k1_t6_loop a b = k1_t6_loop 0#32 (Scalar.subi b a) := by unfold k1_t6_loop; simp only [sub_zero']

/-- What the six loops' operands are, for `d` copies. -/
theorem ops_all : ∀ d : Fin 4097,
    (k1_t1_loop 0#32 (BitVec.ofNat 32 d.val)).ub = BitVec.ofNat 32 (nTrip d.val)
    ∧ (k1_t2_loop 0#32 (BitVec.ofNat 32 d.val)).lb = BitVec.ofNat 32 (nTrip d.val) ∧ (k1_t2_loop 0#32 (BitVec.ofNat 32 d.val)).ub = BitVec.ofNat 32 (nTrip d.val) := by
  decide +kernel

theorem sub_ofNat {x y : ℕ} (h : x ≤ y) (hy : y < 2 ^ 31) : Scalar.subi (BitVec.ofNat 32 y) (BitVec.ofNat 32 x) = BitVec.ofNat 32 (y - x) := by
  show BitVec.ofNat 32 y - BitVec.ofNat 32 x = _
  apply BitVec.eq_of_toNat_eq
  rw [BitVec.toNat_sub, BitVec.toNat_ofNat, BitVec.toNat_ofNat, BitVec.toNat_ofNat]
  omega

variable {x y : ℕ}

theorem t1_eq (h : x ≤ y) (hy : y ≤ 4096) : k1_t1_loop (BitVec.ofNat 32 x) (BitVec.ofNat 32 y) = upTo (nTrip (y - x)) := by
  rw [t1_shift, sub_ofNat h (by omega)]
  have := (ops_all ⟨y - x, by omega⟩).1
  show (⟨0#32, (k1_t1_loop 0#32 (BitVec.ofNat 32 (y - x))).ub, 1#32⟩ : Scf.Loop 32) = _
  rw [this]
theorem t2_eq (h : x ≤ y) (hy : y ≤ 4096) : k1_t2_loop (BitVec.ofNat 32 x) (BitVec.ofNat 32 y) = noTrip (nTrip (y - x)) := by
  rw [t2_shift, sub_ofNat h (by omega)]
  have := (ops_all ⟨y - x, by omega⟩).2
  show (⟨(k1_t2_loop 0#32 (BitVec.ofNat 32 (y - x))).lb, (k1_t2_loop 0#32 (BitVec.ofNat 32 (y - x))).ub, 1#32⟩ : Scf.Loop 32) = _
  rw [this.1, this.2]
theorem t3_eq (h : x ≤ y) (hy : y ≤ 4096) : k1_t3_loop (BitVec.ofNat 32 x) (BitVec.ofNat 32 y) = upTo (nTrip (y - x)) := t1_eq h hy
theorem t4_eq (h : x ≤ y) (hy : y ≤ 4096) : k1_t4_loop (BitVec.ofNat 32 x) (BitVec.ofNat 32 y) = noTrip (nTrip (y - x)) := t2_eq h hy
theorem t5_eq (h : x ≤ y) (hy : y ≤ 4096) : k1_t5_loop (BitVec.ofNat 32 x) (BitVec.ofNat 32 y) = upTo (nTrip (y - x)) := t1_eq h hy
theorem t6_eq (h : x ≤ y) (hy : y ≤ 4096) : k1_t6_loop (BitVec.ofNat 32 x) (BitVec.ofNat 32 y) = noTrip (nTrip (y - x)) := t2_eq h hy

theorem t3_trips (h : x ≤ y) (hy : y ≤ 4096) : (k1_t3_loop (BitVec.ofNat 32 x) (BitVec.ofNat 32 y)).trips = nTrip (y - x) := by
  rw [t3_eq h hy]; exact upTo_trips (by show (y - x + 3) / 4 < 2 ^ 31; omega)
theorem t1_trips (h : x ≤ y) (hy : y ≤ 4096) : (k1_t1_loop (BitVec.ofNat 32 x) (BitVec.ofNat 32 y)).trips = nTrip (y - x) := t3_trips h hy
theorem t5_trips (h : x ≤ y) (hy : y ≤ 4096) : (k1_t5_loop (BitVec.ofNat 32 x) (BitVec.ofNat 32 y)).trips = nTrip (y - x) := t3_trips h hy
theorem t4_trips (h : x ≤ y) (hy : y ≤ 4096) : (k1_t4_loop (BitVec.ofNat 32 x) (BitVec.ofNat 32 y)).trips = 0 := by
  rw [t4_eq h hy]; exact noTrip_trips _
theorem t2_trips (h : x ≤ y) (hy : y ≤ 4096) : (k1_t2_loop (BitVec.ofNat 32 x) (BitVec.ofNat 32 y)).trips = 0 := t4_trips h hy
theorem t6_trips (h : x ≤ y) (hy : y ≤ 4096) : (k1_t6_loop (BitVec.ofNat 32 x) (BitVec.ofNat 32 y)).trips = 0 := t4_trips h hy
theorem t3_ok (h : x ≤ y) (hy : y ≤ 4096) : (k1_t3_loop (BitVec.ofNat 32 x) (BitVec.ofNat 32 y)).OK := by
  rw [t3_eq h hy]; exact upTo_ok (by show (y - x + 3) / 4 < 2 ^ 31; omega)
theorem t4_ok (h : x ≤ y) (hy : y ≤ 4096) : (k1_t4_loop (BitVec.ofNat 32 x) (BitVec.ofNat 32 y)).OK := by
  rw [t4_eq h hy]; exact noTrip_ok (by show (y - x + 3) / 4 < 2 ^ 31; omega)

theorem chk1_ok (i : grid1.Coords) (h : x ≤ y) (hy : y ≤ 4096) : k1_chk1 i (BitVec.ofNat 32 x) (BitVec.ofNat 32 y) :=
  ⟨fun _ => t3_ok h hy, fun _ => t4_ok h hy⟩

/-- The user that copy `j` of trip `t` is of. -/
abbrev kk (x y t j : ℕ) : ℕ := min (x + 4 * t + j) (y - 1)

theorem slt_ofNat {p q : ℕ} (hp : p < 2 ^ 31) (hq : q < 2 ^ 31) : (BitVec.ofNat 32 p).slt (BitVec.ofNat 32 q) = decide (p < q) := by
  rw [BitVec.slt_eq_decide, toInt_ofNat hp, toInt_ofNat hq]
  congr 1
  exact propext Int.ofNat_lt

theorem kk_word (t j : ℕ) (h : x < y) (hy : y ≤ 4096) (ht : t < nTrip (y - x)) (hj : j < 4) :
    (Scalar.indexCast (Scalar.minsi (Scalar.addi (Scalar.addi (BitVec.ofNat 32 x) (Scalar.muli (Scf.iv 0#32 1#32 t) 4#32)) (BitVec.ofNat 32 j))
      (Scalar.subi (BitVec.ofNat 32 y) 1#32))).toNat = kk x y t j := by
  have ht' : t < 1025 := by have : (y - x + 3) / 4 < 1025 := by omega
                            exact ht.trans this
  have e1 : Scalar.addi (Scalar.addi (BitVec.ofNat 32 x) (Scalar.muli (Scf.iv 0#32 1#32 t) 4#32)) (BitVec.ofNat 32 j) = BitVec.ofNat 32 (x + 4 * t + j) := by
    show BitVec.ofNat 32 x + (0#32 + BitVec.ofNat 32 t * 1#32) * 4#32 + BitVec.ofNat 32 j = _
    apply BitVec.eq_of_toNat_eq
    simp only [BitVec.toNat_add, BitVec.toNat_mul, BitVec.toNat_ofNat]
    omega
  have e2 : Scalar.subi (BitVec.ofNat 32 y) 1#32 = BitVec.ofNat 32 (y - 1) := sub_ofNat (x := 1) (by omega) (by omega)
  rw [e1, e2]
  show (if (BitVec.ofNat 32 (x + 4 * t + j)).slt (BitVec.ofNat 32 (y - 1)) then BitVec.ofNat 32 (x + 4 * t + j) else BitVec.ofNat 32 (y - 1)).toNat = _
  rw [slt_ofNat (by omega) (by omega)]
  unfold kk
  by_cases hlt : x + 4 * t + j < y - 1
  · rw [if_pos (decide_eq_true hlt), BitVec.toNat_ofNat, Nat.mod_eq_of_lt (by omega)]; omega
  · rw [if_neg (by simpa using hlt), BitVec.toNat_ofNat, Nat.mod_eq_of_lt (by omega)]; omega

theorem ht_of (h : x ≤ y) (hy : y ≤ 4096) (t : Fin (k1_t3_loop (BitVec.ofNat 32 x) (BitVec.ofNat 32 y)).trips) : t.val < nTrip (y - x) ∧ x < y := by
  have := t.isLt.trans_eq (t3_trips h hy)
  refine ⟨this, ?_⟩
  have h2 : t.val < (y - x + 3) / 4 := this
  omega

theorem off5_eq (h : x ≤ y) (hy : y ≤ 4096) (t) : k1_off5 (BitVec.ofNat 32 x) (BitVec.ofNat 32 y) t = ![kk x y t.val 0] :=
  congrArg (fun n : ℕ => (![n] : Fin 1 → ℕ)) (kk_word t.val 0 (ht_of h hy t).2 hy (ht_of h hy t).1 (by decide))
theorem off10_eq (h : x ≤ y) (hy : y ≤ 4096) (t) : k1_off10 (BitVec.ofNat 32 x) (BitVec.ofNat 32 y) t = ![kk x y t.val 1] :=
  congrArg (fun n : ℕ => (![n] : Fin 1 → ℕ)) (kk_word t.val 1 (ht_of h hy t).2 hy (ht_of h hy t).1 (by decide))
theorem off15_eq (h : x ≤ y) (hy : y ≤ 4096) (t) : k1_off15 (BitVec.ofNat 32 x) (BitVec.ofNat 32 y) t = ![kk x y t.val 2] :=
  congrArg (fun n : ℕ => (![n] : Fin 1 → ℕ)) (kk_word t.val 2 (ht_of h hy t).2 hy (ht_of h hy t).1 (by decide))
theorem off20_eq (h : x ≤ y) (hy : y ≤ 4096) (t) : k1_off20 (BitVec.ofNat 32 x) (BitVec.ofNat 32 y) t = ![kk x y t.val 3] :=
  congrArg (fun n : ℕ => (![n] : Fin 1 → ℕ)) (kk_word t.val 3 (ht_of h hy t).2 hy (ht_of h hy t).1 (by decide))

theorem kk_lt (h : x < y) (t j : ℕ) : x ≤ kk x y t j ∧ kk x y t j < y := by unfold kk; omega

theorem inb_kk (h : x < y) (hy : y ≤ 4096) (t j : ℕ) (a : Fin 1) : (![kk x y t j] : Fin 1 → ℕ) a + S1.size a ≤ S4096.size a := by
  have := (kk_lt h t j).2
  match a with
  | 0 => show kk x y t j + 1 ≤ 4096; omega

theorem chk2_ok (i : grid1.Coords) (h : x ≤ y) (hy : y ≤ 4096) : k1_chk2 i (BitVec.ofNat 32 x) (BitVec.ofNat 32 y) := by
  refine ⟨t3_ok h hy, fun t => ?_, fun t => ?_, fun t => ?_, fun t => ?_, t4_ok h hy, fun t => ?_, fun t => ?_, fun t => ?_, fun t => ?_, fun _ => t3_ok h hy, fun _ => t4_ok h hy⟩
  · rw [off5_eq h hy]; exact inb_kk (ht_of h hy t).2 hy _ _
  · rw [off10_eq h hy]; exact inb_kk (ht_of h hy t).2 hy _ _
  · rw [off15_eq h hy]; exact inb_kk (ht_of h hy t).2 hy _ _
  · rw [off20_eq h hy]; exact inb_kk (ht_of h hy t).2 hy _ _
  all_goals exact absurd (t.isLt.trans_eq (t4_trips h hy)) (Nat.not_lt_zero _)

/-! ## The rows -/

/-- A user of block `g` is a column of the block. -/
theorem col_eq {g : ℕ} (hg : g < 49) (v : BitVec 32) (h1 : 2048 * g ≤ v.toNat) :
    (Scalar.subi v (Scalar.muli (BitVec.ofNat 32 g) 2048#32)).toNat = v.toNat - 2048 * g := by
  show (v - BitVec.ofNat 32 g * 2048#32).toNat = _
  rw [BitVec.toNat_sub, BitVec.toNat_mul, BitVec.toNat_ofNat]
  have := v.isLt
  simp only [BitVec.toNat_ofNat]
  omega

theorem off7_eq (i : grid1.Coords) (v : BitVec 32) (h1 : 2048 * (i 0).val ≤ v.toNat) : k1_off7 i v = ![v.toNat - 2048 * (i 0).val, 0] :=
  congrArg (fun n : ℕ => (![n, 0] : Fin 2 → ℕ)) (col_eq (i 0).isLt v h1)

theorem chk_col (i : grid1.Coords) (v : BitVec 32) (h1 : 2048 * (i 0).val ≤ v.toNat) (h2 : v.toNat < 2048 * ((i 0).val + 1)) : k1_chk4 i v := by
  have e := off7_eq i v h1
  refine ⟨fun a => ?_, fun a => ?_⟩
  · rw [e]
    match a with
    | 0 => show v.toNat - 2048 * (i 0).val + 1 ≤ 2048; omega
    | 1 => show 0 + 1000 ≤ 1000; omega
  · rw [show k1_off9 i v = k1_off7 i v from rfl, e]
    match a with
    | 0 => show v.toNat - 2048 * (i 0).val + 1 ≤ 2048; omega
    | 1 => show 0 + 64 ≤ 64; omega
theorem chk_row (v : BitVec 32) (h : v.toNat < 4096) : k1_chk3 v := by
  refine ⟨fun a => ?_, fun a => ?_⟩
  · match a with
    | 0 => show v.toNat + 1 ≤ 4096; omega
    | 1 => show 0 + 1000 ≤ 1000; omega
  · match a with
    | 0 => show v.toNat + 1 ≤ 4096; omega
    | 1 => show 0 + 64 ≤ 64; omega

end Cert.Proof

end
-- ==== Proof.Pairs.lean ====
/-
  The two copies of one user: the user's number and the place of it in the results are read from the tables, and a row
  of each of the two transposed blocks is sent to its place. A trip of the copying loop is four of these pairs, a trip of
  the waiting loop is four pairs of waits.
-/
module

public import proofs.«01_k».proof.Proof.Copies
public import proofs.«01_k».proof.Proof.Trips
public import proofs.«01_k».proof.Proof.Gen.KernelIdeal.Skeleton

@[expose] public section

set_option maxRecDepth 65536

noncomputable section

namespace Cert.Proof

open Cert.KernelIdeal Cert.KernelIdeal.Gen

open Idealize.ShloMosaic Idealize.ShloMosaic.TcCoe
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

abbrev Prg (F : FTy → Type) (α : Type) : Type 1 := Prog (TpuEff nD τ sig (Elt F) Λ₀ .tc) α

/-! ## The pieces of the program -/

/-- Both copies of the user at `o` of the tables. -/
def copyPair (i : grid1.Coords) (o : Fin 1 → ℕ) (ho : ∀ a, o a + S1.size a ≤ S4096.size a) : Prg F PUnit := do
  let v64 : Elt F .i32 ← smemLoad (Memref.whole main_v11) (Rect.unit (s := S4096) o S1.size ho) numel1_S1 rfl
  have h4 : k1_chk4 i v64 := (← Prog.lift (TpuEff.assume (k1_chk4 i v64) (k1_chk4.dec i v64))).down
  let v68 : Elt F .i32 ← smemLoad (Memref.whole main_v12) (Rect.unit (s := S4096) o S1.size ho) numel1_S1 rfl
  have h3 : k1_chk3 v68 := (← Prog.lift (TpuEff.assume (k1_chk3 v68) (k1_chk3.dec v68))).down
  let v69 : Memref sig .tc .hbm S1x1000 .f32 := (Memref.whole main_v25_1).slice (Rect.unit (s := S4096x1000) (k1_off6 v68) S1x1000.size (k1_off6_inb v68 h3)) (fun _ => rfl)
  let v70 : Memref sig .tc .vmem S1x1000 .f32 := (Memref.whole cc1_scratch0).slice (Rect.unit (s := S2048x1000) (k1_off7 i v64) S1x1000.size (k1_off7_inb i v64 h4)) (fun _ => rfl)
  Prog.lift (.enqueueDma v70 (.here v69) (.dma cc1_scratch2.sem) (View.wordExact_bits rfl) (View.wordExact_bits rfl) ⟨Or.inl rfl, trivial⟩)
  let v71 : Memref sig .tc .hbm S1x64 .f32 := (Memref.whole main_v25_2).slice (Rect.unit (s := S4096x64) (k1_off8 v68) S1x64.size (k1_off8_inb v68 h3)) (fun _ => rfl)
  let v72 : Memref sig .tc .vmem S1x64 .f32 := (Memref.whole cc1_scratch1).slice (Rect.unit (s := S2048x64) (k1_off9 i v64) S1x64.size (k1_off9_inb i v64 h4)) (fun _ => rfl)
  Prog.lift (.enqueueDma v72 (.here v71) (.dma cc1_scratch3.sem) (View.wordExact_bits rfl) (View.wordExact_bits rfl) ⟨Or.inl rfl, trivial⟩)

/-- A row of the places of the results and of the blocks, as the waits name them. -/
abbrev rowH : Memref sig .tc .hbm S1x1000 .f32 := (Memref.whole main_v25_1).slice (Rect.unit (s := S4096x1000) ![0, 0] S1x1000.size inb_S4096x1000_S1x1000_0_0) (fun _ => rfl)
abbrev rowU : Memref sig .tc .hbm S1x64 .f32 := (Memref.whole main_v25_2).slice (Rect.unit (s := S4096x64) ![0, 0] S1x64.size inb_S4096x64_S1x64_0_0) (fun _ => rfl)
abbrev srcH : Memref sig .tc .vmem S1x1000 .f32 := (Memref.whole cc1_scratch0).slice (Rect.unit (s := S2048x1000) ![0, 0] S1x1000.size inb_S2048x1000_S1x1000_0_0) (fun _ => rfl)
abbrev srcU : Memref sig .tc .vmem S1x64 .f32 := (Memref.whole cc1_scratch1).slice (Rect.unit (s := S2048x64) ![0, 0] S1x64.size inb_S2048x64_S1x64_0_0) (fun _ => rfl)

/-- Both waits. -/
def waitPair : Prg F PUnit := do
  Prog.lift (.waitDma2 cc1_scratch2.sem srcH rowH (View.wordExact_bits rfl) (View.wordExact_bits rfl))
  Prog.lift (.waitDma2 cc1_scratch3.sem srcU rowU (View.wordExact_bits rfl) (View.wordExact_bits rfl))

abbrev wait4 : Prg F (BitVec 32) := do
  waitPair
  waitPair
  waitPair
  waitPair
  pure 0#32

section Bodies

variable (i : grid1.Coords) (arg4 : Memref sig .tc .vmem S1000x2048 .f32) (h4 : arg4.IsWhole) (arg5 : Memref sig .tc .vmem S64x2048 .f32) (h5 : arg5.IsWhole) (arg6 : Memref sig .tc .vmem S8x1000 .f32) (h6 : arg6.IsWhole)

theorem t3_body_eq (a0 : BitVec 32) (x y : Elt F .i32) (hw : k1_chk2 i x y) (t) (acc : BitVec 32) :
    k1_t3_body (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 a0 x y hw t acc
    = (do copyPair i (k1_off5 x y t) (k1_off5_inb i x y hw t)
          copyPair i (k1_off10 x y t) (k1_off10_inb i x y hw t)
          copyPair i (k1_off15 x y t) (k1_off15_inb i x y hw t)
          copyPair i (k1_off20 x y t) (k1_off20_inb i x y hw t)
          pure 0#32) := by
  unfold k1_t3_body
  rw [k1_part1_eq_skeleton]
  rfl

theorem t1_body_eq (h : k1_cond2 i = 1#1) (x y : Elt F .i32) (hw : k1_chk1 i x y) (t) (acc : BitVec 32) :
    k1_t1_body (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 h x y hw t acc
    = wait4 := rfl
theorem t5_body_eq (h : k1_cond5 i = 1#1) (x y : Elt F .i32) (hw : k1_chk2 i x y) (t) (acc : BitVec 32) :
    k1_t5_body (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 x y hw h t acc
    = wait4 := rfl

end Bodies

/-! ## The places -/

abbrev ℓH (c : Dev nD) : Loc nD τ sig := (c : Thread nD τ).loc main_v25_1
abbrev ℓU (c : Dev nD) : Loc nD τ sig := (c : Thread nD τ).loc main_v25_2
abbrev ℓb (c : Dev nD) : Loc nD τ sig := (c : Thread nD τ).loc cc1_scratch0
abbrev ℓd (c : Dev nD) : Loc nD τ sig := (c : Thread nD τ).loc cc1_scratch1
abbrev ℓu (c : Dev nD) : Loc nD τ sig := (c : Thread nD τ).loc main_v11
abbrev ℓr (c : Dev nD) : Loc nD τ sig := (c : Thread nD τ).loc main_v12
abbrev ℓg (c : Dev nD) : Loc nD τ sig := (c : Thread nD τ).loc main_v22

abbrev ix (k : ℕ) (h : k < 4096) : S4096.Idx := fun | 0 => ⟨k, h⟩
abbrev ix50 (k : ℕ) (h : k < 50) : S50.Idx := fun | 0 => ⟨k, h⟩

/-- The elements of a row of the results. -/
def rowsH (c : Dev nD) (v : BitVec 32) : Finset (Idx (ℓH c)) := Finset.univ.filter fun y : S4096x1000.Idx => (y 0).val = v.toNat
def rowsU (c : Dev nD) (v : BitVec 32) : Finset (Idx (ℓU c)) := Finset.univ.filter fun y : S4096x64.Idx => (y 0).val = v.toNat

/-- The units of one copy. -/
abbrev NH : ℕ := rowH.view.dmaCredit
abbrev NU : ℕ := rowU.view.dmaCredit
theorem NH_pos : 0 < NH := View.dmaCredit_pos _ (by decide)
theorem NU_pos : 0 < NU := View.dmaCredit_pos _ (by decide)

theorem set_dstH (c : Dev nD) (v : BitVec 32) (h : ∀ a, k1_off6 v a + S1x1000.size a ≤ S4096x1000.size a) :
    ((Memref.whole main_v25_1).slice (Rect.unit (s := S4096x1000) (k1_off6 v) S1x1000.size h) (fun _ => rfl)).view.set = rowsH c v := by
  refine (View.set_slice_whole main_v25_1 _).trans (Finset.ext fun y => ?_)
  rw [Rect.mem_set_unit]
  unfold rowsH
  rw [Finset.mem_filter]
  constructor
  · intro hy
    have h0 : v.toNat ≤ (y 0).val ∧ (y 0).val < v.toNat + 1 := hy 0
    exact ⟨Finset.mem_univ _, by omega⟩
  · rintro ⟨-, hy⟩ a
    match a with
    | 0 => show v.toNat ≤ (y 0).val ∧ (y 0).val < v.toNat + 1; omega
    | 1 => show 0 ≤ (y 1).val ∧ (y 1).val < 0 + 1000; have : (y 1).val < 1000 := (y 1).isLt; omega
theorem set_dstU (c : Dev nD) (v : BitVec 32) (h : ∀ a, k1_off8 v a + S1x64.size a ≤ S4096x64.size a) :
    ((Memref.whole main_v25_2).slice (Rect.unit (s := S4096x64) (k1_off8 v) S1x64.size h) (fun _ => rfl)).view.set = rowsU c v := by
  refine (View.set_slice_whole main_v25_2 _).trans (Finset.ext fun y => ?_)
  rw [Rect.mem_set_unit]
  unfold rowsU
  rw [Finset.mem_filter]
  constructor
  · intro hy
    have h0 : v.toNat ≤ (y 0).val ∧ (y 0).val < v.toNat + 1 := hy 0
    exact ⟨Finset.mem_univ _, by omega⟩
  · rintro ⟨-, hy⟩ a
    match a with
    | 0 => show v.toNat ≤ (y 0).val ∧ (y 0).val < v.toNat + 1; omega
    | 1 => show 0 ≤ (y 1).val ∧ (y 1).val < 0 + 64; have : (y 1).val < 64 := (y 1).isLt; omega

/-! ## One pair of copies -/

/-- What the tables say of a point: the users `x ≤ k < y` are of block `b`, each with its place. -/
structure SegOK (su ds : S4096.Idx → BitVec 32) (b x y : ℕ) : Prop where
  hxy : x ≤ y
  hy : y ≤ 4096
  lo : ∀ k (h : k < 4096), x ≤ k → k < y → 2048 * b ≤ (su (ix k h)).toNat
  hi : ∀ k (h : k < 4096), x ≤ k → k < y → (su (ix k h)).toNat < 2048 * (b + 1)
  row : ∀ k (h : k < 4096), (ds (ix k h)).toNat < 4096

/-- The rows of the point's blocks are the rows of the targets. -/
structure RowsOK (su ds : S4096.Idx → BitVec 32) (b x y : ℕ) (fb : S2048x1000.Idx → F .f32) (fd : S2048x64.Idx → F .f32)
    (gH : S4096x1000.Idx → F .f32) (gU : S4096x64.Idx → F .f32) : Prop where
  hist : ∀ k (h : k < 4096), x ≤ k → k < y → ∀ (p : S2048x1000.Idx) (q : S4096x1000.Idx), (p 0).val = (su (ix k h)).toNat - 2048 * b → (q 0).val = (ds (ix k h)).toNat → (p 1).val = (q 1).val → fb p = gH q
  mem : ∀ k (h : k < 4096), x ≤ k → k < y → ∀ (p : S2048x64.Idx) (q : S4096x64.Idx), (p 0).val = (su (ix k h)).toNat - 2048 * b → (q 0).val = (ds (ix k h)).toNat → (p 1).val = (q 1).val → fd p = gU q

/-- The place of the point's copy `t`. -/
def plc (ds : S4096.Idx → BitVec 32) (x y t : ℕ) : BitVec 32 := if h : min (x + t) (y - 1) < 4096 then ds (ix (min (x + t) (y - 1)) h) else 0#32

abbrev nCp (x y : ℕ) : ℕ := 4 * nTrip (y - x)

section Pair

variable (c : Dev nD) (su ds : S4096.Idx → BitVec 32) (x y : ℕ) (fH gH : S4096x1000.Idx → F .f32) (fU gU : S4096x64.Idx → F .f32)
  (fb : S2048x1000.Idx → F .f32) (fd : S2048x64.Idx → F .f32) (WH : Finset (Idx (ℓH c))) (WU : Finset (Idx (ℓU c)))

abbrev dH : Fin (nCp x y) → sProp 𝕄 := dlv (ℓH c) (ℓb c) fH gH fb WH (fun t => rowsH c (plc ds x y t.val))
abbrev dU : Fin (nCp x y) → sProp 𝕄 := dlv (ℓU c) (ℓd c) fU gU fd WU (fun t => rowsU c (plc ds x y t.val))

/-- The state with `j` of the point's pairs started and `u` of their waits done. -/
def flyH (j u : ℕ) : sProp 𝕄 :=
  iprop((ℓb c ↦{rst j} (fb : Buf (Elt F) (ℓb c))) ∗ wb (ℓH c) (rst j) fH gH WH ∗ Batch EC (c : Thread nD τ) (.dma cc1_scratch2.sem) none NH (dH c ds x y fH gH fb WH) j (u * NH))
def flyU (j u : ℕ) : sProp 𝕄 :=
  iprop((ℓd c ↦{rst j} (fd : Buf (Elt F) (ℓd c))) ∗ wb (ℓU c) (rst j) fU gU WU ∗ Batch EC (c : Thread nD τ) (.dma cc1_scratch3.sem) none NU (dU c ds x y fU gU fd WU) j (u * NU))
def tabUR : sProp 𝕄 := iprop((ℓu c ↦{fullShare} (su : Buf (Elt F) (ℓu c))) ∗ (ℓr c ↦{fullShare} (ds : Buf (Elt F) (ℓr c))))

variable {α : Type} {Q : α → sProp (MT nD τ sig (HIx 1) (Elt F) ℕ (UU F) ℕ)}

theorem idx_one {k : ℕ} (h : k < 4096) {ho : ∀ a, (![k] : Fin 1 → ℕ) a + S1.size a ≤ S4096.size a} (z : S1.Idx) : (Rect.unit (s := S4096) ![k] S1.size ho).idx z = ix k h := by
  funext a
  apply Fin.ext
  match a with
  | 0 => have h1 : (z 0).val < 1 := (z 0).isLt
         show k + 1 * (z 0).val = k
         omega
theorem idx_one50 {k : ℕ} (h : k < 50) {ho : ∀ a, (![k] : Fin 1 → ℕ) a + S1.size a ≤ S50.size a} (z : S1.Idx) : (Rect.unit (s := S50) ![k] S1.size ho).idx z = ix50 k h := by
  funext a
  apply Fin.ext
  match a with
  | 0 => have h1 : (z 0).val < 1 := (z 0).isLt
         show k + 1 * (z 0).val = k
         omega

/-- A word of each table. -/
theorem ld_su {k : ℕ} (h : k < 4096) {ho : ∀ a, (![k] : Fin 1 → ℕ) a + S1.size a ≤ S4096.size a} {kk : Elt F .i32 → Prg F α} :
    (ℓu c ↦{fullShare} (su : Buf (Elt F) (ℓu c)) : sProp 𝕄)
      ⊢ iprop(((ℓu c ↦{fullShare} (su : Buf (Elt F) (ℓu c))) -∗ wp frame (wpE (defs₀ (F := F)) Variants.none c none) Set.univ (kk (su (ix k h))) Q)
        -∗ wp frame (wpE (defs₀ (F := F)) Variants.none c none) Set.univ (smemLoad (Memref.whole main_v11) (Rect.unit (s := S4096) ![k] S1.size ho) numel1_S1 rfl >>= kk) Q) := by
  have e := idx_one h (ho := ho) (Shape.Idx.first (numel1_S1.symm ▸ Nat.one_pos))
  rw [← e]
  exact wp_smemLoadElt (k := kk) Variants.none (c : Thread nD τ) none Set.univ (m := Memref.whole main_v11) (r := Rect.unit (s := S4096) ![k] S1.size ho) (hw := View.loads_smem_one rfl numel1_S1) (q := fullShare) (f := su) (S := Finset.univ) (Finset.subset_univ _)
theorem ld_ds {k : ℕ} (h : k < 4096) {ho : ∀ a, (![k] : Fin 1 → ℕ) a + S1.size a ≤ S4096.size a} {kk : Elt F .i32 → Prg F α} :
    (ℓr c ↦{fullShare} (ds : Buf (Elt F) (ℓr c)) : sProp 𝕄)
      ⊢ iprop(((ℓr c ↦{fullShare} (ds : Buf (Elt F) (ℓr c))) -∗ wp frame (wpE (defs₀ (F := F)) Variants.none c none) Set.univ (kk (ds (ix k h))) Q)
        -∗ wp frame (wpE (defs₀ (F := F)) Variants.none c none) Set.univ (smemLoad (Memref.whole main_v12) (Rect.unit (s := S4096) ![k] S1.size ho) numel1_S1 rfl >>= kk) Q) := by
  have e := idx_one h (ho := ho) (Shape.Idx.first (numel1_S1.symm ▸ Nat.one_pos))
  rw [← e]
  exact wp_smemLoadElt (k := kk) Variants.none (c : Thread nD τ) none Set.univ (m := Memref.whole main_v12) (r := Rect.unit (s := S4096) ![k] S1.size ho) (hw := View.loads_smem_one rfl numel1_S1) (q := fullShare) (f := ds) (S := Finset.univ) (Finset.subset_univ _)
theorem ld_sg (sg : S50.Idx → BitVec 32) {k : ℕ} (h : k < 50) {ho : ∀ a, (![k] : Fin 1 → ℕ) a + S1.size a ≤ S50.size a} {kk : Elt F .i32 → Prg F α} :
    (ℓg c ↦{fullShare} (sg : Buf (Elt F) (ℓg c)) : sProp 𝕄)
      ⊢ iprop(((ℓg c ↦{fullShare} (sg : Buf (Elt F) (ℓg c))) -∗ wp frame (wpE (defs₀ (F := F)) Variants.none c none) Set.univ (kk (sg (ix50 k h))) Q)
        -∗ wp frame (wpE (defs₀ (F := F)) Variants.none c none) Set.univ (smemLoad (Memref.whole main_v22) (Rect.unit (s := S50) ![k] S1.size ho) numel1_S1 rfl >>= kk) Q) := by
  have e := idx_one50 h (ho := ho) (Shape.Idx.first (numel1_S1.symm ▸ Nat.one_pos))
  rw [← e]
  exact wp_smemLoadElt (k := kk) Variants.none (c : Thread nD τ) none Set.univ (m := Memref.whole main_v22) (r := Rect.unit (s := S50) ![k] S1.size ho) (hw := View.loads_smem_one rfl numel1_S1) (q := fullShare) (f := sg) (S := Finset.univ) (Finset.subset_univ _)

variable {c su ds x y fH gH fU gU fb fd WH WU}

theorem ret_intro {a : α} : Q a ⊢ wp frame (wpE (defs₀ (F := F)) Variants.none (c : Thread nD τ) none) Set.univ (Prog.ret a : Prg F α) Q := by
  rw [wp_ret]
  iintro H
  imodintro
  iexact H

/-- The row that is sent is the target row. -/
theorem admH (i : grid1.Coords) (hR : RowsOK su ds (i 0).val x y fb fd gH gU) {k : ℕ} (hk : k < 4096) (h1 : x ≤ k) (h2 : k < y)
    (hlo : 2048 * (i 0).val ≤ (su (ix k hk)).toNat) (hhi : (su (ix k hk)).toNat < 2048 * ((i 0).val + 1)) (hrow : (ds (ix k hk)).toNat < 4096) :
    ((Memref.whole main_v25_1).slice (Rect.unit (s := S4096x1000) (k1_off6 (ds (ix _ hk))) S1x1000.size (k1_off6_inb _ (chk_row (ds (ix _ hk)) hrow))) (fun _ => rfl)).view.Admitted (Elt F) (fun i => some (gH i))
      (((Memref.whole cc1_scratch0).slice (Rect.unit (s := S2048x1000) (k1_off7 i (su (ix _ hk))) S1x1000.size (k1_off7_inb i _ (chk_col i (su (ix _ hk)) hlo hhi))) (fun _ => rfl)).view.read (Elt F) fb) Finset.univ := by
  intro z _ v hv
  refine Eq.trans ?_ (Option.some.inj hv)
  have hz : (z 0).val < 1 := (z 0).isLt
  refine hR.hist _ hk (by omega) (by omega) _ _ ?_ ?_ ?_
  · have e : (k1_off7 i (su (ix _ hk))) 0 = (su (ix _ hk)).toNat - 2048 * (i 0).val := congrFun (off7_eq i _ hlo) 0
    show (k1_off7 i (su (ix _ hk))) 0 + 1 * (z 0).val = _
    omega
  · show (ds (ix _ hk)).toNat + 1 * (z 0).val = _
    omega
  · show 0 + 1 * (z 1).val = 0 + 1 * (z 1).val
    rfl

/-- The row that is sent is the target row. -/
theorem admU (i : grid1.Coords) (hR : RowsOK su ds (i 0).val x y fb fd gH gU) {k : ℕ} (hk : k < 4096) (h1 : x ≤ k) (h2 : k < y)
    (hlo : 2048 * (i 0).val ≤ (su (ix k hk)).toNat) (hhi : (su (ix k hk)).toNat < 2048 * ((i 0).val + 1)) (hrow : (ds (ix k hk)).toNat < 4096) :
    ((Memref.whole main_v25_2).slice (Rect.unit (s := S4096x64) (k1_off8 (ds (ix _ hk))) S1x64.size (k1_off8_inb _ (chk_row (ds (ix _ hk)) hrow))) (fun _ => rfl)).view.Admitted (Elt F) (fun i => some (gU i))
      (((Memref.whole cc1_scratch1).slice (Rect.unit (s := S2048x64) (k1_off9 i (su (ix _ hk))) S1x64.size (k1_off9_inb i _ (chk_col i (su (ix _ hk)) hlo hhi))) (fun _ => rfl)).view.read (Elt F) fd) Finset.univ := by
  intro z _ v hv
  refine Eq.trans ?_ (Option.some.inj hv)
  have hz : (z 0).val < 1 := (z 0).isLt
  refine hR.mem _ hk (by omega) (by omega) _ _ ?_ ?_ ?_
  · have e : (k1_off7 i (su (ix _ hk))) 0 = (su (ix _ hk)).toNat - 2048 * (i 0).val := congrFun (off7_eq i _ hlo) 0
    show (k1_off7 i (su (ix _ hk))) 0 + 1 * (z 0).val = _
    omega
  · show (ds (ix _ hk)).toNat + 1 * (z 0).val = _
    omega
  · show 0 + 1 * (z 1).val = 0 + 1 * (z 1).val
    rfl

set_option maxHeartbeats 4000000 in
theorem copyPair_spec (i : grid1.Coords) {ιw : ℕ} (hS : SegOK su ds (i 0).val x y) (hR : RowsOK su ds (i 0).val x y fb fd gH gU) (o : Fin 1 → ℕ) (ho : ∀ a, o a + S1.size a ≤ S4096.size a) (j : ℕ) (hj : j < nCp x y)
    (hoj : o = ![min (x + j) (y - 1)]) :
    iprop(wmInv emW ιw ∗ tabUR c su ds ∗ flyH c ds x y fH gH fb WH j 0 ∗ flyU c ds x y fU gU fd WU j 0)
      ⊢ wp frame (wpE (defs₀ (F := F)) Variants.none c none) Set.univ (copyPair i o ho)
          (fun _ => iprop(tabUR c su ds ∗ flyH c ds x y fH gH fb WH (j + 1) 0 ∗ flyU c ds x y fU gU fd WU (j + 1) 0)) := by
  subst hoj
  have hxy : x < y := by have h2 : j < 4 * ((y - x + 3) / 4) := hj; omega
  have hk : min (x + j) (y - 1) < 4096 := by have := hS.hy; omega
  have hlo := hS.lo _ hk (by omega) (by omega)
  have hhi := hS.hi _ hk (by omega) (by omega)
  have hrow := hS.row _ hk
  have hplc : plc ds x y j = ds (ix _ hk) := by unfold plc; rw [dif_pos hk]
  unfold tabUR flyH flyU copyPair
  iintro ⟨#Hw, ⟨Hu, Hr⟩, ⟨Hb, HwH, HBH⟩, Hd, HwU, HBU⟩
  iapply (ld_su c su hk) $$ Hu
  iintro Hu
  iapply (wp_assume (c := (c : Thread nD τ)) Variants.none none Set.univ (chk_col i (su (ix _ hk)) hlo hhi))
  iapply (ld_ds c ds hk) $$ Hr
  iintro Hr
  iapply (wp_assume (c := (c : Thread nD τ)) Variants.none none Set.univ (chk_row (ds (ix _ hk)) hrow))
  rw [Nat.zero_mul, Nat.zero_mul]
  iapply (wp_rowCopy Variants.none none (c : Thread nD τ) (dst := (Memref.whole main_v25_1).slice (Rect.unit (s := S4096x1000) (k1_off6 (ds (ix _ hk))) S1x1000.size (k1_off6_inb _ (chk_row (ds (ix _ hk)) hrow))) (fun _ => rfl))
    (src := (Memref.whole cc1_scratch0).slice (Rect.unit (s := S2048x1000) (k1_off7 i (su (ix _ hk))) S1x1000.size (k1_off7_inb i _ (chk_col i (su (ix _ hk)) hlo hhi))) (fun _ => rfl))
    (sm := .dma cc1_scratch2.sem) NH rfl (fs := fb) (f := fH) (g := gH) (W := WH) (R := fun t => rowsH c (plc ds x y t.val)) hj
    ((set_dstH c _ _).trans (by rw [hplc])) (ιw := ιw) ?_) $$ [Hb HwH HBH]
  · exact admH i hR hk (by omega) (by omega) hlo hhi hrow
  · isplitr; · iexact Hw
    isplitl [Hb]; · iexact Hb
    isplitl [HwH]; · iexact HwH
    iexact HBH
  iintro ⟨Hb, HwH, HBH⟩
  iapply (wp_rowCopy Variants.none none (c : Thread nD τ) (dst := (Memref.whole main_v25_2).slice (Rect.unit (s := S4096x64) (k1_off8 (ds (ix _ hk))) S1x64.size (k1_off8_inb _ (chk_row (ds (ix _ hk)) hrow))) (fun _ => rfl))
    (src := (Memref.whole cc1_scratch1).slice (Rect.unit (s := S2048x64) (k1_off9 i (su (ix _ hk))) S1x64.size (k1_off9_inb i _ (chk_col i (su (ix _ hk)) hlo hhi))) (fun _ => rfl))
    (sm := .dma cc1_scratch3.sem) NU rfl (fs := fd) (f := fU) (g := gU) (W := WU) (R := fun t => rowsU c (plc ds x y t.val)) hj
    ((set_dstU c _ _).trans (by rw [hplc])) (ιw := ιw) ?_) $$ [Hd HwU HBU]
  · exact admU i hR hk (by omega) (by omega) hlo hhi hrow
  · isplitr; · iexact Hw
    isplitl [Hd]; · iexact Hd
    isplitl [HwU]; · iexact HwU
    iexact HBU
  iintro ⟨Hd, HwU, HBU⟩
  iapply ret_intro
  isplitl [Hu Hr]
  · isplitl [Hu]; · iexact Hu
    iexact Hr
  isplitl [Hb HwH HBH]
  · isplitl [Hb]; · iexact Hb
    isplitl [HwH]; · iexact HwH
    iexact HBH
  isplitl [Hd]; · iexact Hd
  isplitl [HwU]; · iexact HwU
  iexact HBU

/-- The pair at the head of a program. -/
theorem copyPair_bind (i : grid1.Coords) {ιw : ℕ} (hS : SegOK su ds (i 0).val x y) (hR : RowsOK su ds (i 0).val x y fb fd gH gU) (o : Fin 1 → ℕ) (ho : ∀ a, o a + S1.size a ≤ S4096.size a) (j : ℕ) (hj : j < nCp x y)
    (hoj : o = ![min (x + j) (y - 1)]) {kk : PUnit → Prg F α} :
    iprop(wmInv emW ιw ∗ tabUR c su ds ∗ flyH c ds x y fH gH fb WH j 0 ∗ flyU c ds x y fU gU fd WU j 0)
      ⊢ iprop((iprop(tabUR c su ds ∗ flyH c ds x y fH gH fb WH (j + 1) 0 ∗ flyU c ds x y fU gU fd WU (j + 1) 0)
          -∗ wp frame (wpE (defs₀ (F := F)) Variants.none c none) Set.univ (kk ⟨⟩) Q)
        -∗ wp frame (wpE (defs₀ (F := F)) Variants.none c none) Set.univ (copyPair i o ho >>= kk) Q) := by
  rw [wp_bind]
  iintro H Hk
  iapply (wp_wand frame (wpE (defs₀ (F := F)) Variants.none c none) Set.univ) $$ [H]
  · iapply (copyPair_spec i hS hR o ho j hj hoj) $$ H
  iintro %_ H
  iapply Hk
  iexact H

/-- One trip of the copying loop. -/
theorem copyTrip_spec (i : grid1.Coords) {ιw : ℕ} (hS : SegOK su ds (i 0).val x y) (hR : RowsOK su ds (i 0).val x y fb fd gH gU) (t : ℕ) (ht : t < nTrip (y - x))
    {o0 o1 o2 o3 : Fin 1 → ℕ} {h0 h1 h2 h3} (e0 : o0 = ![kk x y t 0]) (e1 : o1 = ![kk x y t 1]) (e2 : o2 = ![kk x y t 2]) (e3 : o3 = ![kk x y t 3]) :
    iprop(wmInv emW ιw ∗ tabUR c su ds ∗ flyH c ds x y fH gH fb WH (4 * t) 0 ∗ flyU c ds x y fU gU fd WU (4 * t) 0)
      ⊢ wp frame (wpE (defs₀ (F := F)) Variants.none c none) Set.univ
          (do copyPair i o0 h0
              copyPair i o1 h1
              copyPair i o2 h2
              copyPair i o3 h3
              pure 0#32)
          (fun _ : BitVec 32 => iprop(tabUR c su ds ∗ flyH c ds x y fH gH fb WH (4 * (t + 1)) 0 ∗ flyU c ds x y fU gU fd WU (4 * (t + 1)) 0)) := by
  have hb : 4 * t + 3 < nCp x y := by have : t < (y - x + 3) / 4 := ht; show 4 * t + 3 < 4 * ((y - x + 3) / 4); omega
  iintro ⟨#Hw, H⟩
  iapply (copyPair_bind (ιw := ιw) i hS hR o0 h0 (4 * t + 0) (by omega) (by rw [e0, kk, Nat.add_assoc])) $$ [H]
  · isplitr; · iexact Hw
    iexact H
  iintro H
  iapply (copyPair_bind (ιw := ιw) i hS hR o1 h1 (4 * t + 1) (by omega) (by rw [e1, kk, Nat.add_assoc])) $$ [H]
  · isplitr; · iexact Hw
    iexact H
  iintro H
  iapply (copyPair_bind (ιw := ιw) i hS hR o2 h2 (4 * t + 2) (by omega) (by rw [e2, kk, Nat.add_assoc])) $$ [H]
  · isplitr; · iexact Hw
    iexact H
  iintro H
  iapply (copyPair_bind (ιw := ιw) i hS hR o3 h3 (4 * t + 3) (by omega) (by rw [e3, kk, Nat.add_assoc])) $$ [H]
  · isplitr; · iexact Hw
    iexact H
  iintro H
  iapply ret_intro
  iexact H

end Pair

end Cert.Proof

end
-- ==== Proof.Waits.lean ====
/-
  The waits of one grid point, the state between points, and what is whole again after the last wait.
-/
module

public import proofs.«01_k».proof.Proof.Pairs

@[expose] public section

set_option maxRecDepth 65536

noncomputable section

namespace Cert.Proof

open Cert.KernelIdeal Cert.KernelIdeal.Gen

open Idealize.ShloMosaic Idealize.ShloMosaic.TcCoe
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Pair

variable (c : Dev nD) (su ds : S4096.Idx → BitVec 32) (x y : ℕ) (fH gH : S4096x1000.Idx → F .f32) (fU gU : S4096x64.Idx → F .f32)
  (fb : S2048x1000.Idx → F .f32) (fd : S2048x64.Idx → F .f32) (WH : Finset (Idx (ℓH c))) (WU : Finset (Idx (ℓU c)))

variable {α : Type} {Q : α → sProp (MT nD τ sig (HIx 1) (Elt F) ℕ (UU F) ℕ)}

variable {c su ds x y fH gH fU gU fb fd WH WU}

/-- One pair of waits. -/
theorem waitPair_bind {j u : ℕ} (hu : u < j) {kk : PUnit → Prg F α} :
    iprop(flyH c ds x y fH gH fb WH j u ∗ flyU c ds x y fU gU fd WU j u ∗ (∃ W, owes (c : Thread nD τ) 0 W))
      ⊢ iprop((iprop(flyH c ds x y fH gH fb WH j (u + 1) ∗ flyU c ds x y fU gU fd WU j (u + 1) ∗ (∃ W, owes (c : Thread nD τ) 0 W))
          -∗ wp frame (wpE (defs₀ (F := F)) Variants.none c none) Set.univ (kk ⟨⟩) Q)
        -∗ wp frame (wpE (defs₀ (F := F)) Variants.none c none) Set.univ (waitPair >>= kk) Q) := by
  unfold flyH flyU waitPair
  iintro ⟨⟨H1, H2, HB⟩, ⟨U1, U2, UB⟩, %W, HO⟩ Hk
  iapply (wp_waitBatchMul EC Variants.none (c : Thread nD τ) none none (N := NH) 1 (Nat.one_mul _).symm (D := dH c ds x y fH gH fb WH) (j := j) (u := u * NH) (by have := Nat.mul_le_mul_left NH hu; rw [Nat.one_mul, ← Nat.succ_mul, Nat.mul_comm]; exact this)) $$ [HB HO]
  · isplitl [HB]; · iexact HB
    iexact HO
  iintro ⟨HB, HO⟩
  iapply (wp_waitBatchMul EC Variants.none (c : Thread nD τ) none none (N := NU) 1 (Nat.one_mul _).symm (D := dU c ds x y fU gU fd WU) (j := j) (u := u * NU) (by have := Nat.mul_le_mul_left NU hu; rw [Nat.one_mul, ← Nat.succ_mul, Nat.mul_comm]; exact this)) $$ [UB HO]
  · isplitl [UB]; · iexact UB
    iexact HO
  iintro ⟨UB, HO⟩
  rw [Nat.one_mul, Nat.one_mul, ← Nat.succ_mul, ← Nat.succ_mul]
  iapply Hk
  isplitl [H1 H2 HB]
  · isplitl [H1]; · iexact H1
    isplitl [H2]; · iexact H2
    iexact HB
  isplitl [U1 U2 UB]
  · isplitl [U1]; · iexact U1
    isplitl [U2]; · iexact U2
    iexact UB
  iexists _
  iexact HO

/-- One trip of a waiting loop. -/
theorem wait4_spec {u : ℕ} {j : ℕ} (hu : 4 * u + 3 < j) :
    iprop(flyH c ds x y fH gH fb WH j (4 * u) ∗ flyU c ds x y fU gU fd WU j (4 * u) ∗ (∃ W, owes (c : Thread nD τ) 0 W))
      ⊢ wp frame (wpE (defs₀ (F := F)) Variants.none c none) Set.univ (wait4 : Prg F (BitVec 32)) fun _ =>
        iprop(flyH c ds x y fH gH fb WH j (4 * (u + 1)) ∗ flyU c ds x y fU gU fd WU j (4 * (u + 1)) ∗ (∃ W, owes (c : Thread nD τ) 0 W)) := by
  iintro H
  iapply (waitPair_bind (u := 4 * u) (by omega)) $$ H
  iintro H
  iapply (waitPair_bind (by omega)) $$ H
  iintro H
  iapply (waitPair_bind (by omega)) $$ H
  iintro H
  iapply (waitPair_bind (by omega)) $$ H
  iintro H
  iapply ret_intro
  iexact H

/-- With all waits done: the scratch buffers and the results whole again, every row of the point marked, the
semaphores at zero. -/
def idleH (c : Dev nD) (f g : S4096x1000.Idx → F .f32) (W : Finset (Idx (ℓH c))) : sProp 𝕄 :=
  iprop((∃ fb, ℓb c ↦{fullShare} fb) ∗ wb (ℓH c) fullShare f g W ∗ semVal ((c : Thread nD τ), (.dma cc1_scratch2.sem : SemLoc sig)) 0)
def idleU (c : Dev nD) (f g : S4096x64.Idx → F .f32) (W : Finset (Idx (ℓU c))) : sProp 𝕄 :=
  iprop((∃ fb, ℓd c ↦{fullShare} fb) ∗ wb (ℓU c) fullShare f g W ∗ semVal ((c : Thread nD τ), (.dma cc1_scratch3.sem : SemLoc sig)) 0)

theorem drainH : (flyH c ds x y fH gH fb WH (nCp x y) (nCp x y) : sProp 𝕄) ⊢ |={Set.univ}=> iprop(∃ W', ⌜WH ⊆ W' ∧ ∀ t : Fin (nCp x y), rowsH c (plc ds x y t.val) ⊆ W'⌝ ∗ idleH c fH gH W') := by
  unfold flyH
  iintro ⟨H1, H2, HB⟩
  rw [Nat.mul_comm]
  imod (batch_collect' EC (c : Thread nD τ) NH_pos) $$ HB with ⟨HD, Hs⟩
  ihave H := (dlv_collect (ℓH c) (ℓb c) fH gH fb WH (fun t : Fin (nCp x y) => rowsH c (plc ds x y t.val))) $$ [HD H1 H2]
  · isplitl [HD]; · iexact HD
    isplitl [H2]; · iexact H2
    iexact H1
  icases H with ⟨%W', %hW, H2, H1⟩
  imodintro
  iexists W'
  isplitr; · ipureintro; exact hW
  unfold idleH
  isplitl [H1]; · iexists _; iexact H1
  isplitl [H2]; · iexact H2
  iexact Hs
theorem drainU : (flyU c ds x y fU gU fd WU (nCp x y) (nCp x y) : sProp 𝕄) ⊢ |={Set.univ}=> iprop(∃ W', ⌜WU ⊆ W' ∧ ∀ t : Fin (nCp x y), rowsU c (plc ds x y t.val) ⊆ W'⌝ ∗ idleU c fU gU W') := by
  unfold flyU
  iintro ⟨H1, H2, HB⟩
  rw [Nat.mul_comm]
  imod (batch_collect' EC (c : Thread nD τ) NU_pos) $$ HB with ⟨HD, Hs⟩
  ihave H := (dlv_collect (ℓU c) (ℓd c) fU gU fd WU (fun t : Fin (nCp x y) => rowsU c (plc ds x y t.val))) $$ [HD H1 H2]
  · isplitl [HD]; · iexact HD
    isplitl [H2]; · iexact H2
    iexact H1
  icases H with ⟨%W', %hW, H2, H1⟩
  imodintro
  iexists W'
  isplitr; · ipureintro; exact hW
  unfold idleU
  isplitl [H1]; · iexists _; iexact H1
  isplitl [H2]; · iexact H2
  iexact Hs

/-- The batch of a point before its first copy. -/
theorem startH : (iprop((ℓb c ↦{fullShare} (fb : Buf (Elt F) (ℓb c))) ∗ wb (ℓH c) fullShare fH gH WH ∗ semVal ((c : Thread nD τ), (.dma cc1_scratch2.sem : SemLoc sig)) 0) : sProp 𝕄)
    ⊢ |={Set.univ}=> flyH c ds x y fH gH fb WH 0 0 := by
  iintro ⟨H1, H2, Hs⟩
  imod (batch_alloc' EC (c : Thread nD τ) none NH (dH c ds x y fH gH fb WH)) $$ Hs with HB
  imodintro
  unfold flyH
  isplitl [H1]; · iexact H1
  isplitl [H2]; · iexact H2
  rw [Nat.zero_mul]
  iexact HB
theorem startU : (iprop((ℓd c ↦{fullShare} (fd : Buf (Elt F) (ℓd c))) ∗ wb (ℓU c) fullShare fU gU WU ∗ semVal ((c : Thread nD τ), (.dma cc1_scratch3.sem : SemLoc sig)) 0) : sProp 𝕄)
    ⊢ |={Set.univ}=> flyU c ds x y fU gU fd WU 0 0 := by
  iintro ⟨H1, H2, Hs⟩
  imod (batch_alloc' EC (c : Thread nD τ) none NU (dU c ds x y fU gU fd WU)) $$ Hs with HB
  imodintro
  unfold flyU
  isplitl [H1]; · iexact H1
  isplitl [H2]; · iexact H2
  rw [Nat.zero_mul]
  iexact HB

end Pair

end Cert.Proof

end
-- ==== Proof.Loops.lean ====
/-
  The two loops of one grid point: the trips that start the copies, and the trips that wait for them.
-/
module

public import proofs.«01_k».proof.Proof.Waits
public import Idealize.ShloMosaic.Lib.WordCmp
public import Idealize.ShloMosaic.Lib.Pipeline.FrameBody
public import Idealize.ShloMosaic.Lib.Pipeline.Value

@[expose] public section

set_option maxRecDepth 65536

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## Sequencing -/

section Seq

variable {α β : Type} {Q : α → sProp (MT nD τ sig (HIx 1) (Elt F) ℕ (UU F) ℕ)} {c : Dev nD}

theorem seq {p : Prg F β} {k : β → Prg F α} {P : sProp (MT nD τ sig (HIx 1) (Elt F) ℕ (UU F) ℕ)} {R : β → sProp (MT nD τ sig (HIx 1) (Elt F) ℕ (UU F) ℕ)}
    (h : P ⊢ wp frame (wpE (defs₀ (F := F)) Variants.none (c : Thread nD τ) none) Set.univ p R) :
    P ⊢ iprop((∀ b, R b -∗ wp frame (wpE (defs₀ (F := F)) Variants.none (c : Thread nD τ) none) Set.univ (k b) Q)
      -∗ wp frame (wpE (defs₀ (F := F)) Variants.none (c : Thread nD τ) none) Set.univ (p >>= k) Q) := by
  rw [wp_bind]
  iintro H Hk
  iapply (wp_wand frame (wpE (defs₀ (F := F)) Variants.none c none) Set.univ) $$ [H]
  · iapply h $$ H
  iexact Hk

end Seq

/-! ## The loops -/

section Loops

variable {c : Dev nD} {su ds : S4096.Idx → BitVec 32} {x y : ℕ} {fH gH : S4096x1000.Idx → F .f32} {fU gU : S4096x64.Idx → F .f32}
  {fb : S2048x1000.Idx → F .f32} {fd : S2048x64.Idx → F .f32} {WH : Finset (Idx (ℓH c))} {WU : Finset (Idx (ℓU c))}
  {α : Type} {Q : α → sProp (MT nD τ sig (HIx 1) (Elt F) ℕ (UU F) ℕ)}

/-- A waiting loop at the head of a program. -/
theorem waitLoop (L : Scf.Loop 32) (hok : L.OK) (body : Fin L.trips → BitVec 32 → Prg F (BitVec 32)) (hb : ∀ t acc, body t acc = wait4) (ht : L.trips = nTrip (y - x)) {kk : BitVec 32 → Prg F α} :
    iprop(flyH c ds x y fH gH fb WH (nCp x y) 0 ∗ flyU c ds x y fU gU fd WU (nCp x y) 0 ∗ (∃ W, owes (c : Thread nD τ) 0 W))
      ⊢ iprop((∀ acc, iprop(flyH c ds x y fH gH fb WH (nCp x y) (nCp x y) ∗ flyU c ds x y fU gU fd WU (nCp x y) (nCp x y) ∗ (∃ W, owes (c : Thread nD τ) 0 W))
          -∗ wp frame (wpE (defs₀ (F := F)) Variants.none c none) Set.univ (kk acc) Q)
        -∗ wp frame (wpE (defs₀ (F := F)) Variants.none c none) Set.univ (Scf.Loop.for L hok 0#32 body >>= kk) Q) := by
  have h := Scf.wp_for_bind frame (wpE (defs₀ (F := F)) Variants.none (c : Thread nD τ) none) Set.univ L.lb L.ub L.st hok 0#32 body
    (fun t _ => iprop(flyH c ds x y fH gH fb WH (nCp x y) (4 * t) ∗ flyU c ds x y fU gU fd WU (nCp x y) (4 * t) ∗ (∃ W, owes (c : Thread nD τ) 0 W)))
    (fun t acc => by
      rw [hb]
      have := t.isLt.trans_eq ht
      exact wait4_spec (by show 4 * t.val + 3 < 4 * nTrip (y - x); omega)) (kk := kk) (Q := Q)
  rw [show Scf.trips L.lb L.ub L.st = nTrip (y - x) from ht] at h
  exact h

section Copy

variable (i : grid1.Coords) (arg4 : Memref sig .tc .vmem S1000x2048 .f32) (h4 : arg4.IsWhole) (arg5 : Memref sig .tc .vmem S64x2048 .f32) (h5 : arg5.IsWhole) (arg6 : Memref sig .tc .vmem S8x1000 .f32) (h6 : arg6.IsWhole)

/-- The copying loop at the head of a program. -/
theorem copyLoop {ιw : ℕ} (hS : SegOK su ds (i 0).val x y) (hR : RowsOK su ds (i 0).val x y fb fd gH gU) (a0 : BitVec 32)
    (hw : k1_chk2 i (BitVec.ofNat 32 x) (BitVec.ofNat 32 y)) {kk : BitVec 32 → Prg F α} :
    iprop(wmInv emW ιw ∗ tabUR c su ds ∗ flyH c ds x y fH gH fb WH 0 0 ∗ flyU c ds x y fU gU fd WU 0 0)
      ⊢ iprop((∀ acc, iprop(tabUR c su ds ∗ flyH c ds x y fH gH fb WH (nCp x y) 0 ∗ flyU c ds x y fU gU fd WU (nCp x y) 0)
          -∗ wp frame (wpE (defs₀ (F := F)) Variants.none c none) Set.univ (kk acc) Q)
        -∗ wp frame (wpE (defs₀ (F := F)) Variants.none c none) Set.univ (Scf.Loop.for (k1_t3_loop (BitVec.ofNat 32 x) (BitVec.ofNat 32 y)) (k1_t3_ok i (BitVec.ofNat 32 x) (BitVec.ofNat 32 y) hw) 0#32 (k1_t3_body (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 a0 (BitVec.ofNat 32 x) (BitVec.ofNat 32 y) hw) >>= kk) Q) := by
  have h := Scf.wp_for_bind frame (wpE (defs₀ (F := F)) Variants.none (c : Thread nD τ) none) Set.univ _ _ _ (k1_t3_ok i (BitVec.ofNat 32 x) (BitVec.ofNat 32 y) hw) 0#32 (k1_t3_body (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 a0 (BitVec.ofNat 32 x) (BitVec.ofNat 32 y) hw)
    (fun t _ => iprop(wmInv emW ιw ∗ tabUR c su ds ∗ flyH c ds x y fH gH fb WH (4 * t) 0 ∗ flyU c ds x y fU gU fd WU (4 * t) 0))
    (fun t acc => by
      rw [t3_body_eq]
      iintro ⟨#Hw, H⟩
      iapply (wp_wand frame (wpE (defs₀ (F := F)) Variants.none (c : Thread nD τ) none) Set.univ) $$ [H]
      · iapply (copyTrip_spec (ιw := ιw) i hS hR t.val (t.isLt.trans_eq (t3_trips hS.hxy hS.hy)) (off5_eq hS.hxy hS.hy t) (off10_eq hS.hxy hS.hy t) (off15_eq hS.hxy hS.hy t) (off20_eq hS.hxy hS.hy t))
        isplitr; · iexact Hw
        iexact H
      iintro %_ H
      isplitr; · iexact Hw
      iexact H) (kk := kk) (Q := Q)
  rw [show Scf.trips (k1_t3_loop (BitVec.ofNat 32 x) (BitVec.ofNat 32 y)).lb (k1_t3_loop (BitVec.ofNat 32 x) (BitVec.ofNat 32 y)).ub (k1_t3_loop (BitVec.ofNat 32 x) (BitVec.ofNat 32 y)).st = nTrip (y - x) from t3_trips hS.hxy hS.hy] at h
  iintro ⟨#Hw, H⟩ Hk
  iapply h $$ [H]
  · isplitr; · iexact Hw
    iexact H
  iintro %acc ⟨-, H⟩
  iapply Hk
  iexact H

end Copy

end Loops

end Cert.Proof

end
-- ==== Proof.Point.lean ====
/-
  One grid point of the first pipeline: the running partial sums of the columns, the waits for the copies of the point
  before, the two blocks turned round into the scratch buffers, and the copies of the point's users.
-/
module

public import proofs.«01_k».proof.Proof.Loops

@[expose] public section

set_option maxRecDepth 65536

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The tables -/

/-- What the tables hold: `su` the users in ascending order, `ds` the place of each in the results, `sg` how many of them
lie before each block of 2048. -/
structure Tabs (su ds : S4096.Idx → BitVec 32) (sg : S50.Idx → BitVec 32) (seg : ℕ → ℕ) : Prop where
  word : ∀ g (h : g < 50), sg (ix50 g h) = BitVec.ofNat 32 (seg g)
  zero : seg 0 = 0
  last : seg 49 = 4096
  mono : ∀ g, g < 49 → seg g ≤ seg (g + 1)
  le : ∀ g, g ≤ 49 → seg g ≤ 4096
  lo : ∀ g, g < 49 → ∀ k (h : k < 4096), seg g ≤ k → k < seg (g + 1) → 2048 * g ≤ (su (ix k h)).toNat
  hi : ∀ g, g < 49 → ∀ k (h : k < 4096), seg g ≤ k → k < seg (g + 1) → (su (ix k h)).toNat < 2048 * (g + 1)
  row : ∀ k (h : k < 4096), (ds (ix k h)).toNat < 4096

theorem Tabs.segOK {su ds sg seg} (T : Tabs su ds sg seg) {g : ℕ} (hg : g < 49) : SegOK su ds g (seg g) (seg (g + 1)) :=
  ⟨T.mono g hg, T.le (g + 1) (by omega), T.lo g hg, T.hi g hg, T.row⟩

section State

variable (c : Dev nD) (su ds : S4096.Idx → BitVec 32) (sg : S50.Idx → BitVec 32) (seg : ℕ → ℕ) (fH gH : S4096x1000.Idx → F .f32) (fU gU : S4096x64.Idx → F .f32)

/-- The rows of the first `n` users have been written. -/
def Marked (n : ℕ) (WH : Finset (Idx (ℓH c))) (WU : Finset (Idx (ℓU c))) : Prop :=
  ∀ k (h : k < 4096), k < n → rowsH c (ds (ix k h)) ⊆ WH ∧ rowsU c (ds (ix k h)) ⊆ WU

def stIdle (n : ℕ) : sProp 𝕄 := iprop(∃ WH WU, ⌜Marked c ds n WH WU⌝ ∗ idleH c fH gH WH ∗ idleU c fU gU WU)
def stFly (x y : ℕ) : sProp 𝕄 :=
  iprop(∃ WH WU fb fd, ⌜Marked c ds x WH WU⌝ ∗ flyH c ds x y fH gH fb WH (nCp x y) 0 ∗ flyU c ds x y fU gU fd WU (nCp x y) 0)

/-- The state before point `g`: at the first point and after the last nothing is on its way, in between the copies of
the point before. -/
def St (g : ℕ) : sProp 𝕄 := if g = 0 ∨ 49 ≤ g then stIdle c ds fH gH fU gU (seg g) else stFly c ds fH gH fU gU (seg (g - 1)) (seg g)

variable {c su ds sg seg fH gH fU gU}

theorem plc_hit {x y k : ℕ} (h : k < 4096) (h1 : x ≤ k) (h2 : k < y) : ∃ t : Fin (nCp x y), plc ds x y t.val = ds (ix k h) := by
  have hn : k - x < nCp x y := by show k - x < 4 * ((y - x + 3) / 4); omega
  have e : min (x + (k - x)) (y - 1) = k := by omega
  have e' : plc ds x y (k - x) = ds (ix k h) := by
    unfold plc
    rw [dif_pos (by omega)]
    exact congrArg ds (funext fun | 0 => Fin.ext e)
  exact ⟨⟨k - x, hn⟩, e'⟩

theorem st_drain {x y : ℕ} {WH WU fb fd} (hm : Marked c ds x WH WU) :
    (iprop(flyH c ds x y fH gH fb WH (nCp x y) (nCp x y) ∗ flyU c ds x y fU gU fd WU (nCp x y) (nCp x y)) : sProp 𝕄)
      ⊢ |={Set.univ}=> stIdle c ds fH gH fU gU y := by
  iintro ⟨H, U⟩
  imod drainH $$ H with ⟨%WH', %hH, H⟩
  imod drainU $$ U with ⟨%WU', %hU, U⟩
  imodintro
  unfold stIdle
  iexists WH', WU'
  isplitr
  · ipureintro
    intro k h hk
    by_cases hx : k < x
    · exact ⟨(hm k h hx).1.trans hH.1, (hm k h hx).2.trans hU.1⟩
    · obtain ⟨t, ht⟩ := plc_hit (ds := ds) (x := x) (y := y) h (by omega) hk
      exact ⟨ht ▸ hH.2 t, ht ▸ hU.2 t⟩
  isplitl [H]; · iexact H
  iexact U

variable {α : Type} {Q : α → sProp (MT nD τ sig (HIx 1) (Elt F) ℕ (UU F) ℕ)}

theorem ld_seg (T : Tabs su ds sg seg) {k : ℕ} (h : k < 50) {o : Fin 1 → ℕ} (e : o = ![k]) {ho : ∀ a, o a + S1.size a ≤ S50.size a} {kk : Elt F .i32 → Prg F α} :
    (ℓg c ↦{fullShare} (sg : Buf (Elt F) (ℓg c)) : sProp 𝕄)
      ⊢ iprop(((ℓg c ↦{fullShare} (sg : Buf (Elt F) (ℓg c))) -∗ wp frame (wpE (defs₀ (F := F)) Variants.none (c : Thread nD τ) none) Set.univ (kk (BitVec.ofNat 32 (seg k))) Q)
        -∗ wp frame (wpE (defs₀ (F := F)) Variants.none (c : Thread nD τ) none) Set.univ (smemLoad (Memref.whole main_v22) (Rect.unit (s := S50) o S1.size ho) numel1_S1 rfl >>= kk) Q) := by
  subst e
  rw [← T.word k h]
  exact ld_sg c sg h

end State

/-! ## The pieces of a point -/

section Pieces

variable (i : grid1.Coords) (arg4 : Memref sig .tc .vmem S1000x2048 .f32) (h4 : arg4.IsWhole) (arg5 : Memref sig .tc .vmem S64x2048 .f32) (h5 : arg5.IsWhole) (arg6 : Memref sig .tc .vmem S8x1000 .f32) (h6 : arg6.IsWhole)

def pZero : Prg F PUnit := do
  let _ : Vec F S8x1000 .f32 ← Prog.lift (.load arg6 (Rect.unit (s := S8x1000) ![0, 0] S8x1000.size inb_S8x1000_S8x1000_0_0).toLoadRect (View.loadsAt_vmem h_S8x1000))
  Prog.lift (.store arg6 (Rect.unit (s := S8x1000) ![0, 0] S8x1000.size inb_S8x1000_S8x1000_0_0) (k1_pay1 (F := F)) Finset.univ (View.stores_vmem_bits_univ h_S8x1000 rfl) (.inl rfl))
  pure ⟨⟩
def pAdd (v6 : Vec F S1000x2048 .f32) : Prg F PUnit := do
  let v58 : Vec F S8x1000 .f32 ← Prog.lift (.load arg6 (Rect.unit (s := S8x1000) ![0, 0] S8x1000.size inb_S8x1000_S8x1000_0_0).toLoadRect (View.loadsAt_vmem h_S8x1000))
  let _ : Vec F S8x1000 .f32 ← Prog.lift (.load arg6 (Rect.unit (s := S8x1000) ![0, 0] S8x1000.size inb_S8x1000_S8x1000_0_0).toLoadRect (View.loadsAt_vmem h_S8x1000))
  Prog.lift (.store arg6 (Rect.unit (s := S8x1000) ![0, 0] S8x1000.size inb_S8x1000_S8x1000_0_0) (k1_pay5 v6 v58) Finset.univ (View.stores_vmem_bits_univ h_S8x1000 rfl) (.inl rfl))
  pure ⟨⟩
def pLast (v6 : Vec F S1000x2048 .f32) : Prg F PUnit := do
  let v67 : Vec F S8x1000 .f32 ← Prog.lift (.load arg6 (Rect.unit (s := S8x1000) ![0, 0] S8x1000.size inb_S8x1000_S8x1000_0_0).toLoadRect (View.loadsAt_vmem h_S8x1000))
  let _ : Vec F S8x1000 .f32 ← Prog.lift (.load arg6 (Rect.unit (s := S8x1000) ![0, 0] S8x1000.size inb_S8x1000_S8x1000_0_0).toLoadRect (View.loadsAt_vmem h_S8x1000))
  Prog.lift (.store arg6 (Rect.unit (s := S8x1000) ![0, 0] S8x1000.size inb_S8x1000_S8x1000_0_0) (k1_pay6 i v6 v67) Finset.univ (View.stores_vmem_bits_univ h_S8x1000 rfl) (.inl rfl))
  pure ⟨⟩
/-- The blocks, turned round, into the scratch buffers. -/
def pMove : Prg F (Vec F S1000x2048 .f32) := do
  let v6 : Vec F S1000x2048 .f32 ← Prog.lift (.load arg4 (Rect.unit (s := S1000x2048) ![0, 0] S1000x2048.size inb_S1000x2048_S1000x2048_0_0).toLoadRect (View.loadsAt_vmem h_S1000x2048))
  let _ : Vec F S2048x1000 .f32 ← Prog.lift (.load (Memref.whole cc1_scratch0) (Rect.unit (s := S2048x1000) ![0, 0] S2048x1000.size inb_S2048x1000_S2048x1000_0_0).toLoadRect (View.loadsAt_vmem h_S2048x1000))
  Prog.lift (.store (Memref.whole cc1_scratch0) (Rect.unit (s := S2048x1000) ![0, 0] S2048x1000.size inb_S2048x1000_S2048x1000_0_0) (k1_pay3 v6) Finset.univ (View.stores_vmem_bits_univ h_S2048x1000 rfl) (.inl rfl))
  let v12 : Vec F S64x2048 .f32 ← Prog.lift (.load arg5 (Rect.unit (s := S64x2048) ![0, 0] S64x2048.size inb_S64x2048_S64x2048_0_0).toLoadRect (View.loadsAt_vmem h_S64x2048))
  let _ : Vec F S2048x64 .f32 ← Prog.lift (.load (Memref.whole cc1_scratch1) (Rect.unit (s := S2048x64) ![0, 0] S2048x64.size inb_S2048x64_S2048x64_0_0).toLoadRect (View.loadsAt_vmem h_S2048x64))
  Prog.lift (.store (Memref.whole cc1_scratch1) (Rect.unit (s := S2048x64) ![0, 0] S2048x64.size inb_S2048x64_S2048x64_0_0) (k1_pay4 v12) Finset.univ (View.stores_vmem_bits_univ h_S2048x64 rfl) (.inl rfl))
  pure v6
/-- The waits for the copies of the point before. -/
def pDrain (h : k1_cond2 i = 1#1) : Prg F PUnit := do
  let v60 : Elt F .i32 ← smemLoad (Memref.whole main_v22) (Rect.unit (s := S50) (k1_off1 i) S1.size (k1_off1_inb i h)) numel1_S1 rfl
  let v62 : Elt F .i32 ← smemLoad (Memref.whole main_v22) (Rect.unit (s := S50) (k1_off2 i) S1.size (k1_off2_inb i h)) numel1_S1 rfl
  have hw : k1_chk1 i v60 v62 := (← Prog.lift (TpuEff.assume (k1_chk1 i v60 v62) (k1_chk1.dec i v60 v62))).down
  let v87 : BitVec 32 ← Scf.Loop.for (k1_t1_loop v60 v62) (k1_t1_ok i v60 v62 hw h) 0#32 (k1_t1_body i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 h v60 v62 hw)
  let _ : BitVec 32 ← Scf.Loop.for (k1_t2_loop v60 v62) (k1_t2_ok i v60 v62 hw h) v87 (k1_t2_body i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3 h v60 v62 hw)
  pure ⟨⟩
def pSegs : Prg F (Σ' (arg0 : BitVec 32) (v25 : Elt F .i32) (v28 : Elt F .i32) (k1_hw2 : k1_chk2 i v25 v28) (v30 : BitVec 32) (c4_i32 : BitVec 32) (v31 : BitVec 32), BitVec 32) := do
  let v25 : Elt F .i32 ← smemLoad (Memref.whole main_v22) (Rect.unit (s := S50) (k1_off3 i) S1.size (k1_off3_inb i)) numel1_S1 rfl
  let v28 : Elt F .i32 ← smemLoad (Memref.whole main_v22) (Rect.unit (s := S50) (k1_off4 i) S1.size (k1_off4_inb i)) numel1_S1 rfl
  have hw : k1_chk2 i v25 v28 := (← Prog.lift (TpuEff.assume (k1_chk2 i v25 v28) (k1_chk2.dec i v25 v28))).down
  pure ⟨BitVec.ofNat 32 (i 0).val, v25, v28, hw, Scalar.addi (Scalar.subi v28 v25) 3#32, 4#32, Scalar.divsi (Scalar.addi (Scalar.subi v28 v25) 3#32) 4#32, 0#32⟩

set_option maxHeartbeats 2000000 in
theorem part3_eq : k1_part3 (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3
    = (if _h : k1_cond1 i = 1#1 then pZero arg6 else pure ⟨⟩) >>= fun _ =>
      (if h : k1_cond2 i = 1#1 then pDrain i arg4 h4 arg5 h5 arg6 h6 h else pure ⟨⟩) >>= fun _ =>
      pMove arg4 arg5 >>= fun v6 =>
      (if _h : k1_cond3 i = 1#1 then pAdd arg6 v6 else pure ⟨⟩) >>= fun _ =>
      (if _h : k1_cond4 i = 1#1 then pLast i arg6 v6 else pure ⟨⟩) >>= fun _ => pSegs i := by
  rw [k1_part3_eq_skeleton]
  by_cases c1 : k1_cond1 i = 1#1 <;> by_cases c2 : k1_cond2 i = 1#1 <;> by_cases c3 : k1_cond3 i = 1#1 <;> by_cases c4 : k1_cond4 i = 1#1 <;>
    (simp only [dif_pos, dif_neg, c1, c2, c3, c4, not_false_eq_true, pDrain, bind_assoc]; unfold k1_part3_skel; simp only [dif_pos, dif_neg, c1, c2, c3, c4, not_false_eq_true, bind_assoc]; rfl)

/-! ## What the pieces do -/

theorem zero2 : (![0, 0] : Fin 2 → Nat) = fun _ => 0 := by decide

theorem cover_of_whole {S : Shape} {off : Fin S.rank → ℕ} (h : off = fun _ => 0) (inb : ∀ a, off a + S.size a ≤ S.size a) {e : EltTy} (p : Vec F S e) (y : S.Idx) :
    ∃ pc ∈ ([⟨Rect.unit off S.size inb, p⟩] : List (View.Piece (Elt F) S e)), y ∈ pc.1.set := by
  subst h
  refine ⟨_, List.mem_singleton_self _, ?_⟩
  rw [Rect.mem_set_unit]
  intro a
  exact ⟨Nat.zero_le _, by rw [Nat.zero_add]; exact (y a).isLt⟩

/-- A store over a whole window leaves what was stored. -/
theorem read_store {sp : Space} {S : Shape} {e : EltTy} (v : View sig .tc sp S e) (f : v.ty.Contents (Elt F)) {off : Fin S.rank → ℕ} (h : off = fun _ => 0) (inb : ∀ a, off a + S.size a ≤ S.size a) (p : Vec F S e) :
    v.read (Elt F) (v.writes (Elt F) f [⟨Rect.unit off S.size inb, p⟩]) = p :=
  (View.read_writes_eq_canon _ _ _ (cover_of_whole h inb p)).trans (View.canon_cons_unit_zero h inb p [])

/-- The partial sums at the head of a point, and at its end. -/
def z6 (x6 : Vec F S8x1000 .f32) : Vec F S8x1000 .f32 := if (i 0).val = 0 then k1_pay1 else x6
def s6 (x4 : Vec F S1000x2048 .f32) (z : Vec F S8x1000 .f32) : Vec F S8x1000 .f32 := if (i 0).val < 48 then k1_pay5 x4 z else k1_pay6 i x4 z

variable (c : Dev nD)

theorem zero_spec (x6 : Vec F S8x1000 .f32) :
    (owns (c : Thread nD τ) arg6 fullShare x6 : sProp 𝕄)
      ⊢ wp frame (wpE (defs₀ (F := F)) Variants.none (c : Thread nD τ) none) Set.univ (if _h : k1_cond1 i = 1#1 then pZero arg6 else pure ⟨⟩) (fun _ => owns (c : Thread nD τ) arg6 fullShare (z6 i x6)) := by
  unfold z6
  by_cases hc : k1_cond1 i = 1#1
  · rw [dif_pos hc, if_pos ((cond1_iff i).1 hc)]
    unfold owns pZero
    iintro ⟨%f, %hf, H⟩
    sl_exec
    sl_step
    iexists _; isplitr
    swap; · iexact H
    ipureintro
    exact read_store _ _ zero2 _ _
  · rw [dif_neg hc, if_neg (fun h => hc ((cond1_iff i).2 h))]
    exact ret_intro (c := c)

theorem add_spec (v6 : Vec F S1000x2048 .f32) (z : Vec F S8x1000 .f32) :
    (owns (c : Thread nD τ) arg6 fullShare z : sProp 𝕄)
      ⊢ wp frame (wpE (defs₀ (F := F)) Variants.none (c : Thread nD τ) none) Set.univ (pAdd arg6 v6) (fun _ => owns (c : Thread nD τ) arg6 fullShare (k1_pay5 v6 z)) := by
  unfold owns pAdd
  iintro ⟨%f, %hf, H⟩
  subst hf
  sl_exec
  sl_step
  iexists _; isplitr
  swap; · iexact H
  ipureintro
  refine (read_store _ _ zero2 _ _).trans (congrArg (k1_pay5 v6) ?_)
  exact View.ld_unit_zero (S := S8x1000) zero2 _ _

theorem last_spec (v6 : Vec F S1000x2048 .f32) (z : Vec F S8x1000 .f32) :
    (owns (c : Thread nD τ) arg6 fullShare z : sProp 𝕄)
      ⊢ wp frame (wpE (defs₀ (F := F)) Variants.none (c : Thread nD τ) none) Set.univ (pLast i arg6 v6) (fun _ => owns (c : Thread nD τ) arg6 fullShare (k1_pay6 i v6 z)) := by
  unfold owns pLast
  iintro ⟨%f, %hf, H⟩
  subst hf
  sl_exec
  sl_step
  iexists _; isplitr
  swap; · iexact H
  ipureintro
  refine (read_store _ _ zero2 _ _).trans (congrArg (k1_pay6 i v6) ?_)
  exact View.ld_unit_zero (S := S8x1000) zero2 _ _

/-- Both guarded additions, of which one takes place. -/
theorem sum_spec {α : Type} {Q : α → sProp (MT nD τ sig (HIx 1) (Elt F) ℕ (UU F) ℕ)} (v6 : Vec F S1000x2048 .f32) (z : Vec F S8x1000 .f32) {kk : PUnit → Prg F α} :
    (owns (c : Thread nD τ) arg6 fullShare z : sProp 𝕄)
      ⊢ iprop((owns (c : Thread nD τ) arg6 fullShare (s6 i v6 z) -∗ wp frame (wpE (defs₀ (F := F)) Variants.none (c : Thread nD τ) none) Set.univ (kk ⟨⟩) Q)
        -∗ wp frame (wpE (defs₀ (F := F)) Variants.none (c : Thread nD τ) none) Set.univ ((if _h : k1_cond3 i = 1#1 then pAdd arg6 v6 else pure ⟨⟩) >>= fun _ => (if _h : k1_cond4 i = 1#1 then pLast i arg6 v6 else pure ⟨⟩) >>= kk) Q) := by
  unfold s6
  by_cases hc : (i 0).val < 48
  · rw [dif_pos ((cond3_iff i).2 hc), dif_neg (fun h => absurd ((cond4_iff i).1 h) (by omega)), if_pos hc]
    iintro H Hk
    iapply (seq (add_spec arg6 c v6 z)) $$ H
    iintro %_ H
    iapply Hk $$ H
  · have hi : (i 0).val < 49 := (i 0).isLt
    rw [dif_neg (fun h => absurd ((cond3_iff i).1 h) hc), dif_pos ((cond4_iff i).2 (by omega)), if_neg hc]
    iintro H Hk
    iapply (seq (last_spec i arg6 c v6 z)) $$ H
    iintro %_ H
    iapply Hk $$ H

theorem move_spec_owns (x4 : Vec F S1000x2048 .f32) (x5 : Vec F S64x2048 .f32) :
    (iprop(owns (c : Thread nD τ) arg4 fullShare x4 ∗ owns (c : Thread nD τ) arg5 fullShare x5 ∗ (∃ f, owns (c : Thread nD τ) (Memref.whole cc1_scratch0) fullShare f) ∗ (∃ f, owns (c : Thread nD τ) (Memref.whole cc1_scratch1) fullShare f)) : sProp 𝕄)
      ⊢ wp frame (wpE (defs₀ (F := F)) Variants.none (c : Thread nD τ) none) Set.univ (pMove arg4 arg5) (fun v => iprop(⌜v = x4⌝ ∗ owns (c : Thread nD τ) arg4 fullShare x4 ∗ owns (c : Thread nD τ) arg5 fullShare x5
          ∗ owns (c : Thread nD τ) (Memref.whole cc1_scratch0) fullShare (k1_pay3 x4) ∗ owns (c : Thread nD τ) (Memref.whole cc1_scratch1) fullShare (k1_pay4 x5))) := by
  unfold owns pMove
  iintro ⟨⟨%f4, %hf4, H4⟩, ⟨%f5, %hf5, H5⟩, ⟨%wb, %fb, -, Hb⟩, %wd, %fd, -, Hd⟩
  subst hf4 hf5
  sl_exec
  sl_step
  have e4 := View.ld_unit_zero (Val := Elt F) (S := S1000x2048) zero2 inb_S1000x2048_S1000x2048_0_0 (arg4.view.read (Elt F) f4)
  have e5 := View.ld_unit_zero (Val := Elt F) (S := S64x2048) zero2 inb_S64x2048_S64x2048_0_0 (arg5.view.read (Elt F) f5)
  isplitr
  · ipureintro; exact e4
  isplitl [H4]
  · iexists f4; isplitr; · ipureintro; rfl
    iexact H4
  isplitl [H5]
  · iexists f5; isplitr; · ipureintro; rfl
    iexact H5
  isplitl [Hb]
  · iexists _; isplitr
    swap; · iexact Hb
    ipureintro
    exact (read_store _ _ zero2 _ _).trans (congrArg k1_pay3 e4)
  · iexists _; isplitr
    swap; · iexact Hd
    ipureintro
    exact (read_store _ _ zero2 _ _).trans (congrArg k1_pay4 e5)

theorem move_spec (x4 : Vec F S1000x2048 .f32) (x5 : Vec F S64x2048 .f32) :
    (iprop(owns (c : Thread nD τ) arg4 fullShare x4 ∗ owns (c : Thread nD τ) arg5 fullShare x5 ∗ (∃ f, ℓb c ↦{fullShare} f) ∗ (∃ f, ℓd c ↦{fullShare} f)) : sProp 𝕄)
      ⊢ wp frame (wpE (defs₀ (F := F)) Variants.none (c : Thread nD τ) none) Set.univ (pMove arg4 arg5) (fun v => iprop(⌜v = x4⌝ ∗ owns (c : Thread nD τ) arg4 fullShare x4 ∗ owns (c : Thread nD τ) arg5 fullShare x5
          ∗ (ℓb c ↦{fullShare} (k1_pay3 x4 : Buf (Elt F) (ℓb c))) ∗ (ℓd c ↦{fullShare} (k1_pay4 x5 : Buf (Elt F) (ℓd c))))) := by
  have h := move_spec_owns arg4 arg5 c x4 x5
  simp only [owns_whole] at h
  exact h

theorem noLoop {α : Type} {Q : α → sProp (MT nD τ sig (HIx 1) (Elt F) ℕ (UU F) ℕ)} (L : Scf.Loop 32) (hok : L.OK) (init : BitVec 32) (body : Fin L.trips → BitVec 32 → Prg F (BitVec 32)) (ht : L.trips = 0) {kk : BitVec 32 → Prg F α} :
    wp frame (wpE (defs₀ (F := F)) Variants.none (c : Thread nD τ) none) Set.univ (kk init) Q ⊢ wp frame (wpE (defs₀ (F := F)) Variants.none (c : Thread nD τ) none) Set.univ (Scf.Loop.for L hok init body >>= kk) Q :=
  Scf.wp_for0_bind' _ _ _ L.lb L.ub L.st hok init body ht kk Q _ .rfl

variable {su ds : S4096.Idx → BitVec 32} {sg : S50.Idx → BitVec 32} {seg : ℕ → ℕ} {fH gH : S4096x1000.Idx → F .f32} {fU gU : S4096x64.Idx → F .f32}

theorem drain_spec (T : Tabs su ds sg seg) :
    (iprop((ℓg c ↦{fullShare} (sg : Buf (Elt F) (ℓg c))) ∗ St c ds seg fH gH fU gU (i 0).val ∗ (∃ W, owes (c : Thread nD τ) 0 W)) : sProp 𝕄)
      ⊢ wp frame (wpE (defs₀ (F := F)) Variants.none (c : Thread nD τ) none) Set.univ (if h : k1_cond2 i = 1#1 then pDrain i arg4 h4 arg5 h5 arg6 h6 h else pure ⟨⟩)
          (fun _ => iprop((ℓg c ↦{fullShare} (sg : Buf (Elt F) (ℓg c))) ∗ stIdle c ds fH gH fU gU (seg (i 0).val) ∗ (∃ W, owes (c : Thread nD τ) 0 W))) := by
  have hi : (i 0).val < 49 := (i 0).isLt
  by_cases hc : k1_cond2 i = 1#1
  · have hp := (cond2_iff i).1 hc
    have hm1 := T.mono ((i 0).val - 1) (by omega)
    rw [show (i 0).val - 1 + 1 = (i 0).val by omega] at hm1
    have hle := T.le (i 0).val (by omega)
    rw [dif_pos hc]
    unfold St
    rw [if_neg (by omega)]
    unfold stFly pDrain
    iintro ⟨Hg, ⟨%WH, %WU, %fb, %fd, %hm, HH, HU⟩, HO⟩
    iapply (ld_seg T (k := (i 0).val - 1) (by omega) (off1_eq i hp)) $$ Hg
    iintro Hg
    iapply (ld_seg T (k := (i 0).val) (by omega) (off2_eq i)) $$ Hg
    iintro Hg
    iapply (wp_assume (c := (c : Thread nD τ)) Variants.none none Set.univ (chk1_ok i hm1 hle))
    iapply (waitLoop (k1_t1_loop (BitVec.ofNat 32 (seg ((i 0).val - 1))) (BitVec.ofNat 32 (seg (i 0).val))) _ _ (fun t acc => t1_body_eq i arg4 h4 arg5 h5 arg6 h6 hc _ _ _ t acc) (t1_trips hm1 hle)) $$ [HH HU HO]
    · isplitl [HH]; · iexact HH
      isplitl [HU]; · iexact HU
      iexact HO
    iintro %acc ⟨HH, HU, HO⟩
    iapply (noLoop c (k1_t2_loop (BitVec.ofNat 32 (seg ((i 0).val - 1))) (BitVec.ofNat 32 (seg (i 0).val))) _ _ _ (t2_trips hm1 hle))
    rw [wp_pure]
    imod (st_drain hm) $$ [HH HU] with H
    · isplitl [HH]; · iexact HH
      iexact HU
    imodintro
    isplitl [Hg]; · iexact Hg
    isplitl [H]; · iexact H
    iexact HO
  · have h0 : (i 0).val = 0 := by
      have h1 : ¬ 0 < (i 0).val := fun h => hc ((cond2_iff i).2 h)
      omega
    rw [dif_neg hc]
    unfold St
    rw [if_pos (.inl h0)]
    exact ret_intro (c := c) (Q := fun _ => iprop((ℓg c ↦{fullShare} (sg : Buf (Elt F) (ℓg c))) ∗ stIdle c ds fH gH fU gU (seg (i 0).val) ∗ (∃ W, owes (c : Thread nD τ) 0 W)))

theorem segs_spec (T : Tabs su ds sg seg) :
    (ℓg c ↦{fullShare} (sg : Buf (Elt F) (ℓg c)) : sProp 𝕄)
      ⊢ wp frame (wpE (defs₀ (F := F)) Variants.none (c : Thread nD τ) none) Set.univ (pSegs i) (fun r => iprop(⌜∃ hw a0 v30 c4 v31 c0, r = ⟨a0, BitVec.ofNat 32 (seg (i 0).val), BitVec.ofNat 32 (seg ((i 0).val + 1)), hw, v30, c4, v31, c0⟩⌝ ∗ (ℓg c ↦{fullShare} (sg : Buf (Elt F) (ℓg c))))) := by
  have hi : (i 0).val < 49 := (i 0).isLt
  unfold pSegs
  iintro Hg
  iapply (ld_seg T (k := (i 0).val) (by omega) (off3_eq i)) $$ Hg
  iintro Hg
  iapply (ld_seg T (k := (i 0).val + 1) (by omega) (off4_eq i)) $$ Hg
  iintro Hg
  iapply (wp_assume (c := (c : Thread nD τ)) Variants.none none Set.univ (chk2_ok i (T.mono _ hi) (T.le _ (by omega))))
  iapply ret_intro
  isplitr
  · ipureintro; exact ⟨_, _, _, _, _, _, rfl⟩
  iexact Hg

/-- The first part of a point: the state with nothing on its way, the scratch buffers filled. -/
theorem part3_spec (T : Tabs su ds sg seg) (x4 : Vec F S1000x2048 .f32) (x5 : Vec F S64x2048 .f32) (x6 : Vec F S8x1000 .f32) :
    (iprop((ℓg c ↦{fullShare} (sg : Buf (Elt F) (ℓg c))) ∗ St c ds seg fH gH fU gU (i 0).val ∗ (∃ W, owes (c : Thread nD τ) 0 W)
        ∗ owns (c : Thread nD τ) arg4 fullShare x4 ∗ owns (c : Thread nD τ) arg5 fullShare x5 ∗ owns (c : Thread nD τ) arg6 fullShare x6) : sProp 𝕄)
      ⊢ wp frame (wpE (defs₀ (F := F)) Variants.none (c : Thread nD τ) none) Set.univ (k1_part3 (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3)
        (fun r => iprop(⌜∃ hw a0 v30 c4 v31 c0, r = ⟨a0, BitVec.ofNat 32 (seg (i 0).val), BitVec.ofNat 32 (seg ((i 0).val + 1)), hw, v30, c4, v31, c0⟩⌝ ∗ (ℓg c ↦{fullShare} (sg : Buf (Elt F) (ℓg c)))
          ∗ (∃ W, owes (c : Thread nD τ) 0 W) ∗ owns (c : Thread nD τ) arg4 fullShare x4 ∗ owns (c : Thread nD τ) arg5 fullShare x5 ∗ owns (c : Thread nD τ) arg6 fullShare (s6 i x4 (z6 i x6))
          ∗ (∃ WH WU, ⌜Marked c ds (seg (i 0).val) WH WU⌝
            ∗ ((ℓb c ↦{fullShare} (k1_pay3 x4 : Buf (Elt F) (ℓb c))) ∗ wb (ℓH c) fullShare fH gH WH ∗ semVal ((c : Thread nD τ), (.dma cc1_scratch2.sem : SemLoc sig)) 0)
            ∗ ((ℓd c ↦{fullShare} (k1_pay4 x5 : Buf (Elt F) (ℓd c))) ∗ wb (ℓU c) fullShare fU gU WU ∗ semVal ((c : Thread nD τ), (.dma cc1_scratch3.sem : SemLoc sig)) 0)))) := by
  rw [part3_eq]
  iintro ⟨Hg, HS, HO, H4, H5, H6⟩
  iapply (seq (zero_spec i arg6 c x6)) $$ H6
  iintro %_ H6
  iapply (seq (drain_spec i arg4 h4 arg5 h5 arg6 h6 c T)) $$ [Hg HS HO]
  · isplitl [Hg]; · iexact Hg
    isplitl [HS]; · iexact HS
    iexact HO
  iintro %_ ⟨Hg, HS, HO⟩
  unfold stIdle idleH idleU
  icases HS with ⟨%WH, %WU, %hm, ⟨Hb, HwH, HsH⟩, Hd, HwU, HsU⟩
  iapply (seq (move_spec arg4 arg5 c x4 x5)) $$ [H4 H5 Hb Hd]
  · isplitl [H4]; · iexact H4
    isplitl [H5]; · iexact H5
    isplitl [Hb]; · iexact Hb
    iexact Hd
  iintro %v ⟨%hv, H4, H5, Hb, Hd⟩
  subst hv
  iapply (sum_spec i arg6 c v (z6 i x6)) $$ H6
  iintro H6
  iapply (wp_wand frame (wpE (defs₀ (F := F)) Variants.none (c : Thread nD τ) none) Set.univ) $$ [Hg]
  · iapply (segs_spec i c T) $$ Hg
  iintro %r ⟨%hr, Hg⟩
  isplitr; · ipureintro; exact hr
  isplitl [Hg]; · iexact Hg
  isplitl [HO]; · iexact HO
  isplitl [H4]; · iexact H4
  isplitl [H5]; · iexact H5
  isplitl [H6]; · iexact H6
  iexists WH, WU
  isplitr; · ipureintro; exact hm
  isplitl [Hb HwH HsH]
  · isplitl [Hb]; · iexact Hb
    isplitl [HwH]; · iexact HwH
    iexact HsH
  isplitl [Hd]; · iexact Hd
  isplitl [HwU]; · iexact HwU
  iexact HsU

/-- One whole point. -/
theorem point_spec {ιw : ℕ} (T : Tabs su ds sg seg) (x4 : Vec F S1000x2048 .f32) (x5 : Vec F S64x2048 .f32) (x6 : Vec F S8x1000 .f32)
    (hR : RowsOK su ds (i 0).val (seg (i 0).val) (seg ((i 0).val + 1)) (k1_pay3 x4) (k1_pay4 x5) gH gU) :
    (iprop(wmInv emW ιw ∗ tabUR c su ds ∗ (ℓg c ↦{fullShare} (sg : Buf (Elt F) (ℓg c))) ∗ St c ds seg fH gH fU gU (i 0).val ∗ (∃ W, owes (c : Thread nD τ) 0 W)
        ∗ owns (c : Thread nD τ) arg4 fullShare x4 ∗ owns (c : Thread nD τ) arg5 fullShare x5 ∗ owns (c : Thread nD τ) arg6 fullShare x6) : sProp 𝕄)
      ⊢ wp frame (wpE (defs₀ (F := F)) Variants.none (c : Thread nD τ) none) Set.univ (cc1__colsum_extract_body (F := F) i (Memref.whole main_v11) (Memref.isWhole_whole _) (Memref.whole main_v12) (Memref.isWhole_whole _) (Memref.whole main_v22) (Memref.isWhole_whole _) arg4 h4 arg5 h5 arg6 h6 (Memref.whole main_v25_1) (Memref.isWhole_whole _) (Memref.whole main_v25_2) (Memref.isWhole_whole _) (Memref.whole cc1_scratch0) (Memref.isWhole_whole _) (Memref.whole cc1_scratch1) (Memref.isWhole_whole _) cc1_scratch2 cc1_scratch3)
        (fun _ => iprop(tabUR c su ds ∗ (ℓg c ↦{fullShare} (sg : Buf (Elt F) (ℓg c))) ∗ St c ds seg fH gH fU gU ((i 0).val + 1) ∗ (∃ W, owes (c : Thread nD τ) 0 W)
          ∗ owns (c : Thread nD τ) arg4 fullShare x4 ∗ owns (c : Thread nD τ) arg5 fullShare x5 ∗ owns (c : Thread nD τ) arg6 fullShare (s6 i x4 (z6 i x6)))) := by
  have hi : (i 0).val < 49 := (i 0).isLt
  have hS := T.segOK hi
  rw [cc1__colsum_extract_body_eq_skeleton]
  unfold cc1__colsum_extract_body_skel
  iintro ⟨#Hw, Ht, Hg, HS, HO, H4, H5, H6⟩
  iapply (seq (part3_spec i arg4 h4 arg5 h5 arg6 h6 c T x4 x5 x6)) $$ [Hg HS HO H4 H5 H6]
  · isplitl [Hg]; · iexact Hg
    isplitl [HS]; · iexact HS
    isplitl [HO]; · iexact HO
    isplitl [H4]; · iexact H4
    isplitl [H5]; · iexact H5
    iexact H6
  iintro %r ⟨%hr, Hg, HO, H4, H5, H6, %WH, %WU, %hm, HH, HU⟩
  obtain ⟨hw, a0, v30, c4, v31, c0, rfl⟩ := hr
  dsimp only
  ihave HH' := (startH (c := c) (ds := ds) (x := seg (i 0).val) (y := seg ((i 0).val + 1)) (fH := fH) (gH := gH) (fb := k1_pay3 x4) (WH := WH)) $$ HH
  ihave HU' := (startU (c := c) (ds := ds) (x := seg (i 0).val) (y := seg ((i 0).val + 1)) (fU := fU) (gU := gU) (fd := k1_pay4 x5) (WU := WU)) $$ HU
  imod HH' with HH
  imod HU' with HU
  iapply (copyLoop i arg4 h4 arg5 h5 arg6 h6 (ιw := ιw) hS hR a0 hw) $$ [Ht HH HU]
  · isplitr; · iexact Hw
    isplitl [Ht]; · iexact Ht
    isplitl [HH]; · iexact HH
    iexact HU
  iintro %acc ⟨Ht, HH, HU⟩
  iapply (noLoop c (k1_t4_loop (BitVec.ofNat 32 (seg (i 0).val)) (BitVec.ofNat 32 (seg ((i 0).val + 1)))) _ _ _ (t4_trips hS.hxy hS.hy))
  by_cases hc : k1_cond5 i = 1#1
  · have h48 := (cond5_iff i).1 hc
    rw [dif_pos hc]
    iapply (waitLoop (k1_t5_loop (BitVec.ofNat 32 (seg (i 0).val)) (BitVec.ofNat 32 (seg ((i 0).val + 1)))) _ _ (fun t acc => t5_body_eq i arg4 h4 arg5 h5 arg6 h6 hc _ _ _ t acc) (t5_trips hS.hxy hS.hy)) $$ [HH HU HO]
    · isplitl [HH]; · iexact HH
      isplitl [HU]; · iexact HU
      iexact HO
    iintro %acc ⟨HH, HU, HO⟩
    iapply (noLoop c (k1_t6_loop (BitVec.ofNat 32 (seg (i 0).val)) (BitVec.ofNat 32 (seg ((i 0).val + 1)))) _ _ _ (t6_trips hS.hxy hS.hy))
    rw [wp_pure]
    imod (st_drain hm) $$ [HH HU] with HS
    · isplitl [HH]; · iexact HH
      iexact HU
    imodintro
    isplitl [Ht]; · iexact Ht
    isplitl [Hg]; · iexact Hg
    isplitl [HS]
    · unfold St
      rw [if_pos (by omega)]
      iexact HS
    isplitl [HO]; · iexact HO
    isplitl [H4]; · iexact H4
    isplitl [H5]; · iexact H5
    iexact H6
  · have h48 : (i 0).val ≠ 48 := fun h => hc ((cond5_iff i).2 h)
    rw [dif_neg hc]
    iapply ret_intro
    isplitl [Ht]; · iexact Ht
    isplitl [Hg]; · iexact Hg
    isplitl [HH HU]
    · unfold St
      rw [if_neg (by omega), Nat.add_sub_cancel]
      unfold stFly
      iexists WH, WU, _, _
      isplitr; · ipureintro; exact hm
      isplitl [HH]; · iexact HH
      iexact HU
    isplitl [HO]; · iexact HO
    isplitl [H4]; · iexact H4
    isplitl [H5]; · iexact H5
    iexact H6

end Pieces

end Cert.Proof

end
-- ==== Proof.Chunk.lean ====
/-
  The blocks of the first pipeline: what a fetch of the block at a point leaves in the staging buffer, the rows of it that the
  copies send, and the partial sums of the columns as they run from point to point.
-/
module

public import proofs.«01_k».proof.Proof.Point
public import Idealize.ShloMosaic.Lib.Pipeline.FrameBody
public import Idealize.ShloMosaic.Lib.WordCmp
public import Idealize.ShloMosaic.Lib.Pipeline.Kit

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window)

variable {F : FTy → Type} [FloatOps F]

theorem coords_one (t : Fin grid1.N) : (grid1.coords t 0).val = t.val := by
  have h : t.val < 49 := lt_of_lt_of_eq t.isLt N_1
  rw [Pipeline.Grid.coords_val t 0 (S := 1) (B := 49) (by decide) (by decide)]
  omega

/-- A point of the grid by its number. -/
def gi (t : ℕ) (h : t < 49) : grid1.Coords := fun | 0 => ⟨t, h⟩ | ⟨_ + 1, h⟩ => absurd h (Nat.not_lt.2 (Nat.le_add_left _ _))
theorem coords_gi (t : Fin grid1.N) (h : t.val < 49) : grid1.coords t = gi t.val h := by
  funext a
  match a with
  | 0 => exact Fin.ext (coords_one t)

abbrev pt2 {S0 S1 : ℕ} (x : Fin S0) (y : Fin S1) : (⟨2, ![S0, S1]⟩ : Shape).Idx := fun | 0 => x | 1 => y

/-- Block `g` of a turned table, its part past the table's end at `d`. -/
def xbH (A : S1000x100000.Idx → F .f32) (g : ℕ) (d : S1000x2048.Idx → F .f32) : S1000x2048.Idx → F .f32 := fun j =>
  if h : 2048 * g + (j 1).val < 100000 then A (fun | 0 => j 0 | 1 => ⟨2048 * g + (j 1).val, h⟩) else d j
def xbU (A : S64x100000.Idx → F .f32) (g : ℕ) (d : S64x2048.Idx → F .f32) : S64x2048.Idx → F .f32 := fun j =>
  if h : 2048 * g + (j 1).val < 100000 then A (fun | 0 => j 0 | 1 => ⟨2048 * g + (j 1).val, h⟩) else d j

theorem transform1 (t : Fin grid1.N) : cc1_transform_0 (grid1.coords t) 1 = t.val ∧ cc1_transform_1 (grid1.coords t) 1 = t.val := by
  have h : t.val < 49 := lt_of_lt_of_eq t.isLt N_1
  have e : (BitVec.ofNat 32 (grid1.coords t 0).val).toNat = t.val := by
    rw [coords_one, BitVec.toNat_ofNat]; omega
  exact ⟨e, e⟩

theorem extent_eq {t : ℕ} (h : t < 49) (n : ℕ) (hn : n < 2048) : n < (Pipeline.Clip.of t 2048 100000).extent 2048 ↔ 2048 * t + n < 100000 := by
  unfold Pipeline.Clip.of
  split
  · show n < 2048 ↔ _; omega
  · show n < 100000 - t * 2048 ↔ _; omega

variable (a : (pcfg1 (F := F)).Adm)

theorem fillH (A : S1000x100000.Idx → F .f32) (t : Fin (cfg1 a).N) (d : S1000x2048.Idx → F .f32) :
    (win1 a 0).fill (grid1.coords t) d (((win1 a 0).blk t).view.read (Elt F) A) = xbH A t.val d := by
  have h49 : t.val < 49 := lt_of_lt_of_eq t.isLt N_1
  funext j
  have h0 : (j 0).val < 1000 := (j 0).isLt
  have h1 : (j 1).val < 2048 := (j 1).isLt
  have hm : (win1 a 0).moved (grid1.coords t) j = true ↔ 2048 * t.val + (j 1).val < 100000 := by
    rw [Window.moved_iff]
    constructor
    · intro h
      have := h 1
      have e : (j 1).val < (Pipeline.Clip.of (cc1_transform_0 (grid1.coords t) 1) 2048 100000).extent 2048 := this
      rw [(transform1 t).1] at e
      exact (extent_eq h49 _ h1).1 e
    · intro h b
      match b with
      | 0 => exact h0
      | 1 =>
        show (j 1).val < (Pipeline.Clip.of (cc1_transform_0 (grid1.coords t) 1) 2048 100000).extent 2048
        rw [(transform1 t).1]
        exact (extent_eq h49 _ h1).2 h
  unfold Window.fill xbH
  by_cases h : 2048 * t.val + (j 1).val < 100000
  · rw [dif_pos (hm.2 h), dif_pos h]
    refine congrArg A (funext fun b => Fin.ext ?_)
    match b with
    | 0 => show 0 * 1000 + 1 * (j 0).val = (j 0).val; omega
    | 1 =>
      show cc1_transform_0 (grid1.coords t) 1 * 2048 + 1 * (j 1).val = 2048 * t.val + (j 1).val
      rw [(transform1 t).1]; omega
  · rw [dif_neg (mt hm.1 h), dif_neg h]

theorem fillU (A : S64x100000.Idx → F .f32) (t : Fin (cfg1 a).N) (d : S64x2048.Idx → F .f32) :
    (win1 a 1).fill (grid1.coords t) d (((win1 a 1).blk t).view.read (Elt F) A) = xbU A t.val d := by
  have h49 : t.val < 49 := lt_of_lt_of_eq t.isLt N_1
  funext j
  have h0 : (j 0).val < 64 := (j 0).isLt
  have h1 : (j 1).val < 2048 := (j 1).isLt
  have hm : (win1 a 1).moved (grid1.coords t) j = true ↔ 2048 * t.val + (j 1).val < 100000 := by
    rw [Window.moved_iff]
    constructor
    · intro h
      have := h 1
      have e : (j 1).val < (Pipeline.Clip.of (cc1_transform_1 (grid1.coords t) 1) 2048 100000).extent 2048 := this
      rw [(transform1 t).2] at e
      exact (extent_eq h49 _ h1).1 e
    · intro h b
      match b with
      | 0 => exact h0
      | 1 =>
        show (j 1).val < (Pipeline.Clip.of (cc1_transform_1 (grid1.coords t) 1) 2048 100000).extent 2048
        rw [(transform1 t).2]
        exact (extent_eq h49 _ h1).2 h
  unfold Window.fill xbU
  by_cases h : 2048 * t.val + (j 1).val < 100000
  · rw [dif_pos (hm.2 h), dif_pos h]
    refine congrArg A (funext fun b => Fin.ext ?_)
    match b with
    | 0 => show 0 * 64 + 1 * (j 0).val = (j 0).val; omega
    | 1 =>
      show cc1_transform_1 (grid1.coords t) 1 * 2048 + 1 * (j 1).val = 2048 * t.val + (j 1).val
      rw [(transform1 t).2]; omega
  · rw [dif_neg (mt hm.1 h), dif_neg h]

/-! ## The blocks turned round -/

theorem pay2_apply (x : Vec F S1000x2048 .f32) (p : S2048x1000.Idx) : k1_pay2 x p = x (fun | 0 => p 1 | 1 => p 0) := by
  unfold k1_pay2
  rw [shapeCast_self]
  exact congrArg x (funext fun | 0 => rfl | 1 => rfl)
theorem pay3_apply (x : Vec F S1000x2048 .f32) (p : S2048x1000.Idx) : k1_pay3 x p = x (fun | 0 => p 1 | 1 => p 0) := by
  unfold k1_pay3
  rw [shapeCast_self]
  exact pay2_apply x p
theorem pay4_apply (x : Vec F S64x2048 .f32) (p : S2048x64.Idx) : k1_pay4 x p = x (fun | 0 => p 1 | 1 => p 0) := by
  unfold k1_pay4
  rw [shapeCast_self, shapeCast_self]
  exact congrArg x (funext fun | 0 => rfl | 1 => rfl)

/-- The rows of the blocks are the users' rows of the tables. -/
theorem rowsOK {su ds : S4096.Idx → BitVec 32} {sg : S50.Idx → BitVec 32} {seg : ℕ → ℕ} (T : Tabs su ds sg seg)
    (AH : S1000x100000.Idx → F .f32) (AU : S64x100000.Idx → F .f32) (dH : S1000x2048.Idx → F .f32) (dU : S64x2048.Idx → F .f32)
    (gH : S4096x1000.Idx → F .f32) (gU : S4096x64.Idx → F .f32)
    (hlt : ∀ k (h : k < 4096), (su (ix k h)).toNat < 100000)
    (hgH : ∀ k (h : k < 4096) (q : S4096x1000.Idx), (q 0).val = (ds (ix k h)).toNat → gH q = AH (fun | 0 => q 1 | 1 => ⟨(su (ix k h)).toNat, hlt k h⟩))
    (hgU : ∀ k (h : k < 4096) (q : S4096x64.Idx), (q 0).val = (ds (ix k h)).toNat → gU q = AU (fun | 0 => q 1 | 1 => ⟨(su (ix k h)).toNat, hlt k h⟩))
    {g : ℕ} (hg : g < 49) : RowsOK su ds g (seg g) (seg (g + 1)) (k1_pay3 (xbH AH g dH)) (k1_pay4 (xbU AU g dU)) gH gU where
  hist k h hx hy p q h0 h1 h2 := by
    have := T.lo g hg k h hx hy
    have := hlt k h
    rw [pay3_apply, hgH k h q h1]
    unfold xbH
    rw [dif_pos (show 2048 * g + (p 0).val < 100000 by omega)]
    refine congrArg AH (funext fun b => Fin.ext ?_)
    match b with
    | 0 => exact h2
    | 1 => show 2048 * g + (p 0).val = (su (ix k h)).toNat; omega
  mem k h hx hy p q h0 h1 h2 := by
    have := T.lo g hg k h hx hy
    have := hlt k h
    rw [pay4_apply, hgU k h q h1]
    unfold xbU
    rw [dif_pos (show 2048 * g + (p 0).val < 100000 by omega)]
    refine congrArg AU (funext fun b => Fin.ext ?_)
    match b with
    | 0 => exact h2
    | 1 => show 2048 * g + (p 0).val = (su (ix k h)).toNat; omega

/-! ## The partial sums -/

/-- The rows of the last block that lie inside the table. -/
def inRow (i : grid1.Coords) : IVec S2048x1000 1 :=
  broadcastTo S2048x1000 (shapeCast S2048x1 (cmpi .slt (iota .tc S2048x1 32 [0] iota_S2048x1_d0_w32) (broadcast S2048x1 (Scalar.subi 100000#32 (Scalar.muli (BitVec.ofNat 32 (i 0).val) 2048#32)))) shapeCasts_S2048x1_S2048x1) broadcasts_S2048x1_S2048x1000

theorem inRow_apply (i : grid1.Coords) (hi : (i 0).val = 48) (p : S2048x1000.Idx) : inRow i p = BitVec.ofBool (decide ((p 0).val < 1696)) := by
  have hp : (p 0).val < 2048 := (p 0).isLt
  unfold inRow
  rw [hi, shapeCast_self, broadcastTo_apply _ broadcasts_S2048x1_S2048x1000 p (fun | 0 => p 0 | 1 => ⟨0, Nat.one_pos⟩) (fun | 0 => rfl | 1 => rfl)]
  show IntOp.cmpi .slt (BitVec.ofNat 32 (0 * 2048 + (p 0).val)) (Scalar.subi 100000#32 (Scalar.muli (BitVec.ofNat 32 48) 2048#32)) = _
  rw [show (Scalar.subi 100000#32 (Scalar.muli (BitVec.ofNat 32 48) 2048#32) : BitVec 32) = 1696#32 from by decide]
  rw [Nat.zero_mul, Nat.zero_add]
  simp only [IntOp.cmpi, BitVec.slt_eq_decide, BitVec.toInt_eq_toNat_cond, BitVec.toNat_ofNat]
  congr 1
  rw [Nat.mod_eq_of_lt (by omega : (p 0).val < 2 ^ 32)]
  apply Bool.eq_iff_iff.2
  simp only [decide_eq_true_eq]
  rw [if_pos (by omega)]
  norm_num

theorem pay6_eq (i : grid1.Coords) (v6 : Vec F S1000x2048 .f32) (v67 : Vec F S8x1000 .f32) :
    k1_pay6 i v6 v67 = addf (shapeCast S8x1000 v67 shapeCasts_S8x1000_S8x1000)
      (multiReduction .add [0] S8x1000 (shapeCast S256x8x1000 (select (inRow i) (k1_pay2 v6) (broadcast S2048x1000 (Scalar.ofBits .f32 0x00000000#32))) shapeCasts_S2048x1000_S256x8x1000) 0x00000000#32 reduces_S256x8x1000_S8x1000 (.inl rfl) rfl) := rfl

/-- The last block's rows past the table's end are left out of the sums. -/
theorem pay6_congr (i : grid1.Coords) (hi : (i 0).val = 48) (A : S1000x100000.Idx → F .f32) (d d' : S1000x2048.Idx → F .f32) (z : Vec F S8x1000 .f32) :
    k1_pay6 i (xbH A 48 d) z = k1_pay6 i (xbH A 48 d') z := by
  have e : select (inRow i) (k1_pay2 (xbH A 48 d)) (broadcast S2048x1000 (Scalar.ofBits .f32 0x00000000#32 : F .f32))
      = select (inRow i) (k1_pay2 (xbH A 48 d')) (broadcast S2048x1000 (Scalar.ofBits .f32 0x00000000#32 : F .f32)) := by
    funext p
    unfold select
    rw [inRow_apply i hi, pay2_apply, pay2_apply]
    unfold xbH
    by_cases h : (p 0).val < 1696
    · have h' : 2048 * 48 + (p 0).val < 100000 := by omega
      rw [dif_pos h', dif_pos h']
    · rw [decide_eq_false h]
      rfl
  rw [pay6_eq, pay6_eq, e]

theorem s6_congr (t : ℕ) (ht : t < 49) (A : S1000x100000.Idx → F .f32) (d d' : S1000x2048.Idx → F .f32) (z : Vec F S8x1000 .f32) :
    s6 (gi t ht) (xbH A t d) z = s6 (gi t ht) (xbH A t d') z := by
  unfold s6
  have e : (gi t ht 0).val = t := rfl
  by_cases h : t < 48
  · rw [if_pos (show (gi t ht 0).val < 48 from h), if_pos (show (gi t ht 0).val < 48 from h)]
    refine congrArg (fun x => k1_pay5 x z) (funext fun j => ?_)
    have h1 : (j 1).val < 2048 := (j 1).isLt
    unfold xbH
    rw [dif_pos (by omega), dif_pos (by omega)]
  · obtain rfl : t = 48 := by omega
    rw [if_neg (by omega), if_neg (by omega)]
    exact pay6_congr _ e A d d' z

/-- What the fetch of a clipped block leaves past the end does not matter: this stands for it. -/
def pad0 : S1000x2048.Idx → F .f32 := fun _ => Scalar.ofBits .f32 0x00000000#32
def padU : S64x2048.Idx → F .f32 := fun _ => Scalar.ofBits .f32 0x00000000#32

/-- The partial sums after point `t`. -/
def cntStep (A : S1000x100000.Idx → F .f32) (t : ℕ) (z : Vec F S8x1000 .f32) : Vec F S8x1000 .f32 :=
  if h : t < 49 then s6 (gi t h) (xbH A t pad0) (z6 (gi t h) z) else z
def cnt (A : S1000x100000.Idx → F .f32) : ℕ → Vec F S8x1000 .f32
  | 0 => cntStep A 0 k1_pay1
  | t + 1 => cntStep A (t + 1) (cnt A t)

theorem cnt_zero (A : S1000x100000.Idx → F .f32) (d : S1000x2048.Idx → F .f32) (z : Vec F S8x1000 .f32) :
    s6 (gi 0 (by decide)) (xbH A 0 d) (z6 (gi 0 (by decide)) z) = cnt A 0 := by
  unfold cnt cntStep
  rw [dif_pos (by decide), s6_congr 0 _ A d pad0]
  rfl
theorem cnt_succ (A : S1000x100000.Idx → F .f32) (t : ℕ) (h : t + 1 < 49) (d : S1000x2048.Idx → F .f32) :
    s6 (gi (t + 1) h) (xbH A (t + 1) d) (z6 (gi (t + 1) h) (cnt A t)) = cnt A (t + 1) := by
  rw [cnt.eq_2]
  unfold cntStep
  rw [dif_pos h, s6_congr (t + 1) _ A d pad0]

end Cert.Proof

end
-- ==== Proof.Dense.lean ====
/-
  The TensorCore's part: sixteen points of a pipeline, each over 256 users. What is proved here, at any float values: what
  each point leaves in the three output windows, from the blocks of the ten input windows, and that the pipeline's body
  keeps the inputs.
-/
module

public import proofs.«01_k».proof.Proof.Tile
public import proofs.«01_k».proof.Proof.Gen.KernelIdeal.Points
public import Idealize.ShloMosaic.Lib.Pipeline.FrameBody
public import Idealize.ShloMosaic.Lib.Pipeline.RegionArraysS
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ (UU F) ℕ

/-! ## The rectangles that the body reads and writes: whole windows -/

abbrev r0 : Rect S256x64 := Rect.unit (s := S256x64) ![0, 0] S256x64.size inb_S256x64_S256x64_0_0
abbrev r1 : Rect S256x1 := Rect.unit (s := S256x1) ![0, 0] S256x1.size inb_S256x1_S256x1_0_0
abbrev r2 : Rect S20x256x128 := Rect.unit (s := S20x256x128) ![0, 0, 0] S20x256x128.size inb_S20x256x128_S20x256x128_0_0_0
abbrev r3 : Rect S128x192 := Rect.unit (s := S128x192) ![0, 0] S128x192.size inb_S128x192_S128x192_0_0
abbrev r4 : Rect S64x192 := Rect.unit (s := S64x192) ![0, 0] S64x192.size inb_S64x192_S64x192_0_0
abbrev r5 : Rect S1x192 := Rect.unit (s := S1x192) ![0, 0] S1x192.size inb_S1x192_S1x192_0_0
abbrev r6 : Rect S64x64 := Rect.unit (s := S64x64) ![0, 0] S64x64.size inb_S64x64_S64x64_0_0
abbrev r7 : Rect S64x1000 := Rect.unit (s := S64x1000) ![0, 0] S64x1000.size inb_S64x1000_S64x1000_0_0
abbrev r8 : Rect S8x1000 := Rect.unit (s := S8x1000) ![0, 0] S8x1000.size inb_S8x1000_S8x1000_0_0
abbrev r9 : Rect S256x1000 := Rect.unit (s := S256x1000) ![0, 0] S256x1000.size inb_S256x1000_S256x1000_0_0
abbrev r10 : Rect S20x256x64 := Rect.unit (s := S20x256x64) ![0, 0, 0] S20x256x64.size inb_S20x256x64_S20x256x64_0_0_0

/-! ## What one point computes, from its input blocks

    `x0` the 256 users' memory rows, `x1` their 20 x 256 gathered item rows of 128 lanes, `x2` their history rows, `x3`
    their lengths, `x4` the partial column sums, `x5` the item table turned round, `x6`, `x7`, `x8` the weights of the
    gates, `x9` the weight of the output. -/

/-- The users' memory rows. -/
def vMem (x0 : Vec F S256x64 .f32) : FVec F S256x64 .f32 := k2_pay2 (View.ld x0 r0)
/-- The lengths, at least one. -/
def vLen (x3 : Vec F S256x1 .f32) : FVec F S256x1 .f32 := k2_pay3 (View.ld x3 r1)
/-- The item rows, 64 lanes of each, in one list of 5120. -/
def vItm (x1 : Vec F S20x256x128 .f32) : FVec F S5120x64 .f32 := k2_pay4 (View.ld x1 r2)
/-- The running sum of the item rows before the last of the twenty positions is added. -/
def vAgg (x1 : Vec F S20x256x128 .f32) (x3 : Vec F S256x1 .f32) : FVec F S256x64 .f32 :=
  k2_pay10 (vLen x3) (vItm x1) (k2_pay8 (vLen x3) (vItm x1) (k2_pay6 (View.ld x3 r1) (View.ld x1 r2)) k2_pay7) (k2_pay9 (vLen x3) (vItm x1))
/-- The update gate of the users' step, the candidate, and what the gate leaves of one. -/
def vGate (x0 : Vec F S256x64 .f32) (x1 : Vec F S20x256x128 .f32) (x3 : Vec F S256x1 .f32) (x6 : Vec F S128x192 .f32) (x7 : Vec F S64x192 .f32) (x8 : Vec F S1x192 .f32) : FVec F S256x64 .f32 :=
  k2_pay14 (vMem x0) (vLen x3) (vItm x1) (View.ld x6 r3) (View.ld x7 r4) (k2_pay5 (View.ld x8 r5)) (vAgg x1 x3) (k2_pay11 (vLen x3))
def vCand (x0 : Vec F S256x64 .f32) (x1 : Vec F S20x256x128 .f32) (x3 : Vec F S256x1 .f32) (x6 : Vec F S128x192 .f32) (x7 : Vec F S64x192 .f32) (x8 : Vec F S1x192 .f32) : FVec F S256x64 .f32 :=
  k2_pay15 (vMem x0) (vLen x3) (vItm x1) (View.ld x6 r3) (View.ld x7 r4) (k2_pay5 (View.ld x8 r5)) (vAgg x1 x3) (k2_pay11 (vLen x3))
def vKeep (x0 : Vec F S256x64 .f32) (x1 : Vec F S20x256x128 .f32) (x3 : Vec F S256x1 .f32) (x6 : Vec F S128x192 .f32) (x7 : Vec F S64x192 .f32) (x8 : Vec F S1x192 .f32) : FVec F S256x64 .f32 :=
  k2_pay16 (vMem x0) (vLen x3) (vItm x1) (View.ld x6 r3) (View.ld x7 r4) (k2_pay5 (View.ld x8 r5)) (vAgg x1 x3) (k2_pay11 (vLen x3))
/-- The users' new memory rows. -/
def vUser (x0 : Vec F S256x64 .f32) (x1 : Vec F S20x256x128 .f32) (x3 : Vec F S256x1 .f32) (x6 : Vec F S128x192 .f32) (x7 : Vec F S64x192 .f32) (x8 : Vec F S1x192 .f32) : FVec F S256x64 .f32 :=
  k2_pay17 (vMem x0) (vGate x0 x1 x3 x6 x7 x8) (vCand x0 x1 x3 x6 x7 x8) (vKeep x0 x1 x3 x6 x7 x8)
/-- The scores. -/
def vPred (x0 : Vec F S256x64 .f32) (x1 : Vec F S20x256x128 .f32) (x2 : Vec F S256x1000 .f32) (x3 : Vec F S256x1 .f32) (x4 : Vec F S8x1000 .f32) (x5 : Vec F S64x1000 .f32) (x6 : Vec F S128x192 .f32) (x7 : Vec F S64x192 .f32) (x8 : Vec F S1x192 .f32) (x9 : Vec F S64x64 .f32) : FVec F S256x1000 .f32 :=
  k2_pay21 (k2_pay18 (vMem x0) (vGate x0 x1 x3 x6 x7 x8) (vCand x0 x1 x3 x6 x7 x8) (vKeep x0 x1 x3 x6 x7 x8) (View.ld x9 r6) (View.ld x5 r7)) (k2_pay19 (View.ld x4 r8) (View.ld x2 r9)) k2_pay20
/-- The items' new memory rows. -/
def vItem (x0 : Vec F S256x64 .f32) (x1 : Vec F S20x256x128 .f32) (x3 : Vec F S256x1 .f32) (x6 : Vec F S128x192 .f32) (x7 : Vec F S64x192 .f32) (x8 : Vec F S1x192 .f32) : FVec F S20x256x64 .f32 :=
  k2_pay1 (vItm x1) (k2_pay22 (vMem x0) (vItm x1) (View.ld x6 r3) (View.ld x7 r4) (k2_pay5 (View.ld x8 r5))) (k2_pay23 (vLen x3)) (iota .tc S5120x1 32 [0] iota_S5120x1_d0_w32) 256#32 k2_pay24 k2_pay25

/-! ## The body's triple -/

/-- One store through a whole window's rectangle covers the window. -/
theorem cover_pred (p : Vec F S256x1000 .f32) (y : S256x1000.Idx) :
    ∃ pc ∈ ([⟨r9, p⟩] : List (View.Piece (Elt F) S256x1000 .f32)), y ∈ pc.1.set :=
  View.cover_of_tiled [⟨r9, p⟩] S256x1000.size (by rfl) y
theorem cover_user (p : Vec F S256x64 .f32) (y : S256x64.Idx) :
    ∃ pc ∈ ([⟨r0, p⟩] : List (View.Piece (Elt F) S256x64 .f32)), y ∈ pc.1.set :=
  View.cover_of_tiled [⟨r0, p⟩] S256x64.size (by rfl) y
theorem cover_item (p : Vec F S20x256x64 .f32) (y : S20x256x64.Idx) :
    ∃ pc ∈ ([⟨r10, p⟩] : List (View.Piece (Elt F) S20x256x64 .f32)), y ∈ pc.1.set :=
  View.cover_of_tiled [⟨r10, p⟩] S20x256x64.size (by rfl) y

set_option maxHeartbeats 1000000 in
/-- The body, on whole windows: the inputs stay, and each output ends at what the point computes. -/
theorem dense_body (c : Dev nD) (E : Set ℕ) (i : grid2.Coords) (a0 : Memref sig .tc .vmem S256x64 .f32) (h0 : a0.IsWhole) (a1 : Memref sig .tc .vmem S20x256x128 .f32) (h1 : a1.IsWhole) (a2 : Memref sig .tc .vmem S256x1000 .f32) (h2 : a2.IsWhole) (a3 : Memref sig .tc .vmem S256x1 .f32) (h3 : a3.IsWhole) (a4 : Memref sig .tc .vmem S8x1000 .f32) (h4 : a4.IsWhole) (a5 : Memref sig .tc .vmem S64x1000 .f32) (h5 : a5.IsWhole) (a6 : Memref sig .tc .vmem S128x192 .f32) (h6 : a6.IsWhole) (a7 : Memref sig .tc .vmem S64x192 .f32) (h7 : a7.IsWhole) (a8 : Memref sig .tc .vmem S1x192 .f32) (h8 : a8.IsWhole) (a9 : Memref sig .tc .vmem S64x64 .f32) (h9 : a9.IsWhole) (a10 : Memref sig .tc .vmem S256x1000 .f32) (h10 : a10.IsWhole) (a11 : Memref sig .tc .vmem S256x64 .f32) (h11 : a11.IsWhole) (a12 : Memref sig .tc .vmem S20x256x64 .f32) (h12 : a12.IsWhole)
    (x0 : Vec F S256x64 .f32) (x1 : Vec F S20x256x128 .f32) (x2 : Vec F S256x1000 .f32) (x3 : Vec F S256x1 .f32) (x4 : Vec F S8x1000 .f32) (x5 : Vec F S64x1000 .f32) (x6 : Vec F S128x192 .f32) (x7 : Vec F S64x192 .f32) (x8 : Vec F S1x192 .f32) (x9 : Vec F S64x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (View.canon [⟨r9, vPred x0 x1 x2 x3 x4 x5 x6 x7 x8 x9⟩]) ∗ owns (c : Thread nD τ) a11 fullShare (View.canon [⟨r0, vUser x0 x1 x3 x6 x7 x8⟩]) ∗ owns (c : Thread nD τ) a12 fullShare (View.canon [⟨r10, vItem x0 x1 x3 x6 x7 x8⟩])) -∗ Q ⟨⟩))
      ⊢ wp frame (wpE (defs₀ (F := F)) Variants.none c none) E (cc2__dense_body i a0 h0 a1 h1 a2 h2 a3 h3 a4 h4 a5 h5 a6 h6 a7 h7 a8 h8 a9 h9 a10 h10 a11 h11 a12 h12) Q := by
  simp only [cc2__dense_body_eq_skeleton]; unfold cc2__dense_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover_pred _)).trans rfl
  isplitl [H11]
  · iexists _; isplitr
    swap; · iexact H11
    ipureintro
    exact (View.read_writes_eq_canon _ _ _ (cover_user _)).trans rfl
  iexists _; isplitr
  swap; · iexact H12
  ipureintro
  exact (View.read_writes_eq_canon _ _ _ (cover_item _)).trans rfl

/-! ## The pipeline's proof data, at contents `V` of the buffers as the region finds them -/

variable (V : Dev nD → Valuation τ sig (Elt F))

/-- The block of window `w` at point `t`. -/
def blkOf (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The proof data: the arrays as found, each input's window at its block, each output's at what the point computes. -/
def dat1 (c : Dev nD) : Dat τ (Elt F) (HIx 1) ℕ (UU F) ℕ cfg2 c where
  A w := V c (Proc.devRef .tc (Pipeline.arrRef spec2 w))
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => blkOf V c 7 t
    | ⟨8, _⟩ => blkOf V c 8 t
    | ⟨9, _⟩ => blkOf V c 9 t
    | ⟨10, _⟩ => View.canon [⟨r9, vPred (blkOf V c 0 t) (blkOf V c 1 t) (blkOf V c 2 t) (blkOf V c 3 t) (blkOf V c 4 t) (blkOf V c 5 t) (blkOf V c 6 t) (blkOf V c 7 t) (blkOf V c 8 t) (blkOf V c 9 t)⟩]
    | ⟨11, _⟩ => View.canon [⟨r0, vUser (blkOf V c 0 t) (blkOf V c 1 t) (blkOf V c 3 t) (blkOf V c 6 t) (blkOf V c 7 t) (blkOf V c 8 t)⟩]
    | ⟨12, _⟩ => View.canon [⟨r10, vItem (blkOf V c 0 t) (blkOf V c 1 t) (blkOf V c 3 t) (blkOf V c 6 t) (blkOf V c 7 t) (blkOf V c 8 t)⟩]
  Φ _ := Pipeline.scopedRest spec2 c
  q _ := fullShare
  owed _ := 0

theorem A_eq (c : Dev nD) (w : Fin cfg2.W) : (dat1 V c).A w = V c (Proc.devRef .tc (Pipeline.arrRef spec2 w)) := by
  dsimp only [dat1]

theorem after_0 (c : Dev nD) (t : Fin cfg2.N) : (dat1 V c).after 0 t = blkOf V c 0 t := by dsimp only [dat1]
theorem after_1 (c : Dev nD) (t : Fin cfg2.N) : (dat1 V c).after 1 t = blkOf V c 1 t := by dsimp only [dat1]
theorem after_2 (c : Dev nD) (t : Fin cfg2.N) : (dat1 V c).after 2 t = blkOf V c 2 t := by dsimp only [dat1]
theorem after_3 (c : Dev nD) (t : Fin cfg2.N) : (dat1 V c).after 3 t = blkOf V c 3 t := by dsimp only [dat1]
theorem after_4 (c : Dev nD) (t : Fin cfg2.N) : (dat1 V c).after 4 t = blkOf V c 4 t := by dsimp only [dat1]
theorem after_5 (c : Dev nD) (t : Fin cfg2.N) : (dat1 V c).after 5 t = blkOf V c 5 t := by dsimp only [dat1]
theorem after_6 (c : Dev nD) (t : Fin cfg2.N) : (dat1 V c).after 6 t = blkOf V c 6 t := by dsimp only [dat1]
theorem after_7 (c : Dev nD) (t : Fin cfg2.N) : (dat1 V c).after 7 t = blkOf V c 7 t := by dsimp only [dat1]
theorem after_8 (c : Dev nD) (t : Fin cfg2.N) : (dat1 V c).after 8 t = blkOf V c 8 t := by dsimp only [dat1]
theorem after_9 (c : Dev nD) (t : Fin cfg2.N) : (dat1 V c).after 9 t = blkOf V c 9 t := by dsimp only [dat1]
theorem after_10 (c : Dev nD) (t : Fin cfg2.N) : (dat1 V c).after 10 t = View.canon [⟨r9, vPred (blkOf V c 0 t) (blkOf V c 1 t) (blkOf V c 2 t) (blkOf V c 3 t) (blkOf V c 4 t) (blkOf V c 5 t) (blkOf V c 6 t) (blkOf V c 7 t) (blkOf V c 8 t) (blkOf V c 9 t)⟩] := by dsimp only [dat1]
theorem after_11 (c : Dev nD) (t : Fin cfg2.N) : (dat1 V c).after 11 t = View.canon [⟨r0, vUser (blkOf V c 0 t) (blkOf V c 1 t) (blkOf V c 3 t) (blkOf V c 6 t) (blkOf V c 7 t) (blkOf V c 8 t)⟩] := by dsimp only [dat1]
theorem after_12 (c : Dev nD) (t : Fin cfg2.N) : (dat1 V c).after 12 t = View.canon [⟨r10, vItem (blkOf V c 0 t) (blkOf V c 1 t) (blkOf V c 3 t) (blkOf V c 6 t) (blkOf V c 7 t) (blkOf V c 8 t)⟩] := by dsimp only [dat1]

/-! An input's window holds its block at every point, fetched there or not. -/

theorem before_0 (c : Dev nD) (t : Fin cfg2.N) (d) : (dat1 V c).before 0 t d = blkOf V c 0 t :=
  ((dat1 V c).before_in_eq_fetched 0 rfl (fun _ => rfl) (fun _ _ _ => rfl)
    (fun t => by rw [after_0]; unfold Dat.blockOf blkOf; rw [A_eq]) t d).trans (by unfold Dat.fetched Dat.blockOf blkOf; rw [A_eq]; try rfl)
theorem before_1 (c : Dev nD) (t : Fin cfg2.N) (d) : (dat1 V c).before 1 t d = blkOf V c 1 t :=
  ((dat1 V c).before_in_eq_fetched 1 rfl (fun _ => rfl) (fun _ _ _ => rfl)
    (fun t => by rw [after_1]; unfold Dat.blockOf blkOf; rw [A_eq]) t d).trans (by unfold Dat.fetched Dat.blockOf blkOf; rw [A_eq]; try rfl)
theorem before_2 (c : Dev nD) (t : Fin cfg2.N) (d) : (dat1 V c).before 2 t d = blkOf V c 2 t :=
  ((dat1 V c).before_in_eq_fetched 2 rfl (fun _ => rfl) (fun _ _ _ => rfl)
    (fun t => by rw [after_2]; unfold Dat.blockOf blkOf; rw [A_eq]) t d).trans (by unfold Dat.fetched Dat.blockOf blkOf; rw [A_eq]; try rfl)
theorem before_3 (c : Dev nD) (t : Fin cfg2.N) (d) : (dat1 V c).before 3 t d = blkOf V c 3 t :=
  ((dat1 V c).before_in_eq_fetched 3 rfl (fun _ => rfl) (fun _ _ _ => rfl)
    (fun t => by rw [after_3]; unfold Dat.blockOf blkOf; rw [A_eq]) t d).trans (by unfold Dat.fetched Dat.blockOf blkOf; rw [A_eq]; try rfl)
theorem before_4 (c : Dev nD) (t : Fin cfg2.N) (d) : (dat1 V c).before 4 t d = blkOf V c 4 t :=
  ((dat1 V c).before_in_eq_fetched 4 rfl (fun _ => rfl) (fun _ _ _ => rfl)
    (fun t => by rw [after_4]; unfold Dat.blockOf blkOf; rw [A_eq]) t d).trans (by unfold Dat.fetched Dat.blockOf blkOf; rw [A_eq]; try rfl)
theorem before_5 (c : Dev nD) (t : Fin cfg2.N) (d) : (dat1 V c).before 5 t d = blkOf V c 5 t :=
  ((dat1 V c).before_in_eq_fetched 5 rfl (fun _ => rfl) (fun _ _ _ => rfl)
    (fun t => by rw [after_5]; unfold Dat.blockOf blkOf; rw [A_eq]) t d).trans (by unfold Dat.fetched Dat.blockOf blkOf; rw [A_eq]; try rfl)
theorem before_6 (c : Dev nD) (t : Fin cfg2.N) (d) : (dat1 V c).before 6 t d = blkOf V c 6 t :=
  ((dat1 V c).before_in_eq_fetched 6 rfl (fun _ => rfl) (fun _ _ _ => rfl)
    (fun t => by rw [after_6]; unfold Dat.blockOf blkOf; rw [A_eq]) t d).trans (by unfold Dat.fetched Dat.blockOf blkOf; rw [A_eq]; try rfl)
theorem before_7 (c : Dev nD) (t : Fin cfg2.N) (d) : (dat1 V c).before 7 t d = blkOf V c 7 t :=
  ((dat1 V c).before_in_eq_fetched 7 rfl (fun _ => rfl) (fun _ _ _ => rfl)
    (fun t => by rw [after_7]; unfold Dat.blockOf blkOf; rw [A_eq]) t d).trans (by unfold Dat.fetched Dat.blockOf blkOf; rw [A_eq]; try rfl)
theorem before_8 (c : Dev nD) (t : Fin cfg2.N) (d) : (dat1 V c).before 8 t d = blkOf V c 8 t :=
  ((dat1 V c).before_in_eq_fetched 8 rfl (fun _ => rfl) (fun _ _ _ => rfl)
    (fun t => by rw [after_8]; unfold Dat.blockOf blkOf; rw [A_eq]) t d).trans (by unfold Dat.fetched Dat.blockOf blkOf; rw [A_eq]; try rfl)
theorem before_9 (c : Dev nD) (t : Fin cfg2.N) (d) : (dat1 V c).before 9 t d = blkOf V c 9 t :=
  ((dat1 V c).before_in_eq_fetched 9 rfl (fun _ => rfl) (fun _ _ _ => rfl)
    (fun t => by rw [after_9]; unfold Dat.blockOf blkOf; rw [A_eq]) t d).trans (by unfold Dat.fetched Dat.blockOf blkOf; rw [A_eq]; try rfl)

/-! ## The body's obligation -/

def bodyPre (c : Dev nD) (t : Fin cfg2.N) : sProp 𝕄 :=
  iprop((dat1 V c).Φ t.castSucc ∗ (dat1 V c).owesAt none t.castSucc
    ∗ (∃ d, owns (c : Thread nD τ) (st2_0 t) fullShare ((dat1 V c).before 0 t d))
    ∗ (∃ d, owns (c : Thread nD τ) (st2_1 t) fullShare ((dat1 V c).before 1 t d))
    ∗ (∃ d, owns (c : Thread nD τ) (st2_2 t) fullShare ((dat1 V c).before 2 t d))
    ∗ (∃ d, owns (c : Thread nD τ) (st2_3 t) fullShare ((dat1 V c).before 3 t d))
    ∗ (∃ d, owns (c : Thread nD τ) (st2_4 t) fullShare ((dat1 V c).before 4 t d))
    ∗ (∃ d, owns (c : Thread nD τ) (st2_5 t) fullShare ((dat1 V c).before 5 t d))
    ∗ (∃ d, owns (c : Thread nD τ) (st2_6 t) fullShare ((dat1 V c).before 6 t d))
    ∗ (∃ d, owns (c : Thread nD τ) (st2_7 t) fullShare ((dat1 V c).before 7 t d))
    ∗ (∃ d, owns (c : Thread nD τ) (st2_8 t) fullShare ((dat1 V c).before 8 t d))
    ∗ (∃ d, owns (c : Thread nD τ) (st2_9 t) fullShare ((dat1 V c).before 9 t d))
    ∗ (∃ d, owns (c : Thread nD τ) (st2_10 t) fullShare ((dat1 V c).before 10 t d))
    ∗ (∃ d, owns (c : Thread nD τ) (st2_11 t) fullShare ((dat1 V c).before 11 t d))
    ∗ (∃ d, owns (c : Thread nD τ) (st2_12 t) fullShare ((dat1 V c).before 12 t d)))

def bodyPost (c : Dev nD) (t : Fin cfg2.N) : sProp 𝕄 :=
  iprop((dat1 V c).Φ t.succ ∗ (dat1 V c).owesAt none t.succ
    ∗ owns (c : Thread nD τ) (st2_0 t) fullShare ((dat1 V c).after 0 t)
    ∗ owns (c : Thread nD τ) (st2_1 t) fullShare ((dat1 V c).after 1 t)
    ∗ owns (c : Thread nD τ) (st2_2 t) fullShare ((dat1 V c).after 2 t)
    ∗ owns (c : Thread nD τ) (st2_3 t) fullShare ((dat1 V c).after 3 t)
    ∗ owns (c : Thread nD τ) (st2_4 t) fullShare ((dat1 V c).after 4 t)
    ∗ owns (c : Thread nD τ) (st2_5 t) fullShare ((dat1 V c).after 5 t)
    ∗ owns (c : Thread nD τ) (st2_6 t) fullShare ((dat1 V c).after 6 t)
    ∗ owns (c : Thread nD τ) (st2_7 t) fullShare ((dat1 V c).after 7 t)
    ∗ owns (c : Thread nD τ) (st2_8 t) fullShare ((dat1 V c).after 8 t)
    ∗ owns (c : Thread nD τ) (st2_9 t) fullShare ((dat1 V c).after 9 t)
    ∗ owns (c : Thread nD τ) (st2_10 t) fullShare ((dat1 V c).after 10 t)
    ∗ owns (c : Thread nD τ) (st2_11 t) fullShare ((dat1 V c).after 11 t)
    ∗ owns (c : Thread nD τ) (st2_12 t) fullShare ((dat1 V c).after 12 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9]
  rw [show (dat1 V c).Φ t.succ = (dat1 V c).Φ t.castSucc from rfl,
    show (dat1 V c).owesAt none t.succ = (dat1 V c).owesAt none t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (dense_body c Set.univ (grid2.coords t) _ _ _ _ _ _ _ _ _ _ _ _ _ _ _ _ _ _ _ _ _ _ _ _ _ _ (blkOf V c 0 t) (blkOf V c 1 t) (blkOf V c 2 t) (blkOf V c 3 t) (blkOf V c 4 t) (blkOf V c 5 t) (blkOf V c 6 t) (blkOf V c 7 t) (blkOf V c 8 t) (blkOf V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg2.N) :
    defs₀ (F := F) .tc cfg2.body (cfg2.bodyArgs t (cfg2.slots t)) = bodyAt2 t := by
  rfl

theorem body_obligation (c : Dev nD) : BodyObligation (dat1 V c) (defs₀ (F := F)) Variants.none none Set.univ := fun t => by
  rw [bigSep_W2, bigSep_W2, defs₀_row]
  exact triple_restated (sound_body V c t) rfl .rfl fun _ => .rfl

end Cert.Proof

end
-- ==== Proof.Extract.lean ====
/-
  The first pipeline (the column sums and the users' rows) as a region of the program: its proof data, its body obligation,
  and what the region takes and leaves: the two results' buffers at the users' rows, the third at the partial sums.
-/
module

public import proofs.«01_k».proof.Proof.Chunk
public import proofs.«01_k».proof.Proof.Dense
public import Idealize.ShloMosaic.Lib.Pipeline.TableIdle
public import Idealize.ShloMosaic.Lib.Pipeline.TalkSched
public import Idealize.ShloMosaic.Lib.Pipeline.RegionArrays
public import Idealize.ShloMosaic.Lib.Pipeline.RegionArraysS

@[expose] public section

set_option maxRecDepth 16384

noncomputable section

namespace Cert.Proof

open Cert.KernelIdeal Cert.KernelIdeal.Gen

open Idealize.ShloMosaic Idealize.ShloMosaic.TcCoe
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose ucRefs RegionSeg scopedRestBut scopedRest ownSems0)

variable {F : FTy → Type} [FloatOps F]

local notation "𝕄" => MT nD τ sig (HIx 1) (Elt F) ℕ (UU F) ℕ

abbrev rH : DevRef τ sig := Proc.devRef .tc main_v25_1
abbrev rU : DevRef τ sig := Proc.devRef .tc main_v25_2
abbrev rAH : DevRef τ sig := Proc.devRef .tc main_v23
abbrev rAU : DevRef τ sig := Proc.devRef .tc main_v24
abbrev rSu : DevRef τ sig := Proc.devRef .tc main_v11
abbrev rDs : DevRef τ sig := Proc.devRef .tc main_v12
abbrev rSg : DevRef τ sig := Proc.devRef .tc main_v22

/-- What the tables say, and what the two results are to hold: row `ds k` of each is the row of user `su k`. -/
structure Rows (AH : S1000x100000.Idx → F .f32) (AU : S64x100000.Idx → F .f32) (su ds : S4096.Idx → BitVec 32) (sg : S50.Idx → BitVec 32)
    (seg : ℕ → ℕ) (gH : S4096x1000.Idx → F .f32) (gU : S4096x64.Idx → F .f32) : Prop where
  tabs : Tabs su ds sg seg
  lt : ∀ k (h : k < 4096), (su (ix k h)).toNat < 100000
  hist : ∀ k (h : k < 4096) (q : S4096x1000.Idx), (q 0).val = (ds (ix k h)).toNat → gH q = AH (fun | 0 => q 1 | 1 => ⟨(su (ix k h)).toNat, lt k h⟩)
  mem : ∀ k (h : k < 4096) (q : S4096x64.Idx), (q 0).val = (ds (ix k h)).toNat → gU q = AU (fun | 0 => q 1 | 1 => ⟨(su (ix k h)).toNat, lt k h⟩)
  surj : ∀ r, r < 4096 → ∃ k, ∃ h : k < 4096, (ds (ix k h)).toNat = r

section Data

variable (V : Dev nD → Valuation τ sig (Elt F)) (a : (pcfg1 (F := F)).Adm) (seg : ℕ → ℕ) (gH : S4096x1000.Idx → F .f32) (gU : S4096x64.Idx → F .f32)

abbrev suOf : S4096.Idx → BitVec 32 := a.1 0
abbrev dsOf : S4096.Idx → BitVec 32 := a.1 1
abbrev sgOf : S50.Idx → BitVec 32 := a.1 2
abbrev AHOf (c : Dev nD) : S1000x100000.Idx → F .f32 := V c rAH
abbrev AUOf (c : Dev nD) : S64x100000.Idx → F .f32 := V c rAU
abbrev scr1 : List (Ref sig .tc) := [cc1_scratch0, cc1_scratch1]

/-- What the body keeps from point to point. -/
def inv1 (c : Dev nD) (g : ℕ) : sProp 𝕄 :=
  iprop((∃ ιw, wmInv emW ιw) ∗ tabUR c (suOf a) (dsOf a) ∗ (ℓg c ↦{fullShare} (sgOf a : Buf (Elt F) (ℓg c)))
    ∗ St c (dsOf a) seg (V c rH : S4096x1000.Idx → F .f32) gH (V c rU : S4096x64.Idx → F .f32) gU g ∗ scopedRestBut spec1 c scr1)

def dat0 (c : Dev nD) : Dat τ (Elt F) (HIx 1) ℕ (UU F) ℕ (cfg1 a) c where
  A w := V c (Proc.devRef .tc (Pipeline.arrRef spec1 w))
  after w t := match w with
    | ⟨0, _⟩ => xbH (AHOf V c) t.val pad0
    | ⟨1, _⟩ => xbU (AUOf V c) t.val padU
    | ⟨2, _⟩ => cnt (AHOf V c) t.val
  Φ g := inv1 V a seg gH gU c g.val
  q _ := fullShare
  owed _ := 0

theorem dat0_A (c : Dev nD) (w : Fin 3) : (dat0 V a seg gH gU c).A w = V c (Proc.devRef .tc (Pipeline.arrRef spec1 w)) := by dsimp only [dat0]
theorem dat0_after0 (c : Dev nD) (t : Fin (cfg1 a).N) : (dat0 V a seg gH gU c).after 0 t = xbH (AHOf V c) t.val pad0 := rfl
theorem dat0_after1 (c : Dev nD) (t : Fin (cfg1 a).N) : (dat0 V a seg gH gU c).after 1 t = xbU (AUOf V c) t.val padU := rfl
theorem dat0_after2 (c : Dev nD) (t : Fin (cfg1 a).N) : (dat0 V a seg gH gU c).after 2 t = cnt (AHOf V c) t.val := rfl

theorem fetch1_0 (t : Fin (cfg1 a).N) : ((cfg1 a).win 0).fetch t = true := by
  rw [Window.fetch_eq_fetchOf]
  show (!false && (decide (t.val = 0) || decide (∃ h : 0 < t.val, cc1_transform_0 (grid1.coords t) ≠ cc1_transform_0 (grid1.coords ⟨t.val - 1, lt_of_le_of_lt (Nat.sub_le _ _) t.isLt⟩)))) = true
  by_cases h : t.val = 0
  · simp [h]
  · have : ∃ h : 0 < t.val, cc1_transform_0 (grid1.coords t) ≠ cc1_transform_0 (grid1.coords ⟨t.val - 1, lt_of_le_of_lt (Nat.sub_le _ _) t.isLt⟩) :=
      ⟨by omega, fun e => by
        have e1 := congrFun e 1
        rw [(transform1 t).1, (transform1 _).1] at e1
        have e2 : t.val = t.val - 1 := e1
        omega⟩
    rw [decide_eq_true this, Bool.or_true]; rfl

theorem fetch1_1 (t : Fin (cfg1 a).N) : ((cfg1 a).win 1).fetch t = true := by
  rw [Window.fetch_eq_fetchOf]
  show (!false && (decide (t.val = 0) || decide (∃ h : 0 < t.val, cc1_transform_1 (grid1.coords t) ≠ cc1_transform_1 (grid1.coords ⟨t.val - 1, lt_of_le_of_lt (Nat.sub_le _ _) t.isLt⟩)))) = true
  by_cases h : t.val = 0
  · simp [h]
  · have : ∃ h : 0 < t.val, cc1_transform_1 (grid1.coords t) ≠ cc1_transform_1 (grid1.coords ⟨t.val - 1, lt_of_le_of_lt (Nat.sub_le _ _) t.isLt⟩) :=
      ⟨by omega, fun e => by
        have e1 := congrFun e 1
        rw [(transform1 t).2, (transform1 _).2] at e1
        have e2 : t.val = t.val - 1 := e1
        omega⟩
    rw [decide_eq_true this, Bool.or_true]; rfl

theorem flush1_2 (t : Fin (cfg1 a).N) (h : t.val + 1 < 49) : ((cfg1 a).win 2).flush t = false := by
  rw [Window.flush_eq_flushOf]
  show (true && (decide (t.val + 1 = grid1.N) || decide (∃ h : t.val + 1 < grid1.N, cc1_transform_2 (grid1.coords ⟨t.val + 1, h⟩) ≠ cc1_transform_2 (grid1.coords t)))) = false
  have h1 : ¬ t.val + 1 = grid1.N := by rw [N_1]; omega
  have h2 : ¬ ∃ h : t.val + 1 < grid1.N, cc1_transform_2 (grid1.coords ⟨t.val + 1, h⟩) ≠ cc1_transform_2 (grid1.coords t) := fun ⟨_, h⟩ => h rfl
  rw [decide_eq_false h1, decide_eq_false h2]; rfl

theorem idle1_2 (i : grid1.Coords) : idle1 2 i = false := by
  have hi : (i 0).val < 49 := (i 0).isLt
  rw [show i = gi (i 0).val hi from funext fun | 0 => rfl]
  generalize (i 0).val = n at hi
  revert hi
  revert n
  decide +kernel

theorem before0 (c : Dev nD) (t : Fin (cfg1 a).N) (d : S1000x2048.Idx → F .f32) : (dat0 V a seg gH gU c).before 0 t d = xbH (AHOf V c) t.val d := by
  unfold Dat.before
  rw [if_pos (fetch1_0 a t)]
  exact fillH a (AHOf V c) t d
theorem before1 (c : Dev nD) (t : Fin (cfg1 a).N) (d : S64x2048.Idx → F .f32) : (dat0 V a seg gH gU c).before 1 t d = xbU (AUOf V c) t.val d := by
  unfold Dat.before
  rw [if_pos (fetch1_1 a t)]
  exact fillU a (AUOf V c) t d
theorem before2 (c : Dev nD) (t : Fin (cfg1 a).N) (n : ℕ) (ht : t.val = n + 1) (d : S8x1000.Idx → F .f32) : (dat0 V a seg gH gU c).before 2 t d = cnt (AHOf V c) n := by
  have h49 : t.val < 49 := lt_of_lt_of_eq t.isLt N_1
  rw [(dat0 V a seg gH gU c).before_out_traj 2 rfl (fun _ _ => rfl)
    (fun t _ h => absurd h (by rw [show (cfg1 a).idle 2 ((cfg1 a).grid.coords t) = false from idle1_2 _]; exact Bool.false_ne_true)) _ t rfl d]
  have hf : (cfg1 a).fresh 2 t.val = false := by
    have hn : n < (cfg1 a).N := by have := t.isLt; omega
    rw [ht, Cfg.fresh_succ (cfg1 a) 2 n hn, flush1_2 a ⟨n, hn⟩ (by show n + 1 < 49; omega),
      show (cfg1 a).idle 2 ((cfg1 a).grid.coords ⟨n, hn⟩) = false from idle1_2 _]
    rfl
  rw [hf]
  show cnt (AHOf V c) (t.val - 1) = _
  rw [ht]; rfl

/-- What the point stores over the window of the sums. -/
theorem step2 (c : Dev nD) (t : Fin (cfg1 a).N) (x : S1000x2048.Idx → F .f32) (d : S8x1000.Idx → F .f32) :
    s6 (grid1.coords t) (xbH (AHOf V c) t.val x) (z6 (grid1.coords t) ((dat0 V a seg gH gU c).before 2 t d)) = cnt (AHOf V c) t.val := by
  have h49 : t.val < 49 := lt_of_lt_of_eq t.isLt N_1
  rw [coords_gi t h49]
  cases t with
  | mk n hn =>
    cases n with
    | zero => exact cnt_zero (AHOf V c) x _
    | succ n =>
      rw [before2 V a seg gH gU c ⟨n + 1, hn⟩ n rfl d]
      exact cnt_succ (AHOf V c) n h49 x

/-! ## The body obligation -/

abbrev stg0 (t : Fin (cfg1 a).N) := ((cfg1 a).win 0).stage ((cfg1 a).slots t 0)
abbrev stg1 (t : Fin (cfg1 a).N) := ((cfg1 a).win 1).stage ((cfg1 a).slots t 1)
abbrev stg2 (t : Fin (cfg1 a).N) := ((cfg1 a).win 2).stage ((cfg1 a).slots t 2)

variable {V a seg gH gU}

theorem point0 (c : Dev nD) (hR : Rows (AHOf V c) (AUOf V c) (suOf a) (dsOf a) (sgOf a) seg gH gU) (t : Fin (cfg1 a).N) :
    (iprop(inv1 V a seg gH gU c t.val ∗ (∃ W, owes (c : Thread nD τ) 0 W)
        ∗ (∃ d, owns (c : Thread nD τ) (stg0 a t) fullShare (xbH (AHOf V c) t.val d))
        ∗ (∃ d, owns (c : Thread nD τ) (stg1 a t) fullShare (xbU (AUOf V c) t.val d))
        ∗ (∃ d, owns (c : Thread nD τ) (stg2 a t) fullShare ((dat0 V a seg gH gU c).before 2 t d))) : sProp 𝕄)
      ⊢ wp frame (wpE (defs₀ (F := F)) Variants.none (c : Thread nD τ) none) Set.univ (defs₀ (F := F) .tc (cfg1 a).body ((cfg1 a).bodyArgs t ((cfg1 a).slots t)))
        (fun _ => iprop(inv1 V a seg gH gU c (t.val + 1) ∗ (∃ W, owes (c : Thread nD τ) 0 W)
          ∗ (∃ d, owns (c : Thread nD τ) (stg0 a t) fullShare (xbH (AHOf V c) t.val d))
          ∗ (∃ d, owns (c : Thread nD τ) (stg1 a t) fullShare (xbU (AUOf V c) t.val d))
          ∗ owns (c : Thread nD τ) (stg2 a t) fullShare (cnt (AHOf V c) t.val))) := by
  have h49 : t.val < 49 := lt_of_lt_of_eq t.isLt N_1
  unfold inv1
  iintro ⟨⟨⟨%ιw, #Hw⟩, Ht, Hg, HS, Hr⟩, HO, ⟨%x4, H4⟩, ⟨%x5, H5⟩, ⟨%d, H6⟩⟩
  have hp := point_spec (grid1.coords t) (stg0 a t) (hstage1_0 (((cfg1 a).slots t 0).cast nbuf1_0)) (stg1 a t) (hstage1_1 (((cfg1 a).slots t 1).cast nbuf1_1))
    (stg2 a t) (hstage1_2 (((cfg1 a).slots t 2).cast nbuf1_2)) c (fH := V c rH) (fU := V c rU) (ιw := ιw) hR.tabs
    (xbH (AHOf V c) t.val x4) (xbU (AUOf V c) t.val x5) ((dat0 V a seg gH gU c).before 2 t d)
    (by rw [coords_one]; exact rowsOK hR.tabs _ _ x4 x5 gH gU hR.lt hR.hist hR.mem h49)
  rw [coords_one] at hp
  generalize hz : s6 (F := F) (grid1.coords t) _ _ = z at hp
  have hz' : z = cnt (AHOf V c) t.val := hz.symm.trans (step2 V a seg gH gU c t x4 d)
  subst hz'
  iapply (wp_wand frame (wpE (defs₀ (F := F)) Variants.none (c : Thread nD τ) none) Set.univ) $$ [Ht Hg HS HO H4 H5 H6]
  · iapply hp
    isplitr; · iexact Hw
    isplitl [Ht]; · iexact Ht
    isplitl [Hg]; · iexact Hg
    isplitl [HS]; · iexact HS
    isplitl [HO]; · iexact HO
    isplitl [H4]; · iexact H4
    isplitl [H5]; · iexact H5
    iexact H6
  iintro %r ⟨Ht, Hg, HS, HO, H4, H5, H6⟩
  isplitl [Ht Hg HS Hr]
  · isplitr; · iexists ιw; iexact Hw
    isplitl [Ht]; · iexact Ht
    isplitl [Hg]; · iexact Hg
    isplitl [HS]; · iexact HS
    iexact Hr
  isplitl [HO]; · iexact HO
  isplitl [H4]; · iexists x4; iexact H4
  isplitl [H5]; · iexists x5; iexact H5
  iexact H6

theorem loose0 (c : Dev nD) (t : Fin (cfg1 a).N) (d : S1000x2048.Idx → F .f32) :
    ((cfg1 a).win 0).fill ((cfg1 a).grid.coords t) d (((cfg1 a).win 0).cut ((cfg1 a).grid.coords t) ((dat0 V a seg gH gU c).after 0 t)) = xbH (AHOf V c) t.val d := by
  rw [dat0_after0]
  show (win1 a 0).fill (grid1.coords t) d ((win1 a 0).cut (grid1.coords t) (xbH (AHOf V c) t.val pad0)) = _
  rw [← fillH a (AHOf V c) t pad0, Window.cut_fill]
  exact fillH a (AHOf V c) t d
theorem loose1' (c : Dev nD) (t : Fin (cfg1 a).N) (d : S64x2048.Idx → F .f32) :
    ((cfg1 a).win 1).fill ((cfg1 a).grid.coords t) d (((cfg1 a).win 1).cut ((cfg1 a).grid.coords t) ((dat0 V a seg gH gU c).after 1 t)) = xbU (AUOf V c) t.val d := by
  rw [dat0_after1]
  show (win1 a 1).fill (grid1.coords t) d ((win1 a 1).cut (grid1.coords t) (xbU (AUOf V c) t.val padU)) = _
  rw [← fillU a (AUOf V c) t padU, Window.cut_fill]
  exact fillU a (AUOf V c) t d

theorem leaves_of_live {cfg : Cfg sig Λ₀} {c : Dev nD} (dat : Dat τ (Elt F) (HIx 1) ℕ (UU F) ℕ cfg c) (w : Fin cfg.W) (t : Fin cfg.N)
    (hi : cfg.idle w (cfg.grid.coords t) = false) (hl : cfg.loose w = false) :
    (owns (c : Thread nD τ) ((cfg.win w).stage (cfg.slots t w)) fullShare (dat.after w t) : sProp 𝕄) ⊢ dat.leaves w t := by
  unfold Dat.leaves
  rw [hi, hl]

theorem body0 (c : Dev nD) (hR : Rows (AHOf V c) (AUOf V c) (suOf a) (dsOf a) (sgOf a) seg gH gU) :
    BodyObligationLoose (dat0 V a seg gH gU c) (defs₀ (F := F)) Variants.none none Set.univ := fun t => by
  rw [bigSep_W1, bigSep_W1]
  refine triple_restated (point0 c hR t) rfl ?_ fun _ => ?_
  · show iprop(inv1 V a seg gH gU c t.val ∗ (dat0 V a seg gH gU c).owesAt none t.castSucc
        ∗ (∃ d, owns (c : Thread nD τ) (stg0 a t) fullShare ((dat0 V a seg gH gU c).before 0 t d))
        ∗ (∃ d, owns (c : Thread nD τ) (stg1 a t) fullShare ((dat0 V a seg gH gU c).before 1 t d))
        ∗ (∃ d, owns (c : Thread nD τ) (stg2 a t) fullShare ((dat0 V a seg gH gU c).before 2 t d))) ⊢ _
    iintro ⟨HI, HO, ⟨%d0, H0⟩, ⟨%d1, H1⟩, ⟨%d2, H2⟩⟩
    isplitl [HI]; · iexact HI
    isplitl [HO]; · iapply (TalkSites.owesAt_elim (dat0 V a seg gH gU c) none t.castSucc 0 rfl); iexact HO
    isplitl [H0]; · iexists d0; iapply (Entails.of_eq (congrArg (owns (c : Thread nD τ) (stg0 a t) fullShare) (before0 V a seg gH gU c t d0))); iexact H0
    isplitl [H1]; · iexists d1; iapply (Entails.of_eq (congrArg (owns (c : Thread nD τ) (stg1 a t) fullShare) (before1 V a seg gH gU c t d1))); iexact H1
    iexists d2; iexact H2
  · have hi : (cfg1 a).idle 2 ((cfg1 a).grid.coords t) = false := idle1_2 _
    show _ ⊢ iprop(inv1 V a seg gH gU c (t.val + 1) ∗ (dat0 V a seg gH gU c).owesAt none t.succ
        ∗ (∃ d, owns (c : Thread nD τ) (stg0 a t) fullShare (((cfg1 a).win 0).fill ((cfg1 a).grid.coords t) d (((cfg1 a).win 0).cut ((cfg1 a).grid.coords t) ((dat0 V a seg gH gU c).after 0 t))))
        ∗ (∃ d, owns (c : Thread nD τ) (stg1 a t) fullShare (((cfg1 a).win 1).fill ((cfg1 a).grid.coords t) d (((cfg1 a).win 1).cut ((cfg1 a).grid.coords t) ((dat0 V a seg gH gU c).after 1 t))))
        ∗ (dat0 V a seg gH gU c).leaves 2 t)
    iintro ⟨HI, ⟨%W, HO⟩, ⟨%d0, H0⟩, ⟨%d1, H1⟩, H2⟩
    isplitl [HI]; · iexact HI
    isplitl [HO]; · iapply (TalkSites.owesAt_intro (dat0 V a seg gH gU c) none t.succ 0 rfl rfl W); iexact HO
    isplitl [H0]; · iexists d0; iapply (Entails.of_eq (congrArg (owns (c : Thread nD τ) (stg0 a t) fullShare) (loose0 c t d0).symm)); iexact H0
    isplitl [H1]; · iexists d1; iapply (Entails.of_eq (congrArg (owns (c : Thread nD τ) (stg1 a t) fullShare) (loose1' c t d1).symm)); iexact H1
    iapply (leaves_of_live (dat0 V a seg gH gU c) 2 t hi rfl); iexact H2

end Data

/-! ## The two pipelines together -/

section Region

variable (V V1 : Dev nD → Valuation τ sig (Elt F)) (a : (pcfg1 (F := F)).Adm) (seg : ℕ → ℕ) (gH : S4096x1000.Idx → F .f32) (gU : S4096x64.Idx → F .f32)

/-- The tables' contents that the first pipeline is run at; the second has no table. -/
def adm : (p : Fin 2) → (pcfgs (F := F) p).Adm
  | 0 => a
  | 1 => cfg2.toPCfg_adm

def pdats : (p : Fin 2) → (c : Dev nD) → Dat τ (Elt F) (HIx 1) ℕ (UU F) ℕ (Pipeline.pin pcfgs (adm a) p) c
  | 0 => fun c => dat0 V a seg gH gU c
  | 1 => fun c => dat1 V1 c

theorem levelCut (p : Fin 2) : Pipeline.LevelCut (nD := nD) (τ := τ) pcfgs (adm a) (none : HIx 1) (K (F := F)).L (K (F := F)).lev p (fun _ => 0) (fun _ => 0) where
  hι := fun c w s => Finset.mem_univ _
  hιb := fun c w s => le_of_eq rfl
  hD := fun c g i h => absurd h (lt_irrefl _)

def osem1 : Fin 2 → SemLoc sig := ![.dma cc1_scratch2.sem, .dma cc1_scratch3.sem]

theorem ownSems1 (c : Dev nD) : (ownSems0 osem1 c : sProp 𝕄)
    = iprop(semVal ((c : Thread nD τ), (.dma cc1_scratch2.sem : SemLoc sig)) 0 ∗ semVal ((c : Thread nD τ), (.dma cc1_scratch3.sem : SemLoc sig)) 0) := by
  unfold ownSems0
  rw [Idealize.SL.BI.bigSep_univ_eq_bigSepL [(0 : Fin 2), 1] (by decide) (by decide)]
  rfl

/-- The buffers of the region that are no window's array: the tables and the two results. -/
def S5 : Finset (DevRef τ sig) := {rSu, rDs, rSg, rH, rU}

theorem held_S5 (c : Dev nD) (W : Valuation τ sig (Elt F)) :
    (held (c.tc : Thread nD τ) S5 W : sProp 𝕄) = iprop((ℓu c ↦{fullShare} W rSu) ∗ (ℓr c ↦{fullShare} W rDs) ∗ (ℓg c ↦{fullShare} W rSg) ∗ (ℓH c ↦{fullShare} W rH) ∗ (ℓU c ↦{fullShare} W rU)) := by
  unfold held S5
  rw [SparseCore.bigSep_insert' (by decide), SparseCore.bigSep_insert' (by decide), SparseCore.bigSep_insert' (by decide), SparseCore.bigSep_insert' (by decide), bigSep_singleton]

theorem S5_sub : S5 ⊆ ucRefs τ sig \ Pipeline.arrRefs (τ := τ) spec1 := by
  intro b hb
  refine Finset.mem_sdiff.mpr ⟨?_, ?_⟩
  · simp only [S5, Finset.mem_insert, Finset.mem_singleton] at hb
    rcases hb with rfl | rfl | rfl | rfl | rfl <;> exact Finset.mem_filter.mpr ⟨StableHlo.devRef_mem_tcRefs _, by decide⟩
  · revert b
    decide +kernel

theorem arrs1_sub : Pipeline.arrRefs (τ := τ) spec1 ⊆ ucRefs τ sig :=
  Pipeline.arrRefs_sub_ucRefs spec1 winFacts1.arr_unscoped

theorem held_region (c : Dev nD) (W : Valuation τ sig (Elt F)) :
    (held (c.tc : Thread nD τ) (ucRefs τ sig) W : sProp 𝕄)
      = iprop(held (c.tc : Thread nD τ) (Pipeline.arrRefs (τ := τ) spec1) W
        ∗ ((ℓu c ↦{fullShare} W rSu) ∗ (ℓr c ↦{fullShare} W rDs) ∗ (ℓg c ↦{fullShare} W rSg) ∗ (ℓH c ↦{fullShare} W rH) ∗ (ℓU c ↦{fullShare} W rU))
        ∗ held (c.tc : Thread nD τ) ((ucRefs τ sig \ Pipeline.arrRefs (τ := τ) spec1) \ S5) W) := by
  rw [StableHlo.held_sub_split (c.tc : Thread nD τ) arrs1_sub, StableHlo.held_sub_split (c.tc : Thread nD τ) S5_sub, held_S5]

/-- The buffers when the region is left. -/
def V' (c : Dev nD) : Valuation τ sig (Elt F) :=
  Function.update (Function.update (Pipeline.afterRegion (dat0 V a seg gH gU c) (V c)) rU gU) rH gH

theorem V'_rH (c : Dev nD) : V' V a seg gH gU c rH = gH := Function.update_self _ _ _
theorem V'_rU (c : Dev nD) : V' V a seg gH gU c rU = gU := (Function.update_of_ne (by decide) _ _).trans (Function.update_self _ _ _)
theorem V'_of (c : Dev nD) (b : DevRef τ sig) (h1 : b ≠ rH) (h2 : b ≠ rU) : V' V a seg gH gU c b = Pipeline.afterRegion (dat0 V a seg gH gU c) (V c) b :=
  (Function.update_of_ne h1 _ _).trans (Function.update_of_ne h2 _ _)
theorem V'_arr (c : Dev nD) (w : Fin 3) : V' V a seg gH gU c (Proc.devRef .tc (Pipeline.arrRef spec1 w)) = (dat0 V a seg gH gU c).arrAt w (cfg1 a).N := by
  rw [V'_of V a seg gH gU c _ (by revert w; decide) (by revert w; decide)]
  exact Pipeline.afterRegion_arr (dat0 V a seg gH gU c) (V c) winFacts1.arr_inj w
theorem V'_off (c : Dev nD) (b : Ref sig .tc) (h1 : b ≠ main_v25_1) (h2 : b ≠ main_v25_2) (h : ∀ w, b ≠ Pipeline.arrRef spec1 w) :
    V' V a seg gH gU c (Proc.devRef .tc b) = V c (Proc.devRef .tc b) := by
  rw [V'_of V a seg gH gU c _ (fun e => h1 (Proc.devRef_injective _ e)) (fun e => h2 (Proc.devRef_injective _ e))]
  exact Pipeline.afterRegion_of_not_arr (dat0 V a seg gH gU c) (V c) h
theorem V'_rest (c : Dev nD) : ∀ b ∈ (ucRefs τ sig \ Pipeline.arrRefs (τ := τ) spec1) \ S5, V' V a seg gH gU c b = V c b := by
  intro b hb
  have h1 := (Finset.mem_sdiff.mp hb).2
  rw [V'_of V a seg gH gU c b (fun e => h1 (by rw [e]; simp [S5])) (fun e => h1 (by rw [e]; simp [S5]))]
  exact Pipeline.afterRegion_off (dat0 V a seg gH gU c) (V c) (ucRefs τ sig) b (Finset.mem_sdiff.mp hb).1

theorem tables_held (c : Dev nD) :
    (Pipeline.prefHeld (Ix := HIx 1) (Name := ℕ) (U := UU F) (Lvl := ℕ) pre1 c (fun _ => fullShare) a.1 : sProp 𝕄)
      = iprop((ℓu c ↦{fullShare} (suOf a : Buf (Elt F) (ℓu c))) ∗ (ℓr c ↦{fullShare} (dsOf a : Buf (Elt F) (ℓr c))) ∗ (ℓg c ↦{fullShare} (sgOf a : Buf (Elt F) (ℓg c)))) := by
  unfold Pipeline.prefHeld
  exact bigSep_W1 _

variable {V V1 a seg gH gU}

theorem scratch1 (c : Dev nD) : (scopedRest spec1 c : sProp 𝕄) = iprop(((∃ fb, ℓb c ↦{fullShare} fb) ∗ ∃ fb, ℓd c ↦{fullShare} fb) ∗ scopedRestBut spec1 c scr1) :=
  Pipeline.scopedRest_split_of_list spec1 c scr1 (by decide) (by decide)

theorem osem_facts : Pipeline.OwnSemFacts (sig := sig) (pcfgs (F := F) 0).spec osem1 := by
  show Pipeline.OwnSemFacts (sig := sig) spec1 osem1
  decide

/-- With every row of the results named by the table of rows, all of both results has been written. -/
theorem marked_univ (c : Dev nD) (hR : Rows (AHOf V c) (AUOf V c) (suOf a) (dsOf a) (sgOf a) seg gH gU)
    {WH : Finset (Idx (ℓH c))} {WU : Finset (Idx (ℓU c))} (h : Marked c (dsOf a) 4096 WH WU) : WH = Finset.univ ∧ WU = Finset.univ := by
  constructor
  · refine Finset.eq_univ_iff_forall.mpr fun y => ?_
    have hy : ((show S4096x1000.Idx from y) 0).val < 4096 := ((show S4096x1000.Idx from y) 0).isLt
    obtain ⟨k, hk, e⟩ := hR.surj _ hy
    exact (h k hk hk).1 (Finset.mem_filter.mpr ⟨Finset.mem_univ _, e.symm⟩)
  · refine Finset.eq_univ_iff_forall.mpr fun y => ?_
    have hy : ((show S4096x64.Idx from y) 0).val < 4096 := ((show S4096x64.Idx from y) 0).isLt
    obtain ⟨k, hk, e⟩ := hR.surj _ hy
    exact (h k hk hk).2 (Finset.mem_filter.mpr ⟨Finset.mem_univ _, e.symm⟩)

theorem region0_in (c : Dev nD) (hz : seg 0 = 0) :
    (iprop(((∃ ιw, wmInv emW ιw) ∗ wb (ℓH c) fullShare (V c rH) gH ∅ ∗ wb (ℓU c) fullShare (V c rU) gU ∅ ∗ ownSems0 osem1 c)
        ∗ Pipeline.prefHeld (Ix := HIx 1) (Name := ℕ) (U := UU F) (Lvl := ℕ) pre1 c (fun _ => fullShare) a.1 ∗ scopedRest spec1 c) : sProp 𝕄)
      ⊢ inv1 V a seg gH gU c 0 := by
  rw [tables_held, ownSems1, scratch1]
  unfold inv1 tabUR St
  rw [if_pos (Or.inl rfl), hz]
  unfold stIdle idleH idleU
  iintro ⟨⟨Hw, HH, HU, HsH, HsU⟩, ⟨Hu, Hr, Hg⟩, ⟨⟨HbH, HbU⟩, Hrest⟩⟩
  isplitl [Hw]; · iexact Hw
  isplitl [Hu Hr]; · isplitl [Hu] <;> iassumption
  isplitl [Hg]; · iexact Hg
  isplitr [Hrest]
  · iexists ∅; iexists ∅
    isplitr; · ipureintro; exact fun k h hk => absurd hk (Nat.not_lt_zero _)
    isplitl [HbH HH HsH]
    · isplitl [HbH]; · iexact HbH
      isplitl [HH]; · iexact HH
      iexact HsH
    isplitl [HbU]; · iexact HbU
    isplitl [HU]; · iexact HU
    iexact HsU
  iexact Hrest

theorem region0_out (c : Dev nD) (hR : Rows (AHOf V c) (AUOf V c) (suOf a) (dsOf a) (sgOf a) seg gH gU) :
    (inv1 V a seg gH gU c 49 : sProp 𝕄)
      ⊢ iprop(((∃ ιw, wmInv emW ιw) ∗ ((ℓu c ↦{fullShare} (suOf a : Buf (Elt F) (ℓu c))) ∗ (ℓr c ↦{fullShare} (dsOf a : Buf (Elt F) (ℓr c))) ∗ (ℓg c ↦{fullShare} (sgOf a : Buf (Elt F) (ℓg c))))
        ∗ wb (ℓH c) fullShare (V c rH) gH Finset.univ ∗ wb (ℓU c) fullShare (V c rU) gU Finset.univ)
        ∗ ownSems0 osem1 c ∗ scopedRest spec1 c) := by
  rw [ownSems1, scratch1]
  unfold inv1 tabUR St
  rw [if_pos (Or.inr (le_refl 49)), hR.tabs.last]
  unfold stIdle idleH idleU
  iintro ⟨Hw, ⟨Hu, Hr⟩, Hg, ⟨%WH, %WU, %hm, ⟨HbH, HH, HsH⟩, HbU, HU, HsU⟩, Hrest⟩
  obtain ⟨rfl, rfl⟩ := marked_univ c hR hm
  isplitl [Hw Hu Hr Hg HH HU]
  · isplitl [Hw]; · iexact Hw
    isplitl [Hu Hr Hg]
    · isplitl [Hu]; · iexact Hu
      isplitl [Hr] <;> iassumption
    isplitl [HH] <;> iassumption
  isplitl [HsH HsU]
  · isplitl [HsH] <;> iassumption
  isplitr [Hrest]
  · isplitl [HbH] <;> iassumption
  iexact Hrest

variable (V1) in
/-- The first pipeline's region, entered with every unscoped buffer at `V` and left with them at `V'`. -/
def region0 (hR : ∀ c, Rows (AHOf V c) (AUOf V c) (suOf a) (dsOf a) (sgOf a) seg gH gU)
    (hT : ∀ c, V c rSu = suOf a ∧ V c rDs = dsOf a ∧ V c rSg = sgOf a) :
    RegionSeg pcfgs (adm a) (pdats V V1 a seg gH gU) (none : HIx 1) defs₀ Variants.none (K (F := F)).L (K (F := F)).lev 0 where
  win := (launch1 (F := F)).to₀.win
  block_pos := (launch1 (F := F)).to₀.block_pos
  stage_whole := (launch1 (F := F)).to₀.stage_whole
  K := Fin 2
  osem := osem1
  ho := osem_facts (F := F)
  hbody := fun c => body0 c (hR c)
  hwaits c := Pipeline.cellsWaits_of_cut (Pipeline.pin pcfgs (adm a)) (pdats V V1 a seg gH gU) none 0 c 0 0 (fun _ => rfl)
    ((levelCut a 0).hι c) ((levelCut a 0).hιb c) ((levelCut a 0).hD c)
  pre c := iprop(held (c.tc : Thread nD τ) (ucRefs τ sig) (V c) ∗ (∃ Wd, owes (c : Thread nD τ) 0 Wd) ∗ ∃ ιw, wmInv emW ιw)
  post c := iprop(held (c.tc : Thread nD τ) (ucRefs τ sig) (V' V a seg gH gU c) ∗ ∃ Wd, owes (c : Thread nD τ) 0 Wd)
  X c := iprop((∃ ιw, wmInv emW ιw) ∗ wb (ℓH c) fullShare (V c rH) gH ∅ ∗ wb (ℓU c) fullShare (V c rU) gU ∅ ∗ ownSems0 osem1 c)
  Y c := iprop((∃ ιw, wmInv emW ιw) ∗ ((ℓu c ↦{fullShare} (suOf a : Buf (Elt F) (ℓu c))) ∗ (ℓr c ↦{fullShare} (dsOf a : Buf (Elt F) (ℓr c))) ∗ (ℓg c ↦{fullShare} (sgOf a : Buf (Elt F) (ℓg c))))
        ∗ wb (ℓH c) fullShare (V c rH) gH Finset.univ ∗ wb (ℓU c) fullShare (V c rU) gU Finset.univ)
  Z c := held (c.tc : Thread nD τ) ((ucRefs τ sig \ Pipeline.arrRefs (τ := τ) spec1) \ S5) (V c)
  hentry c := by
    have hA : (pdats V V1 a seg gH gU 0 c).arrays ((pdats V V1 a seg gH gU 0 c).arrAt · 0) = held (c.tc : Thread nD τ) (Pipeline.arrRefs (τ := τ) spec1) (V c) :=
      Pipeline.arrays_held pcfgs (adm a) (pdats V V1 a seg gH gU) 0 launch1 c (fun w => (dat0 V a seg gH gU c).share_full (fun _ => rfl) w)
        ((pdats V V1 a seg gH gU 0 c).arrAt · 0) (V c) (fun w => dat0_A V a seg gH gU c w)
    rw [held_region, hA, (hT c).1, (hT c).2.1, (hT c).2.2]
    iintro ⟨⟨⟨Ha, ⟨Hu, Hr, Hg, HH, HU⟩, Hz⟩, HO, ⟨%ιw, #Hw⟩⟩, Hos, HL⟩
    imod (pointsTo_castIn (emb := emW) (ιwm := ιw) (ℓ := ℓH c) (I := Finset.univ) (f := V c rH) (E := Set.univ) (fun i => some (gH i))) $$ [HH] with HH
    · isplitr; · iexact Hw
      iexact HH
    imod (pointsTo_castIn (emb := emW) (ιwm := ιw) (ℓ := ℓU c) (I := Finset.univ) (f := V c rU) (E := Set.univ) (fun i => some (gU i))) $$ [HU] with HU
    · isplitr; · iexact Hw
      iexact HU
    imodintro
    isplitl [Ha]; · iexact Ha
    isplitl [Hu Hr Hg]
    · iapply (Entails.of_eq (tables_held a c).symm)
      isplitl [Hu]; · iexact Hu
      isplitl [Hr] <;> iassumption
    isplitl [HO]
    · icases HO with ⟨%Wd, HO⟩
      iapply (TalkSites.owesAt_intro (dat0 V a seg gH gU c) none 0 0 rfl rfl Wd); iexact HO
    isplitr [Hz]
    · isplitr; · iexists ιw; iexact Hw
      isplitl [HH]; · iexact HH
      isplitl [HU]; · iexact HU
      iexact Hos
    iexact Hz
  hin c := region0_in c (hR c).tabs.zero
  hout c := by
    have e : (pdats V V1 a seg gH gU 0 c).Φ (Fin.last (Pipeline.pin pcfgs (adm a) 0).N) = inv1 V a seg gH gU c 49 := congrArg (inv1 V a seg gH gU c) N_1
    rw [e]
    exact region0_out c (hR c)
  hexit c := by
    have hA : (pdats V V1 a seg gH gU 0 c).arrays ((pdats V V1 a seg gH gU 0 c).arrAt · (Pipeline.pin pcfgs (adm a) 0).N)
        = held (c.tc : Thread nD τ) (Pipeline.arrRefs (τ := τ) spec1) (V' V a seg gH gU c) :=
      Pipeline.arrays_held pcfgs (adm a) (pdats V V1 a seg gH gU) 0 launch1 c (fun w => (dat0 V a seg gH gU c).share_full (fun _ => rfl) w)
        ((pdats V V1 a seg gH gU 0 c).arrAt · (Pipeline.pin pcfgs (adm a) 0).N) (V' V a seg gH gU c) (fun w => (V'_arr V a seg gH gU c w).symm)
    rw [held_region c (V' V a seg gH gU c), hA,
      V'_rH, V'_rU, V'_off V a seg gH gU c main_v11 (by decide) (by decide) (by decide), V'_off V a seg gH gU c main_v12 (by decide) (by decide) (by decide),
      V'_off V a seg gH gU c main_v22 (by decide) (by decide) (by decide), StableHlo.held_congr (c.tc : Thread nD τ) (V'_rest V a seg gH gU c), (hT c).1, (hT c).2.1, (hT c).2.2]
    iintro ⟨Ha, HO, ⟨⟨%ιw, #Hw⟩, ⟨Hu, Hr, Hg⟩, HH, HU⟩, Hz⟩
    imod (willBeTo_castOut_some (emb := emW) (ιwm := ιw) (ℓ := ℓH c) (I := Finset.univ) (f := V c rH) (E := Set.univ) (g := gH) (W := Finset.univ)) $$ [HH] with HH
    · isplitr; · iexact Hw
      iexact HH
    imod (willBeTo_castOut_some (emb := emW) (ιwm := ιw) (ℓ := ℓU c) (I := Finset.univ) (f := V c rU) (E := Set.univ) (g := gU) (W := Finset.univ)) $$ [HU] with HU
    · isplitr; · iexact Hw
      iexact HU
    rw [Finset.piecewise_univ, Finset.piecewise_univ]
    imodintro
    isplitr [HO]
    · isplitl [Ha]; · iexact Ha
      isplitr [Hz]
      · isplitl [Hu]; · iexact Hu
        isplitl [Hr]; · iexact Hr
        isplitl [Hg]; · iexact Hg
        isplitl [HH]; · iexact HH
        iexact HU
      iexact Hz
    iapply (TalkSites.owesAt_elim (dat0 V a seg gH gU c) none (Fin.last (cfg1 a).N) 0 rfl); iexact HO

end Region

end Cert.Proof

end
-- ==== Proof.Run.lean ====
/-
  The whole program's run: the host operations, the SparseCore call, the host operations after it, the TensorCore's
  two regions with the host operations between them, and the last transpose. Its end is stated over one valuation of the
  device's buffers (`W7`), at any float values.
-/
module

public import proofs.«01_k».proof.Proof.Extract

@[expose] public section

set_option maxRecDepth 16384

noncomputable section

namespace Cert.Proof

open Cert.KernelIdeal Cert.KernelIdeal.Gen

open Idealize.ShloMosaic Idealize.ShloMosaic.TcCoe
open Idealize.ShloMosaic.SparseCore (T)
open Idealize.ShloMosaic.SparseCore.Cfg (HIx Pay)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs RegionSeg)

variable {F : FTy → Type} [FloatOps F]

local notation "𝕄" => MT nD τ sig (HIx 1) (Elt F) ℕ (UU F) ℕ

/-! ## The host operations, in their lines -/

def opsA : List (HloOp τ sig (Elt F)) :=
  [StableHlo.unary main_arg2 main_v0 ((transpose S20x4096 [1, 0] · transposes_S4096x20_S20x4096_1_0) : (⟨S4096x20, .i32⟩ : BufTy).Contents (Elt F) → (⟨S20x4096, .i32⟩ : BufTy).Contents (Elt F)),
   StableHlo.reshape main_v0 main_v1 (rfl : (.i32 : EltTy) = .i32) shapeCasts_S20x4096_S81920,
   StableHlo.unary main_arg0 main_v2 (sitofp .f32 : (⟨S4096, .i32⟩ : BufTy).Contents (Elt F) → (⟨S4096, .f32⟩ : BufTy).Contents (Elt F)),
   StableHlo.reshape main_v2 main_v3 (rfl : (.f32 : EltTy) = .f32) shapeCasts_S4096_S4096x1,
   StableHlo.nullary main_c (constantI S_ 32 0#32),
   StableHlo.TRef.unary (.of main_c : StableHlo.TRef sig ⟨S_, .i32⟩) main_call0.v0 (sitofp .f32),
   StableHlo.TRef.binary (.of main_arg5 : StableHlo.TRef sig ⟨S1000x64, .f32⟩) main_call0.v0 main_call0.v1 (fun x v => pad S1000x128 ![0, 0] ![0, 64] ![0, 0] x v pads_S1000x64_S1000x128_000_0640 h_S_)]

def opsB1 : List (HloOp τ sig (Elt F)) :=
  [StableHlo.nullary main_c_0 (constantI S_ 32 4096#32),
   StableHlo.unary main_c_0 main_v6 (broadcastInDim S4096 ![] bcast_S_S4096 : (⟨S_, .i32⟩ : BufTy).Contents (Elt F) → (⟨S4096, .i32⟩ : BufTy).Contents (Elt F)),
   StableHlo.binary main_arg1 main_v6 main_v7 (muli : (⟨S4096, .i32⟩ : BufTy).Contents (Elt F) → (⟨S4096, .i32⟩ : BufTy).Contents (Elt F) → (⟨S4096, .i32⟩ : BufTy).Contents (Elt F)),
   StableHlo.nullary main_v8 (iotaInDim S4096 32 0),
   StableHlo.binary main_v7 main_v8 main_v9 (addi : (⟨S4096, .i32⟩ : BufTy).Contents (Elt F) → (⟨S4096, .i32⟩ : BufTy).Contents (Elt F) → (⟨S4096, .i32⟩ : BufTy).Contents (Elt F)),
   StableHlo.TRef.unary (.of main_v9 : StableHlo.TRef sig ⟨S4096, .i32⟩) main_call1.v0 (fun x => Host.sort S4096 0 comparator_i32_d0 x),
   StableHlo.nullary main_c_1 (constantI S_ 32 4096#32)]

def opsB2 : List (HloOp τ sig (Elt F)) :=
  [StableHlo.TRef.unary (.of main_c_1 : StableHlo.TRef sig ⟨S_, .i32⟩) main_call2.v0 id,
   StableHlo.TRef.unary main_call2.v0 main_call2.v1 (broadcastInDim S4096 ![] bcast_S_S4096),
   StableHlo.TRef.binary (.of main_v10 : StableHlo.TRef sig ⟨S4096, .i32⟩) main_call2.v1 main_call2.v2 Host.divsi,
   StableHlo.TRef.unary (.of main_v10 : StableHlo.TRef sig ⟨S4096, .i32⟩) main_call2.v3 signi,
   StableHlo.TRef.unary main_call2.v0 main_call2.v4 signi,
   StableHlo.TRef.unary main_call2.v4 main_call2.v5 (broadcastInDim S4096 ![] bcast_S_S4096),
   StableHlo.TRef.binary main_call2.v3 main_call2.v5 main_call2.v6 (cmpi .ne),
   StableHlo.TRef.unary main_call2.v0 main_call2.v7 (broadcastInDim S4096 ![] bcast_S_S4096),
   StableHlo.TRef.binary (.of main_v10 : StableHlo.TRef sig ⟨S4096, .i32⟩) main_call2.v7 main_call2.v8 Host.remsi,
   StableHlo.TRef.nullary main_call2.c (constantI S_ 32 0#32),
   StableHlo.TRef.unary main_call2.c main_call2.v9 (broadcastInDim S4096 ![] bcast_S_S4096),
   StableHlo.TRef.binary main_call2.v8 main_call2.v9 main_call2.v10 (cmpi .ne),
   StableHlo.TRef.binary main_call2.v6 main_call2.v10 main_call2.v11 andi,
   StableHlo.TRef.nullary main_call2.c_0 (constantI S_ 32 1#32),
   StableHlo.TRef.unary main_call2.c_0 main_call2.v12 (broadcastInDim S4096 ![] bcast_S_S4096),
   StableHlo.TRef.binary main_call2.v2 main_call2.v12 main_call2.v13 subi,
   StableHlo.TRef.ternary main_call2.v11 main_call2.v13 main_call2.v2 main_call2_call0.v0 select,
   StableHlo.nullary main_c_2 (constantI S_ 32 4096#32)]

def opsB3 : List (HloOp τ sig (Elt F)) :=
  [StableHlo.TRef.unary (.of main_c_2 : StableHlo.TRef sig ⟨S_, .i32⟩) main_call3.v0 id,
   StableHlo.TRef.nullary main_call3.c (constantI S_ 32 0#32),
   StableHlo.TRef.binary main_call3.v0 main_call3.c main_call3.v1 (cmpi .eq),
   StableHlo.TRef.nullary main_call3.c_0 (constantI S_ 32 1#32),
   StableHlo.TRef.ternary main_call3.v1 main_call3.c_0 main_call3.v0 main_call3_call0.v0 select,
   StableHlo.TRef.unary main_call3.call0.v0 main_call3.v3 (broadcastInDim S4096 ![] bcast_S_S4096),
   StableHlo.TRef.binary (.of main_v10 : StableHlo.TRef sig ⟨S4096, .i32⟩) main_call3.v3 main_call3.v4 Host.remsi,
   StableHlo.TRef.nullary main_call3.c_1 (constantI S_ 32 0#32),
   StableHlo.TRef.unary main_call3.c_1 main_call3.v5 (broadcastInDim S4096 ![] bcast_S_S4096),
   StableHlo.TRef.binary main_call3.v4 main_call3.v5 main_call3.v6 (cmpi .ne),
   StableHlo.TRef.nullary main_call3.c_2 (constantI S_ 32 0#32),
   StableHlo.TRef.unary main_call3.c_2 main_call3.v7 (broadcastInDim S4096 ![] bcast_S_S4096),
   StableHlo.TRef.binary main_call3.v4 main_call3.v7 main_call3.v8 (cmpi .slt),
   StableHlo.TRef.nullary main_call3.c_3 (constantI S_ 32 0#32),
   StableHlo.TRef.binary main_call3.call0.v0 main_call3.c_3 main_call3.v9 (cmpi .slt),
   StableHlo.TRef.unary main_call3.v9 main_call3.v10 (broadcastInDim S4096 ![] bcast_S_S4096),
   StableHlo.TRef.binary main_call3.v8 main_call3.v10 main_call3.v11 (cmpi .ne),
   StableHlo.TRef.binary main_call3.v11 main_call3.v6 main_call3.v12 andi,
   StableHlo.TRef.unary main_call3.call0.v0 main_call3.v13 (broadcastInDim S4096 ![] bcast_S_S4096),
   StableHlo.TRef.binary main_call3.v4 main_call3.v13 main_call3.v14 addi,
   StableHlo.TRef.ternary main_call3.v12 main_call3.v14 main_call3.v4 main_call3.v15 select]

def opsB4 : List (HloOp τ sig (Elt F)) :=
  [StableHlo.nullary main_v13 (iotaInDim S50 32 0),
   StableHlo.nullary main_c_3 (constantI S_ 32 2048#32),
   StableHlo.unary main_c_3 main_v14 (broadcastInDim S50 ![] bcast_S_S50 : (⟨S_, .i32⟩ : BufTy).Contents (Elt F) → (⟨S50, .i32⟩ : BufTy).Contents (Elt F)),
   StableHlo.binary main_v13 main_v14 main_v15 (muli : (⟨S50, .i32⟩ : BufTy).Contents (Elt F) → (⟨S50, .i32⟩ : BufTy).Contents (Elt F) → (⟨S50, .i32⟩ : BufTy).Contents (Elt F)),
   StableHlo.unary main_v11 main_v16 (broadcastInDim S1x4096 ![1] bcast_S4096_S1x4096_1 : (⟨S4096, .i32⟩ : BufTy).Contents (Elt F) → (⟨S1x4096, .i32⟩ : BufTy).Contents (Elt F)),
   StableHlo.unary main_v15 main_v17 (broadcastInDim S50x1 ![0] bcast_S50_S50x1_0 : (⟨S50, .i32⟩ : BufTy).Contents (Elt F) → (⟨S50x1, .i32⟩ : BufTy).Contents (Elt F)),
   StableHlo.unary main_v16 main_v18 (broadcastInDim S50x4096 ![0, 1] bcast_S1x4096_S50x4096_0_1 : (⟨S1x4096, .i32⟩ : BufTy).Contents (Elt F) → (⟨S50x4096, .i32⟩ : BufTy).Contents (Elt F)),
   StableHlo.unary main_v17 main_v19 (broadcastInDim S50x4096 ![0, 1] bcast_S50x1_S50x4096_0_1 : (⟨S50x1, .i32⟩ : BufTy).Contents (Elt F) → (⟨S50x4096, .i32⟩ : BufTy).Contents (Elt F)),
   StableHlo.binary main_v18 main_v19 main_v20 (cmpi .slt : (⟨S50x4096, .i32⟩ : BufTy).Contents (Elt F) → (⟨S50x4096, .i32⟩ : BufTy).Contents (Elt F) → (⟨S50x4096, .i1⟩ : BufTy).Contents (Elt F)),
   StableHlo.unary main_v20 main_v21 ((extui 32 · natLt_1_32) : (⟨S50x4096, .i1⟩ : BufTy).Contents (Elt F) → (⟨S50x4096, .i32⟩ : BufTy).Contents (Elt F)),
   StableHlo.nullary main_c_4 (constantI S_ 32 0#32),
   StableHlo.binary main_v21 main_c_4 main_v22 ((fun x v => Host.reduce IntOp.addi x v reducesTo_S50x4096_S50_d1 h_S_) : (⟨S50x4096, .i32⟩ : BufTy).Contents (Elt F) → (⟨S_, .i32⟩ : BufTy).Contents (Elt F) → (⟨S50, .i32⟩ : BufTy).Contents (Elt F)),
   StableHlo.unary main_arg3 main_v23 ((transpose S1000x100000 [1, 0] · transposes_S100000x1000_S1000x100000_1_0) : (⟨S100000x1000, .f32⟩ : BufTy).Contents (Elt F) → (⟨S1000x100000, .f32⟩ : BufTy).Contents (Elt F)),
   StableHlo.unary main_arg4 main_v24 ((transpose S64x100000 [1, 0] · transposes_S100000x64_S64x100000_1_0) : (⟨S100000x64, .f32⟩ : BufTy).Contents (Elt F) → (⟨S64x100000, .f32⟩ : BufTy).Contents (Elt F))]

def opsC : List (HloOp τ sig (Elt F)) :=
  [StableHlo.reshape main_v5 main_v26 (rfl : (.f32 : EltTy) = .f32) shapeCasts_S81920x128_S20x4096x128,
   StableHlo.unary main_arg5 main_v27 ((transpose S64x1000 [1, 0] · transposes_S1000x64_S64x1000_1_0) : (⟨S1000x64, .f32⟩ : BufTy).Contents (Elt F) → (⟨S64x1000, .f32⟩ : BufTy).Contents (Elt F)),
   StableHlo.reshape main_arg8 main_v28 (rfl : (.f32 : EltTy) = .f32) shapeCasts_S192_S1x192]

def opsD : List (HloOp τ sig (Elt F)) :=
  [StableHlo.unary main_v29_2 main_v30 ((transpose S4096x20x64 [1, 0, 2] · transposes_S20x4096x64_S4096x20x64_1_0_2) : (⟨S20x4096x64, .f32⟩ : BufTy).Contents (Elt F) → (⟨S4096x20x64, .f32⟩ : BufTy).Contents (Elt F))]

set_option maxHeartbeats 4000000 in
theorem main_eq (d : Dev nD) : main (F := F) d = (StableHlo.seq opsA >>= fun _ => (K (F := F)).run d 0 >>= fun _ => StableHlo.seq opsB1 >>= fun _ => StableHlo.seq opsB2 >>= fun _ =>
    StableHlo.seq opsB3 >>= fun _ => StableHlo.seq opsB4 >>= fun _ =>
    SparseCore.liftProg (Prog.lift (.customCall (Pipeline.entry 0) ())) >>= fun _ => StableHlo.seq opsC >>= fun _ =>
    SparseCore.liftProg (Prog.lift (.customCall (Pipeline.entry 1) ())) >>= fun _ => StableHlo.seq opsD) := rfl

/-! Each line touches unscoped buffers of the TensorCore only. -/

theorem sub_of_forall {ops : List (HloOp τ sig (Elt F))} (h : ops.Forall fun op => op.bufs ⊆ StableHlo.tcRefs τ sig) :
    ∀ op ∈ ops, op.bufs ⊆ ucRefs τ sig :=
  fun op ho => Pipeline.sub_ucRefs op ((List.forall_iff_forall_mem.mp h) op ho)

theorem fresh_of_forall {ops : List (HloOp τ sig (Elt F))} (h : ops.Forall fun op => op.fresh = ∅) : ∀ op ∈ ops, op.fresh = ∅ :=
  List.forall_iff_forall_mem.mp h

theorem opsA_sub : ∀ op ∈ opsA (F := F), op.bufs ⊆ ucRefs τ sig := sub_of_forall
  ⟨StableHlo.unary_bufs_sub _ _ _ _ _, StableHlo.reshape_bufs_sub _ _ _ _ _ _, StableHlo.unary_bufs_sub _ _ _ _ _, StableHlo.reshape_bufs_sub _ _ _ _ _ _, StableHlo.nullary_bufs_sub _ _ _, StableHlo.unary_bufs_sub _ _ _ _ _, StableHlo.binary_bufs_sub _ _ _ _ _ _ _⟩
theorem opsB1_sub : ∀ op ∈ opsB1 (F := F), op.bufs ⊆ ucRefs τ sig := sub_of_forall
  ⟨StableHlo.nullary_bufs_sub _ _ _, StableHlo.unary_bufs_sub _ _ _ _ _, StableHlo.binary_bufs_sub _ _ _ _ _ _ _, StableHlo.nullary_bufs_sub _ _ _, StableHlo.binary_bufs_sub _ _ _ _ _ _ _, StableHlo.unary_bufs_sub _ _ _ _ _, StableHlo.nullary_bufs_sub _ _ _⟩
theorem opsB2_sub : ∀ op ∈ opsB2 (F := F), op.bufs ⊆ ucRefs τ sig := sub_of_forall
  ⟨StableHlo.unary_bufs_sub _ _ _ _ _, StableHlo.unary_bufs_sub _ _ _ _ _, StableHlo.binary_bufs_sub _ _ _ _ _ _ _, StableHlo.unary_bufs_sub _ _ _ _ _, StableHlo.unary_bufs_sub _ _ _ _ _, StableHlo.unary_bufs_sub _ _ _ _ _, StableHlo.binary_bufs_sub _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.ternary_bufs_sub _ _ _ _ _ _ _ _ _, StableHlo.nullary_bufs_sub _ _ _⟩
theorem opsB3_sub : ∀ op ∈ opsB3 (F := F), op.bufs ⊆ ucRefs τ sig := sub_of_forall
  ⟨StableHlo.unary_bufs_sub _ _ _ _ _, StableHlo.nullary_bufs_sub _ _ _, StableHlo.binary_bufs_sub _ _ _ _ _ _ _, StableHlo.nullary_bufs_sub _ _ _, StableHlo.ternary_bufs_sub _ _ _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.binary_bufs_sub _ _ _ _ _ _ _, StableHlo.unary_bufs_sub _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.ternary_bufs_sub _ _ _ _ _ _ _ _ _⟩
theorem opsB4_sub : ∀ op ∈ opsB4 (F := F), op.bufs ⊆ ucRefs τ sig := sub_of_forall
  ⟨StableHlo.nullary_bufs_sub _ _ _, StableHlo.nullary_bufs_sub _ _ _, StableHlo.unary_bufs_sub _ _ _ _ _, StableHlo.binary_bufs_sub _ _ _ _ _ _ _, StableHlo.unary_bufs_sub _ _ _ _ _, StableHlo.unary_bufs_sub _ _ _ _ _, StableHlo.unary_bufs_sub _ _ _ _ _, StableHlo.unary_bufs_sub _ _ _ _ _, StableHlo.binary_bufs_sub _ _ _ _ _ _ _, StableHlo.unary_bufs_sub _ _ _ _ _, StableHlo.nullary_bufs_sub _ _ _, StableHlo.binary_bufs_sub _ _ _ _ _ _ _, StableHlo.unary_bufs_sub _ _ _ _ _, StableHlo.unary_bufs_sub _ _ _ _ _⟩
theorem opsC_sub : ∀ op ∈ opsC (F := F), op.bufs ⊆ ucRefs τ sig := sub_of_forall
  ⟨StableHlo.reshape_bufs_sub _ _ _ _ _ _, StableHlo.unary_bufs_sub _ _ _ _ _, StableHlo.reshape_bufs_sub _ _ _ _ _ _⟩
theorem opsD_sub : ∀ op ∈ opsD (F := F), op.bufs ⊆ ucRefs τ sig := sub_of_forall
  (StableHlo.unary_bufs_sub _ _ _ _ _)
theorem opsA_fresh : ∀ op ∈ opsA (F := F), op.fresh = ∅ := fresh_of_forall (StableHlo.forall_fresh_of_map rfl)
theorem opsB1_fresh : ∀ op ∈ opsB1 (F := F), op.fresh = ∅ := fresh_of_forall (StableHlo.forall_fresh_of_map rfl)
theorem opsB2_fresh : ∀ op ∈ opsB2 (F := F), op.fresh = ∅ := fresh_of_forall (StableHlo.forall_fresh_of_map rfl)
theorem opsB3_fresh : ∀ op ∈ opsB3 (F := F), op.fresh = ∅ := fresh_of_forall (StableHlo.forall_fresh_of_map rfl)
theorem opsB4_fresh : ∀ op ∈ opsB4 (F := F), op.fresh = ∅ := fresh_of_forall (StableHlo.forall_fresh_of_map rfl)
theorem opsC_fresh : ∀ op ∈ opsC (F := F), op.fresh = ∅ := fresh_of_forall (StableHlo.forall_fresh_of_map rfl)
theorem opsD_fresh : ∀ op ∈ opsD (F := F), op.fresh = ∅ := fresh_of_forall (StableHlo.forall_fresh_of_map rfl)

/-! ## The valuations between the parts -/

variable (m : (ℓ : Loc nD τ sig) → Buf (Elt F) ℓ) (ρ : Dev nD → PrngReg)

abbrev rI : DevRef τ sig := Proc.devRef .tc main_v1
abbrev rX : DevRef τ sig := Proc.devRef .tc main_v4
abbrev rO : DevRef τ sig := Proc.devRef .tc main_v5

/-- As launched. -/
def W0 (d : Dev nD) : Valuation τ sig (Elt F) := fun b => m (d, b)
/-- When the SparseCore call starts. -/
def W1 (d : Dev nD) : Valuation τ sig (Elt F) := after opsA (W0 m d)
/-- The padded table, the list of row numbers and the result's buffer at that moment. -/
def tbOf (d : Dev nD) : Buf (Elt F) (xLoc d) := W1 m d rX
def lsOf (d : Dev nD) : Buf (Elt F) (iLoc d) := W1 m d rI
def oOf (d : Dev nD) : Buf (Elt F) (oLoc d) := W1 m d rO
/-- When it is done: the result's buffer holds the gathered rows. -/
def W2 (d : Dev nD) : Valuation τ sig (Elt F) := Function.update (W1 m d) rO (gt (tbOf m) (lsOf m) d)
/-- When each line of the second stretch is done; after the last, the first region is entered. -/
def W2a (d : Dev nD) : Valuation τ sig (Elt F) := after opsB1 (W2 m d)
def W2b (d : Dev nD) : Valuation τ sig (Elt F) := after opsB2 (W2a m d)
def W2c (d : Dev nD) : Valuation τ sig (Elt F) := after opsB3 (W2b m d)
def W3 (d : Dev nD) : Valuation τ sig (Elt F) := after opsB4 (W2c m d)

/-- The three tables that the first region prefetches. -/
def tabsAt (W : Valuation τ sig (Elt F)) : (pcfg1 (F := F)).Adm := ⟨fun k => W (Proc.devRef .tc (pre1.ref k)), trivial⟩
theorem tabsAt_held (W : Valuation τ sig (Elt F)) : W rSu = suOf (tabsAt W) ∧ W rDs = dsOf (tabsAt W) ∧ W rSg = sgOf (tabsAt W) := ⟨rfl, rfl, rfl⟩
def tabs : (pcfg1 (F := F)).Adm := tabsAt (W3 m 0)

/-- The users, and the number of them in the first `2048 * g` rows of the tables. -/
def usr : S4096.Idx → BitVec 32 := W0 m 0 (Proc.devRef .tc main_arg1)
def segs (g : ℕ) : ℕ := ((Finset.univ : Finset (Fin 4096)).filter fun k => (suOf (tabs m) (ix k.val k.isLt)).toNat < 2048 * g).card

/-- The row of the tables that row `r` of the two gathered results holds. -/
def urow (r : Fin 4096) : Fin 100000 := ⟨(usr m (ix r.val r.isLt)).toNat % 100000, Nat.mod_lt _ (by decide)⟩
def hRows : S4096x1000.Idx → F .f32 := fun q => AHOf (W3 m) 0 (fun | 0 => q 1 | 1 => urow m (q 0))
def uRows : S4096x64.Idx → F .f32 := fun q => AUOf (W3 m) 0 (fun | 0 => q 1 | 1 => urow m (q 0))

/-- When the first region is left. -/
def W4 (d : Dev nD) : Valuation τ sig (Elt F) := V' (W3 m) (tabs m) (segs m) (hRows m) (uRows m) d
/-- When the second is entered. -/
def W5 (d : Dev nD) : Valuation τ sig (Elt F) := after opsC (W4 m d)
/-- When it is left. -/
def W6 (d : Dev nD) : Valuation τ sig (Elt F) := Pipeline.afterRegion (dat1 (W5 m) d) (W5 m d)
/-- At the end. -/
def W7 (d : Dev nD) : Valuation τ sig (Elt F) := after opsD (W6 m d)

/-- What the sorted users give the first region. -/
def Sorted : Prop := ∀ c, Rows (AHOf (W3 m) c) (AUOf (W3 m) c) (suOf (tabs m)) (dsOf (tabs m)) (sgOf (tabs m)) (segs m) (hRows m) (uRows m)

theorem tabs_held (c : Dev nD) : W3 m c rSu = suOf (tabs m) ∧ W3 m c rDs = dsOf (tabs m) ∧ W3 m c rSg = sgOf (tabs m) := by
  obtain rfl : c = 0 := Subsingleton.elim _ _
  exact tabsAt_held (W3 m 0)

/-! ## The three buffers that the SparseCore call takes -/

/-- The list, the table and the result's buffer. -/
def S3 : Finset (DevRef τ sig) := {rI, rX, rO}

theorem held_S3 (d : Dev nD) (W : Valuation τ sig (Elt F)) :
    (held (T d) S3 W : sProp 𝕄) = iprop((iLoc d ↦{fullShare} W rI) ∗ (xLoc d ↦{fullShare} W rX) ∗ oLoc d ↦{fullShare} W rO) := by
  unfold held S3
  rw [SparseCore.bigSep_insert' (by decide), SparseCore.bigSep_insert' (by decide), bigSep_singleton]

theorem S3_sub : S3 ⊆ ucRefs τ sig := by
  intro b hb
  simp only [S3, Finset.mem_insert, Finset.mem_singleton] at hb
  rcases hb with rfl | rfl | rfl <;> exact Finset.mem_filter.mpr ⟨StableHlo.devRef_mem_tcRefs _, by decide⟩

theorem W2_rI (d : Dev nD) : W2 m d rI = lsOf m d := Function.update_of_ne (by decide) _ _
theorem W2_rX (d : Dev nD) : W2 m d rX = tbOf m d := Function.update_of_ne (by decide) _ _
theorem W2_rO (d : Dev nD) : W2 m d rO = gt (tbOf m) (lsOf m) d := Function.update_self _ _ _

theorem held_call (d : Dev nD) :
    (held (T d) (ucRefs τ sig) (W1 m d) : sProp 𝕄)
      = iprop(((iLoc d ↦{fullShare} lsOf m d) ∗ (xLoc d ↦{fullShare} tbOf m d) ∗ oLoc d ↦{fullShare} oOf m d) ∗ held (T d) (ucRefs τ sig \ S3) (W1 m d)) := by
  rw [StableHlo.held_sub_split (T d) S3_sub, held_S3]; rfl

theorem held_back (d : Dev nD) :
    (held (T d) (ucRefs τ sig) (W2 m d) : sProp 𝕄)
      = iprop(((iLoc d ↦{fullShare} lsOf m d) ∗ (xLoc d ↦{fullShare} tbOf m d) ∗ oLoc d ↦{fullShare} gt (tbOf m) (lsOf m) d) ∗ held (T d) (ucRefs τ sig \ S3) (W1 m d)) := by
  rw [StableHlo.held_sub_split (T d) S3_sub, held_S3, W2_rI, W2_rX, W2_rO,
    StableHlo.held_congr (T d) (S := ucRefs τ sig \ S3) (V := W2 m d) (V' := W1 m d) fun b hb => Function.update_of_ne
      (fun h => (Finset.mem_sdiff.mp hb).2 (by rw [h]; simp [S3])) _ _]

/-! ## The regions -/

/-- The pipelines' rounds in the certificate's ghost state. -/
def EP : Emb UP (MT nD τ sig (HIx 1) (Elt F) ℕ (UU F) ℕ) :=
  (Emb.inl : Emb UP (UP × (UW F × Counters))).trans (embR : Emb (UP × (UW F × Counters)) (MT nD τ sig (HIx 1) (Elt F) ℕ (UU F) ℕ))

instance EP_landsIn : (EP : Emb UP 𝕄).LandsIn (upEmb : UEmb _ 𝕄) := by unfold EP; infer_instance

/-- The two pipelines' proof data. -/
abbrev DD : (p : Fin 2) → (c : Dev nD) → Dat τ (Elt F) (HIx 1) ℕ (UU F) ℕ (Pipeline.pin pcfgs (adm (tabs m)) p) c :=
  pdats (W3 m) (W5 m) (tabs m) (segs m) (hRows m) (uRows m)

theorem region_out (c : Dev nD) : (DD m 1 c).Φ (Fin.last cfg2.N) ⊢ iprop(Pipeline.scopedRest spec2 c ∗ emp) := by
  show Pipeline.scopedRest spec2 c ⊢ _
  iintro H; isplitl [H]; · iexact H
  iempintro

theorem region_in (c : Dev nD) : iprop(Pipeline.scopedRest spec2 c ∗ emp) ⊢ (DD m 1 c).Φ 0 := sep_elim_left

theorem region_arr (c : Dev nD) (w : Fin cfg2.W) : (DD m 1 c).arrAt w 0 = W5 m c (Proc.devRef .tc (Pipeline.arrRef spec2 w)) :=
  A_eq (W5 m) c w

/-- The first region, at its place in the program. -/
def reg0 (h : Sorted m) : RegionSeg pcfgs (adm (tabs m)) (DD m) (none : HIx 1) defs₀ 𝒱₀ (K (F := F)).L (K (F := F)).lev 0 :=
  region0 (W5 m) h (tabs_held m)

/-- The dense call's region, entered and left with every unscoped buffer of the TensorCore. -/
def reg1 : RegionSeg pcfgs (adm (tabs m)) (DD m) (none : HIx 1) defs₀ 𝒱₀ (K (F := F)).L (K (F := F)).lev 1 :=
  RegionSeg.ofHeldIn pcfgs (adm (tabs m)) (DD m) none defs₀ 𝒱₀ (K (F := F)).L (K (F := F)).lev 1 (fun _ => 0) (ucRefs τ sig)
    (fun _ => iprop(emp)) (fun _ => iprop(emp)) launch2 rfl
    (fun c => (body_obligation (W5 m) c).loose) (fun _ _ => rfl) (fun _ => rfl)
    (fun c => (dat1 (W5 m) c).share_full fun _ => rfl)
    (region_in m) (region_out m) (fun _ => 0) (levelCut (tabs m) 1) (fun _ => iprop(emp)) (W5 m)
    (region_arr m)

end Cert.Proof

end
-- ==== Proof.Main.lean ====
/-
  @main on a device's TensorCore, and the run of the whole program from any launch memory whose list of items is in range and whose users sort:
  it finishes without fault, every semaphore is zero, and every unscoped buffer of every device is at `W7`.
-/
module

public import proofs.«01_k».proof.Proof.Run

@[expose] public section

set_option maxRecDepth 16384

noncomputable section

namespace Cert.Proof

open Cert.KernelIdeal Cert.KernelIdeal.Gen

open Idealize.ShloMosaic Idealize.ShloMosaic.TcCoe
open Idealize.ShloMosaic.SparseCore (T)
open Idealize.ShloMosaic.SparseCore.Cfg (HIx Pay)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs RegionSeg)

variable {F : FTy → Type} [FloatOps F]

local notation "𝕄" => MT nD τ sig (HIx 1) (Elt F) ℕ (UU F) ℕ

variable (m : (ℓ : Loc nD τ sig) → Buf (Elt F) ℓ) (ρ : Dev nD → PrngReg)

/-- The payloads at the launch memory's list, table and result buffer. -/
abbrev PP : (K (F := F)).Pay (nD := nD) (Val := Elt F) (Name := ℕ) (U := UU F) := P (tbOf m) (lsOf m) (oOf m)

/-- What the launch funds on device `d`: each region's cells and their tokens, and the record of the written elements. -/
abbrev GG (d : Dev nD) : sProp 𝕄 :=
  iprop((bigSep Finset.univ fun p : Fin 2 => Pipeline.cellsGhost (Pipeline.pin pcfgs (adm (tabs m))) EP p d)
    ∗ (bigSep Finset.univ fun p : Fin 2 => Pipeline.toksInit (Pipeline.pin pcfgs (adm (tabs m))) EP p d) ∗ ∃ ιw, wmInv emW ιw)

/-- What @main leaves: every unscoped buffer at `W7`. -/
abbrev FIN (d : Dev nD) : sProp 𝕄 := held (T d) (ucRefs τ sig) (W7 m d)

theorem two (Φ : Fin 2 → sProp 𝕄) : bigSep Finset.univ Φ = iprop(Φ 0 ∗ Φ 1) := BI.bigSep_fin_two Φ

/-! ## What the TensorCore owes after the call is nothing -/

theorem Otc_one (d : Dev nD) : (K (F := F)).Otc (nD := nD) d 1 = 0 := by
  unfold SparseCore.Cfg.Otc
  exact Finset.sum_eq_zero fun q _ => if_neg (by have := q.isLt; omega)

/-- Every level of a TensorCore's cell is at most 7. -/
theorem below (d : Dev nD) (W : Waits sig (HIx 1)) : (K (F := F)).WBelow (T d) W 8 := by
  rintro ⟨s, i⟩ -
  show (K (F := F)).lev ((T d), s) i ≤ 8
  cases i with
  | none => exact Nat.zero_le _
  | some q => show 8 * q.val + 6 + 1 ≤ 8; have := q.isLt; omega

theorem arrs2_sub : Pipeline.arrRefs (τ := τ) spec2 ⊆ ucRefs τ sig :=
  Pipeline.arrRefs_sub_ucRefs spec2 winFacts2.arr_unscoped

/-! ## The regions' steps at their places in @main -/

theorem reg0_pre (hS : Sorted m) (d : Dev nD) :
    (reg0 m hS).pre d = iprop(held (T d) (ucRefs τ sig) (W3 m d) ∗ (∃ Wd, owes (T d) 0 Wd) ∗ ∃ ιw, wmInv emW ιw) := rfl
theorem reg0_post (hS : Sorted m) (d : Dev nD) :
    (reg0 m hS).post d = iprop(held (T d) (ucRefs τ sig) (W4 m d) ∗ ∃ Wd, owes (T d) 0 Wd) := rfl

theorem region_pre (d : Dev nD) :
    (iprop(held (T d) (ucRefs τ sig) (W5 m d) ∗ ((∃ Wd, owes (T d) 0 Wd) ∗ emp ∗ emp)) : sProp 𝕄) ⊢ (reg1 m).pre d := by
  unfold reg1
  exact RegionSeg.ofHeldIn_pre (pcs := pcfgs) (a := adm (tabs m)) (pdats := DD m) (ι := none) (defs₀ := defs₀) (𝒱₀ := 𝒱₀) (L := (K (F := F)).L) (lv := (K (F := F)).lev) (p := 1) (D := fun _ => 0) (S := ucRefs τ sig) arrs2_sub (X := fun _ => iprop(emp)) (Y := fun _ => iprop(emp)) (kit := launch2) (R := fun _ => iprop(emp)) (W := W5 m) d

theorem region_post (d : Dev nD) :
    (reg1 m).post d ⊢ (iprop(held (T d) (ucRefs τ sig) (W6 m d) ∗ ((∃ Wd, owes (T d) 0 Wd) ∗ emp ∗ emp)) : sProp 𝕄) := by
  unfold reg1
  exact RegionSeg.ofHeldIn_post (pcs := pcfgs) (a := adm (tabs m)) (pdats := DD m) (ι := none) (defs₀ := defs₀) (𝒱₀ := 𝒱₀) (L := (K (F := F)).L) (lv := (K (F := F)).lev) (p := 1) (D := fun _ => 0) (S := ucRefs τ sig) arrs2_sub (X := fun _ => iprop(emp)) (Y := fun _ => iprop(emp)) (kit := launch2) (R := fun _ => iprop(emp)) (W := W5 m) d

/-- The first call: from every unscoped buffer at `W3`, with nothing owed, to every unscoped buffer at `W4`. -/
theorem wp_region0 (hS : Sorted m) (d : Dev nD) (Q : PUnit → sProp 𝕄) :
    iprop((iprop(boundary (T d) ∗ held (T d) (ucRefs τ sig) (W4 m d) ∗ ∃ Wd, owes (T d) 0 Wd) -∗ Q ⟨⟩)
        ∗ boundary (T d) ∗ held (T d) (ucRefs τ sig) (W3 m d) ∗ (∃ Wd, owes (T d) 0 Wd) ∗ levAts (K (F := F)).L (K (F := F)).lev
        ∗ (∃ ιw, wmInv emW ιw) ∗ Pipeline.cellsGhost (Pipeline.pin pcfgs (adm (tabs m))) EP 0 d ∗ Pipeline.toksInit (Pipeline.pin pcfgs (adm (tabs m))) EP 0 d)
      ⊢ wp frame (wpE ((K (F := F)).defs (D (F := F))) 𝒱 (T d) none) Set.univ (SparseCore.liftProg (Prog.lift (.customCall (Pipeline.entry 0) ()))) Q := by
  refine BI.Entails.trans ?_ ((K (F := F)).wp_liftProg (D (F := F)) 𝒱 (T d) Set.univ none _ _)
  refine BI.Entails.trans ?_ (RegionSeg.wp pcfgs (adm (tabs m)) (DD m) none (cellOf_inj _) EP defs₀ 𝒱₀ (K (F := F)).L (K (F := F)).lev (reg0 m hS) d none
    (fun _ h => nomatch h) _ _)
  show (iprop((iprop(boundary (T d) ∗ held (T d) (ucRefs τ sig) (W4 m d) ∗ ∃ Wd, owes (T d) 0 Wd) -∗ Q ⟨⟩)
        ∗ boundary (T d) ∗ held (T d) (ucRefs τ sig) (W3 m d) ∗ (∃ Wd, owes (T d) 0 Wd) ∗ levAts (K (F := F)).L (K (F := F)).lev
        ∗ (∃ ιw, wmInv emW ιw) ∗ Pipeline.cellsGhost (Pipeline.pin pcfgs (adm (tabs m))) EP 0 d ∗ Pipeline.toksInit (Pipeline.pin pcfgs (adm (tabs m))) EP 0 d) : sProp 𝕄) ⊢ _
  iintro ⟨Hk, Hb, Hh, HO, HL, Hw, Hg, Ht⟩
  isplitl [Hk]
  · iintro ⟨Hb, Hp⟩
    ihave Hp' := (Entails.of_eq (reg0_post m hS d)) $$ Hp
    icases Hp' with ⟨Hh, HO⟩
    rw [wp_ret]; imodintro
    iapply Hk
    isplitl [Hb]; · iexact Hb
    isplitl [Hh]; · iexact Hh
    iexact HO
  isplitl [Hb]; · iexact Hb
  isplitl [Hh HO Hw]
  · iapply (Entails.of_eq (reg0_pre m hS d).symm)
    isplitl [Hh]; · iexact Hh
    isplitl [HO]; · iexact HO
    iexact Hw
  isplitl [HL]; · iexact HL
  isplitl [Hg]; · iexact Hg
  iexact Ht

/-- The dense call: from every unscoped buffer at `W5`, with nothing owed, to every unscoped buffer at `W6`. -/
theorem wp_region1 (d : Dev nD) (Q : PUnit → sProp 𝕄) :
    iprop((iprop(boundary (T d) ∗ held (T d) (ucRefs τ sig) (W6 m d) ∗ ∃ Wd, owes (T d) 0 Wd) -∗ Q ⟨⟩)
        ∗ boundary (T d) ∗ held (T d) (ucRefs τ sig) (W5 m d) ∗ (∃ Wd, owes (T d) 0 Wd) ∗ levAts (K (F := F)).L (K (F := F)).lev
        ∗ Pipeline.cellsGhost (Pipeline.pin pcfgs (adm (tabs m))) EP 1 d ∗ Pipeline.toksInit (Pipeline.pin pcfgs (adm (tabs m))) EP 1 d)
      ⊢ wp frame (wpE ((K (F := F)).defs (D (F := F))) 𝒱 (T d) none) Set.univ (SparseCore.liftProg (Prog.lift (.customCall (Pipeline.entry 1) ()))) Q := by
  refine BI.Entails.trans ?_ ((K (F := F)).wp_liftProg (D (F := F)) 𝒱 (T d) Set.univ none _ _)
  refine BI.Entails.trans ?_ (RegionSeg.wp pcfgs (adm (tabs m)) (DD m) none (cellOf_inj _) EP defs₀ 𝒱₀ (K (F := F)).L (K (F := F)).lev (reg1 m) d none
    (fun _ h => nomatch h) _ _)
  show (iprop((iprop(boundary (T d) ∗ held (T d) (ucRefs τ sig) (W6 m d) ∗ ∃ Wd, owes (T d) 0 Wd) -∗ Q ⟨⟩)
        ∗ boundary (T d) ∗ held (T d) (ucRefs τ sig) (W5 m d) ∗ (∃ Wd, owes (T d) 0 Wd) ∗ levAts (K (F := F)).L (K (F := F)).lev
        ∗ Pipeline.cellsGhost (Pipeline.pin pcfgs (adm (tabs m))) EP 1 d ∗ Pipeline.toksInit (Pipeline.pin pcfgs (adm (tabs m))) EP 1 d) : sProp 𝕄) ⊢ _
  iintro ⟨Hk, Hb, Hh, HO, HL, Hg, Ht⟩
  isplitl [Hk]
  · iintro ⟨Hb, Hp⟩
    ihave Hp' := (region_post m d) $$ Hp
    icases Hp' with ⟨Hh, HO, -, -⟩
    rw [wp_ret]; imodintro
    iapply Hk
    isplitl [Hb]; · iexact Hb
    isplitl [Hh]; · iexact Hh
    iexact HO
  isplitl [Hb]; · iexact Hb
  isplitl [Hh HO]
  · iapply (region_pre m d)
    isplitl [Hh]; · iexact Hh
    isplitl [HO]; · iexact HO
    isplitr <;> iempintro
  isplitl [HL]; · iexact HL
  isplitl [Hg]; · iexact Hg
  iexact Ht

/-! ## @main -/

theorem tcSt_one (d : Dev nD) : ∃ R : sProp 𝕄, (K (F := F)).tcSt EH d 1 = iprop((∃ W, ⌜(K (F := F)).WBelow (T d) W 8⌝ ∗ owes (T d) 0 W) ∗ R) := by
  unfold SparseCore.Cfg.tcSt
  rw [Otc_one]
  exact ⟨_, rfl⟩

theorem boundary_unscoped (d : Dev nD) :
    (unscopedBufs d (fun b => m ((SparseCore.T d : Thread nD τ).loc b)) : sProp 𝕄) = held (T d) (ucRefs τ sig) (W0 m d) :=
  Pipeline.unscopedBufs_held d (W0 m d)

set_option backward.isDefEq.respectTransparency.types false in
theorem hmain (hS : Sorted m) (κ : GSem nD τ sig → ℕ) (d : Dev nD) :
    iprop((K (F := F)).ctx EH (PP m) κ ∗ (K (F := F)).tcSt EH d 0 ∗ (K (F := F)).tcRes m ρ d ∗ GG m d)
      ⊢ wp frame (wpE ((K (F := F)).defs (D (F := F))) 𝒱 (T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd GG
  rw [boundary_unscoped, main_eq, two, two]
  iintro ⟨#Hctx, Hst, ⟨Hb, Hh, Hts, -⟩, ⟨Hg0, Hg1⟩, ⟨Ht0, Ht1⟩, Hw⟩
  -- the first line of host operations
  iapply (StableHlo.wp_seq 𝒱 none Set.univ d (ucRefs τ sig) _ opsA opsA_sub opsA_fresh (W0 m d)) $$ [Hb Hh]
  · isplitl [Hb] <;> iassumption
  iintro ⟨Hb, Hh⟩
  -- the SparseCore call
  ihave Hh' := (Entails.of_eq (show (held (d.tc : Thread nD τ) (ucRefs τ sig) (after opsA (W0 m d)) : sProp 𝕄) = _ from held_call m d)) $$ Hh
  icases Hh' with ⟨⟨Hi, Hx, Ho⟩, Hrest⟩
  rw [wp_bind]
  iapply ((K (F := F)).wp_run (D (F := F)) 𝒱 (EH := EH) (P := PP m) κ d 0) $$ [Hst Hi Hx Ho Hb Hrest Hts Hg0 Hg1 Ht0 Ht1 Hw]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq (tbOf m) (lsOf m) (oOf m) d)) $$ Hdn
  ihave Hh := (Entails.of_eq (held_back m d).symm) $$ [Hdn' Hrest]
  · isplitl [Hdn'] <;> iassumption
  -- the lines that make the tables
  iapply (StableHlo.wp_seq 𝒱 none Set.univ d (ucRefs τ sig) _ opsB1 opsB1_sub opsB1_fresh (W2 m d)) $$ [Hb Hh]
  · isplitl [Hb]; · iexact Hb
    iexact Hh
  iintro ⟨Hb, Hh⟩
  iapply (StableHlo.wp_seq 𝒱 none Set.univ d (ucRefs τ sig) _ opsB2 opsB2_sub opsB2_fresh (W2a m d)) $$ [Hb Hh]
  · isplitl [Hb]; · iexact Hb
    iexact Hh
  iintro ⟨Hb, Hh⟩
  iapply (StableHlo.wp_seq 𝒱 none Set.univ d (ucRefs τ sig) _ opsB3 opsB3_sub opsB3_fresh (W2b m d)) $$ [Hb Hh]
  · isplitl [Hb]; · iexact Hb
    iexact Hh
  iintro ⟨Hb, Hh⟩
  iapply (StableHlo.wp_seq 𝒱 none Set.univ d (ucRefs τ sig) _ opsB4 opsB4_sub opsB4_fresh (W2c m d)) $$ [Hb Hh]
  · isplitl [Hb]; · iexact Hb
    iexact Hh
  iintro ⟨Hb, Hh⟩
  -- the first call
  ihave Hst' := (Entails.of_eq (show (K (F := F)).tcSt EH d ((0 : Fin 1).val + 1) = _ from hR)) $$ Hst
  icases Hst' with ⟨⟨%Wd, -, HO⟩, HR⟩
  ihave #HL := ((K (F := F)).ctx_levAts κ) $$ Hctx
  rw [wp_bind]
  iapply (wp_region0 m hS d _)
  isplitr [Hb Hh HO Hw Hg0 Ht0]
  · iintro ⟨Hb, Hh, HO⟩
    iapply (StableHlo.wp_seq 𝒱 none Set.univ d (ucRefs τ sig) _ opsC opsC_sub opsC_fresh (W4 m d)) $$ [Hb Hh]
    · isplitl [Hb]; · iexact Hb
      iexact Hh
    iintro ⟨Hb, Hh⟩
    -- the dense call
    rw [wp_bind]
    iapply (wp_region1 m d _)
    isplitr [Hb Hh HO Hg1 Ht1]
    · iintro ⟨Hb, Hh, ⟨%Wd', HO⟩⟩
      -- the last line
      rw [← bind_pure (StableHlo.seq opsD)]
      iapply (StableHlo.wp_seq 𝒱 none Set.univ d (ucRefs τ sig) _ opsD opsD_sub opsD_fresh (W6 m d)) $$ [Hb Hh]
      · isplitl [Hb]; · iexact Hb
        iexact Hh
      iintro ⟨Hb, Hh⟩
      rw [wp_pure]; imodintro
      isplitl [HO HR]
      · rw [hR]
        isplitl [HO]
        · iexists Wd'; isplitr
          · ipureintro; exact below d Wd'
          · iexact HO
        iexact HR
      isplitl [Hh]; · iexact Hh
      isplitl [Hb] <;> iassumption
    isplitl [Hb]; · iexact Hb
    isplitl [Hh]; · iexact Hh
    isplitl [HO]; · iexact HO
    isplitr; · iexact HL
    isplitl [Hg1]; · iexact Hg1
    iexact Ht1
  isplitl [Hb]; · iexact Hb
  isplitl [Hh]; · iexact Hh
  isplitl [HO]; · iexists Wd; iexact HO
  isplitr; · iexact HL
  isplitl [Hw]; · iexact Hw
  isplitl [Hg0]; · iexact Hg0
  iexact Ht0

/-! ## The launch element of the certificate's ghost state -/

/-- The pipelines' part. -/
def uP : UP := initOf (Pipeline.cells (nD := nD) (τ := τ) (Pipeline.pin pcfgs (adm (tabs m))) (cellOf_inj _)) (Pipeline.launchToks (nD := nD) (τ := τ) (Pipeline.pin pcfgs (adm (tabs m))) (cellOf_inj _))

def u₀ : UU F := (initOf (K (F := F)).hsCells (K (F := F)).hsToks, (uP m, (wm₀ nD τ sig (Elt F), 1)))

theorem fund : (BI.own (EP (F := F) (uP m)) : sProp 𝕄)
    ⊢ iprop(|==> ((bigSep Finset.univ fun d : Dev nD => bigSep Finset.univ fun p : Fin 2 => Pipeline.cellsGhost (Pipeline.pin pcfgs (adm (tabs m))) EP p d)
      ∗ bigSep Finset.univ fun d : Dev nD => bigSep Finset.univ fun p : Fin 2 => Pipeline.toksInit (Pipeline.pin pcfgs (adm (tabs m))) EP p d)) :=
  Pipeline.fund_ghost (Pipeline.pin pcfgs (adm (tabs m))) EP (cellOf_inj _)

theorem bigSep_none {I : Type} (s : Finset I) : (bigSep s fun _ => iprop(emp)) = (iprop(emp) : sProp 𝕄) := bigSep_emp_const s

theorem funded : (iprop((bigSep Finset.univ fun d : Dev nD => bigSep Finset.univ fun p : Fin 2 => Pipeline.cellsGhost (Pipeline.pin pcfgs (adm (tabs m))) EP p d)
      ∗ (bigSep Finset.univ fun d : Dev nD => bigSep Finset.univ fun p : Fin 2 => Pipeline.toksInit (Pipeline.pin pcfgs (adm (tabs m))) EP p d)
      ∗ ∃ ιw, wmInv emW ιw) : sProp 𝕄) ⊢ bigSep Finset.univ fun d : Dev nD => GG (F := F) m d := by
  rw [bigSep_univ_of_subsingleton (0 : Dev nD), bigSep_univ_of_subsingleton (0 : Dev nD), bigSep_univ_of_subsingleton (0 : Dev nD)]

include ρ in
theorem hu₀ : (ownU (u₀ (F := F) m) : sProp 𝕄)
    ⊢ |={Set.univ}=> iprop(BI.own (EH (initOf (K (F := F)).hsCells (K (F := F)).hsToks)) ∗ (bigSep Finset.univ fun d : Dev nD => GG (F := F) m d)
        ∗ bigSep Finset.univ fun thr : Thread nD τ => bigSep Finset.univ fun q : Fin 1 => (PP m).x q thr) := by
  unfold u₀
  iintro Hu
  ihave H := (ownU_pair (initOf (K (F := F)).hsCells (K (F := F)).hsToks) ((uP m, (wm₀ nD τ sig (Elt F), 1)) : UP × (UW F × Counters))) $$ Hu
  icases H with ⟨HH, HR⟩
  ihave HR' := (own_pair_emb (embR : Emb (UP × (UW F × Counters)) 𝕄) (uP m) ((wm₀ nD τ sig (Elt F), 1) : UW F × Counters)) $$ HR
  icases HR' with ⟨HP, HW⟩
  ihave HW' := (Entails.of_eq (show (BI.own (((Emb.inr : Emb (UW F × Counters) (UP × (UW F × Counters))).trans (embR : Emb (UP × (UW F × Counters)) 𝕄)) (wm₀ nD τ sig (Elt F), 1)) : sProp 𝕄)
    = ownU (emW (wm₀ nD τ sig (Elt F))) from rfl)) $$ HW
  imod (wmInv_alloc (emb := emW) (E := Set.univ) ⟨m, fun _ => 0, ρ⟩) $$ HW' with ⟨%ιw, -, #Hw⟩
  ihave HP' := (Entails.of_eq (show (BI.own (((Emb.inl : Emb UP (UP × (UW F × Counters))).trans (embR : Emb (UP × (UW F × Counters)) 𝕄)) (uP m)) : sProp 𝕄)
    = BI.own (EP (uP m)) from rfl)) $$ HP
  ihave HG := (fund m) $$ HP'
  imod HG with ⟨Hg, Ht⟩
  imodintro
  isplitl [HH]; · iexact HH
  isplitl [Hg Ht]
  · iapply (funded m)
    isplitl [Hg]; · iexact Hg
    isplitl [Ht]; · iexact Ht
    iexists ιw; iexact Hw
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_none]
  iempintro

/-! ## The end of the run -/

/-- Every unscoped buffer of device `d` is at `W7`. -/
def fq (d : Dev nD) (s' : Phys nD τ sig (Elt F)) : Prop := ∀ b ∈ ucRefs τ sig, s'.mem.mem (d, b) = W7 m d b

theorem hfin (d : Dev nD) (s' : Phys nD τ sig (Elt F)) : iprop(FIN m d ∗ SI s') ⊢ (⌜fq m d s'⌝ : sProp 𝕄) := by
  unfold fq
  refine BIBase.Entails.trans (forall_intro fun b => BIBase.Entails.trans (forall_intro fun hb => ?_)
    (pure_forall (φ := fun _ : b ∈ ucRefs τ sig => s'.mem.mem (d, b) = W7 m d b)).2)
    (pure_forall (φ := fun b : DevRef τ sig => b ∈ ucRefs τ sig → s'.mem.mem (d, b) = W7 m d b)).2
  have hE : (held (T d) (ucRefs τ sig) (W7 m d) : sProp 𝕄) ⊢ (((d, b) : Loc nD τ sig) ↦{fullShare} W7 m d b) :=
    bigSep_elim (Φ := fun b : DevRef τ sig => (((d, b) : Loc nD τ sig) ↦{fullShare} W7 m d b : sProp 𝕄)) hb
  iintro ⟨Hh, HSI⟩
  ihave Hb := hE $$ Hh
  ihave H := (SI_pointsTo_agree (st := s') (ℓ := (d, b)) (I := Finset.univ) (q := fullShare) (f := W7 m d b)) $$ [HSI Hb]
  · isplitl [HSI] <;> iassumption
  icases H with %h
  ipureintro; exact funext fun i => h i (Finset.mem_univ i)

theorem run_main [∀ e, Nonempty (Elt F e)] (hpre : PreOK (lsOf m)) (hS : Sorted m) :
    θ_run (defs (F := F)) threads ⟨m, fun _ => 0, ρ⟩ fun r => (∀ d, ∀ b ∈ ucRefs τ sig, r.2.mem (d, b) = W7 m d b) ∧ r.2.sem = fun _ => 0 :=
  SparseCore.Cfg.θ_run_sc_quiescent (K := K) (D := D) (𝒱 := 𝒱) (EH := EH) (P := PP m) (A := ∅) facts v₀
    (fun q hq => match q with | 0 => nomatch hq)
    (fun q _ => match q with | 0 => tileObl (tbOf m) (lsOf m) (oOf m) facts hpre)
    (fun q _ => match q with | 0 => SparseCore.Cfg.VecSplit.of_plain (vecSplit (tbOf m) (lsOf m) (oOf m)))
    m ρ main (GG m) (FIN m) (u₀ m) (sep_elim_left.trans (hu₀ m ρ)) (hmain m ρ hS) (fq m) (hfin m)
    (fun r => (∀ d, ∀ b ∈ ucRefs τ sig, r.2.mem (d, b) = W7 m d b) ∧ r.2.sem = fun _ => 0) (fun _ h hz => ⟨h, hz⟩)

end Cert.Proof

end
-- ==== Proof.Keeps.lean ====
/-
  What each stretch of the program writes, and that the other buffers keep their contents through it.
-/
module

public import proofs.«01_k».proof.Proof.Run

@[expose] public section

set_option maxRecDepth 16384

noncomputable section

namespace Cert.Proof

open Cert.KernelIdeal Cert.KernelIdeal.Gen

open Idealize.ShloMosaic Idealize.ShloMosaic.TcCoe
open Idealize.ShloMosaic.StableHlo (held seq after)
open Idealize.ShloMosaic.Pipeline (Dat ucRefs)

variable {F : FTy → Type} [FloatOps F]

variable (m : (ℓ : Loc nD τ sig) → Buf (Elt F) ℓ)

def wrA : List (Ref sig .tc) :=
  [main_v0, main_v1, main_v2, main_v3, main_c, main_call0_v0, main_v4]
def wrB1 : List (Ref sig .tc) :=
  [main_c_0, main_v6, main_v7, main_v8, main_v9, main_v10, main_c_1]
def wrB2 : List (Ref sig .tc) :=
  [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v11, main_c_2]
def wrB3 : List (Ref sig .tc) :=
  [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v12]
def wrB4 : List (Ref sig .tc) :=
  [main_v13, main_c_3, main_v14, main_v15, main_v16, main_v17, main_v18, main_v19, main_v20, main_v21, main_c_4, main_v22, main_v23, main_v24]
def wrC : List (Ref sig .tc) :=
  [main_v26, main_v27, main_v28]
def wrD : List (Ref sig .tc) :=
  [main_v30]

theorem W1_of (d : Dev nD) {r : Ref sig .tc} (h : r ∉ wrA) : W1 m d (Proc.devRef .tc r) = W0 m d (Proc.devRef .tc r) :=
  StableHlo.after_of_writes_sub (W := wrA) opsA _ (StableHlo.forall_writes_sub_of_map rfl) h

theorem W2_of (d : Dev nD) {r : Ref sig .tc} (h : r ≠ main_v5) : W2 m d (Proc.devRef .tc r) = W1 m d (Proc.devRef .tc r) :=
  Function.update_of_ne (fun e => h (Proc.devRef_injective _ e)) _ _

theorem W2a_of (d : Dev nD) {r : Ref sig .tc} (h : r ∉ wrB1) : W2a m d (Proc.devRef .tc r) = W2 m d (Proc.devRef .tc r) :=
  StableHlo.after_of_writes_sub (W := wrB1) opsB1 _ (StableHlo.forall_writes_sub_of_map rfl) h

theorem W2b_of (d : Dev nD) {r : Ref sig .tc} (h : r ∉ wrB2) : W2b m d (Proc.devRef .tc r) = W2a m d (Proc.devRef .tc r) :=
  StableHlo.after_of_writes_sub (W := wrB2) opsB2 _ (StableHlo.forall_writes_sub_of_map rfl) h

theorem W2c_of (d : Dev nD) {r : Ref sig .tc} (h : r ∉ wrB3) : W2c m d (Proc.devRef .tc r) = W2b m d (Proc.devRef .tc r) :=
  StableHlo.after_of_writes_sub (W := wrB3) opsB3 _ (StableHlo.forall_writes_sub_of_map rfl) h

theorem W3_of (d : Dev nD) {r : Ref sig .tc} (h : r ∉ wrB4) : W3 m d (Proc.devRef .tc r) = W2c m d (Proc.devRef .tc r) :=
  StableHlo.after_of_writes_sub (W := wrB4) opsB4 _ (StableHlo.forall_writes_sub_of_map rfl) h

theorem W4_of (d : Dev nD) {r : Ref sig .tc} (h : r ≠ main_v25_1 ∧ r ≠ main_v25_2 ∧ ∀ w, r ≠ Pipeline.arrRef spec1 w) :
    W4 m d (Proc.devRef .tc r) = W3 m d (Proc.devRef .tc r) :=
  V'_off (W3 m) (tabs m) (segs m) (hRows m) (uRows m) d r h.1 h.2.1 h.2.2

theorem W5_of (d : Dev nD) {r : Ref sig .tc} (h : r ∉ wrC) : W5 m d (Proc.devRef .tc r) = W4 m d (Proc.devRef .tc r) :=
  StableHlo.after_of_writes_sub (W := wrC) opsC _ (StableHlo.forall_writes_sub_of_map rfl) h

theorem W6_of (d : Dev nD) {r : Ref sig .tc} (h : r ≠ main_v29_0 ∧ r ≠ main_v29_1 ∧ r ≠ main_v29_2) :
    W6 m d (Proc.devRef .tc r) = W5 m d (Proc.devRef .tc r) := by
  refine Pipeline.afterRegion_keeps (dat1 (W5 m) d) (W5 m d) winFacts2.arr_inj (A_eq (W5 m) d) r fun w e => ?_
  subst e
  obtain ⟨h0, h1, h2⟩ := h
  revert h0 h1 h2
  revert w
  decide

theorem W7_of (d : Dev nD) {r : Ref sig .tc} (h : r ∉ wrD) : W7 m d (Proc.devRef .tc r) = W6 m d (Proc.devRef .tc r) :=
  StableHlo.after_of_writes_sub (W := wrD) opsD _ (StableHlo.forall_writes_sub_of_map rfl) h

/-- An argument is written nowhere. -/
def untouched (r : Ref sig .tc) : Prop :=
  r ∉ wrA ∧ r ≠ main_v5 ∧ (r ∉ wrB1 ∧ r ∉ wrB2 ∧ r ∉ wrB3 ∧ r ∉ wrB4) ∧ (r ≠ main_v25_1 ∧ r ≠ main_v25_2 ∧ ∀ w, r ≠ Pipeline.arrRef spec1 w) ∧ r ∉ wrC
    ∧ (r ≠ main_v29_0 ∧ r ≠ main_v29_1 ∧ r ≠ main_v29_2) ∧ r ∉ wrD

instance (r : Ref sig .tc) : Decidable (untouched r) := by unfold untouched; infer_instance

theorem W3_arg (d : Dev nD) {r : Ref sig .tc} (h : untouched r) : W3 m d (Proc.devRef .tc r) = m (d, Proc.devRef .tc r) := by
  rw [W3_of m d h.2.2.1.2.2.2, W2c_of m d h.2.2.1.2.2.1, W2b_of m d h.2.2.1.2.1, W2a_of m d h.2.2.1.1, W2_of m d h.2.1, W1_of m d h.1]; rfl

theorem W5_arg (d : Dev nD) {r : Ref sig .tc} (h : untouched r) : W5 m d (Proc.devRef .tc r) = m (d, Proc.devRef .tc r) := by
  rw [W5_of m d h.2.2.2.2.1, W4_of m d h.2.2.2.1, W3_arg m d h]

theorem W7_arg (d : Dev nD) {r : Ref sig .tc} (h : untouched r) : W7 m d (Proc.devRef .tc r) = m (d, Proc.devRef .tc r) := by
  rw [W7_of m d h.2.2.2.2.2.2, W6_of m d h.2.2.2.2.2.1, W5_arg m d h]

end Cert.Proof
-- ==== Proof.Sort.lean ====
/-
  The tables the host prepares: each user with its place as one word, the words sorted, and the quotient and the
  remainder by the number of places taken apart again; and how many users lie before each block of 2048. They are what
  the first region needs (`sorted`).
-/
module

public import proofs.«01_k».proof.Proof.Keeps
public import Idealize.ShloMosaic.Lib.SortFacts
public import Idealize.ShloMosaic.Lib.WordCmp
public import Idealize.ShloMosaic.PureOps.Reduce

@[expose] public section

set_option maxRecDepth 16384

noncomputable section

namespace Cert.Proof

open Cert.KernelIdeal Cert.KernelIdeal.Gen

open Idealize.ShloMosaic Idealize.ShloMosaic.TcCoe
open Idealize.ShloMosaic.StableHlo (held seq after)
open Idealize.ShloMosaic.Pipeline (Dat ucRefs)

/-! ## Quotient and remainder of a word by 4096, as the host computes them -/

abbrev wide (n : BitVec 32) : S4096.Idx → BitVec 32 := broadcastInDim S4096 ![] bcast_S_S4096 (constantI S_ 32 n)

/-- Division rounding down. -/
def quot (x : S4096.Idx → BitVec 32) : S4096.Idx → BitVec 32 :=
  select (andi (cmpi .ne (signi x) (broadcastInDim S4096 ![] bcast_S_S4096 (signi (constantI S_ 32 4096#32)))) (cmpi .ne (Host.remsi x (wide 4096#32)) (wide 0#32)))
    (subi (Host.divsi x (wide 4096#32)) (wide 1#32)) (Host.divsi x (wide 4096#32))

/-- The divisor, which is not zero. -/
def divisor : S_.Idx → BitVec 32 :=
  select (cmpi .eq (constantI S_ 32 4096#32) (constantI S_ 32 0#32)) (constantI S_ 32 1#32) (constantI S_ 32 4096#32)

/-- The remainder of the divisor's sign. -/
def rmd (x : S4096.Idx → BitVec 32) : S4096.Idx → BitVec 32 :=
  select (andi (cmpi .ne (cmpi .slt (Host.remsi x (broadcastInDim S4096 ![] bcast_S_S4096 divisor)) (wide 0#32))
        (broadcastInDim S4096 ![] bcast_S_S4096 (cmpi .slt divisor (constantI S_ 32 0#32))))
      (cmpi .ne (Host.remsi x (broadcastInDim S4096 ![] bcast_S_S4096 divisor)) (wide 0#32)))
    (addi (Host.remsi x (broadcastInDim S4096 ![] bcast_S_S4096 divisor)) (broadcastInDim S4096 ![] bcast_S_S4096 divisor))
    (Host.remsi x (broadcastInDim S4096 ![] bcast_S_S4096 divisor))

theorem not_corner (v : BitVec 32) : ¬ IntOp.SDivCorner v 4096#32 := by
  rintro (h | ⟨-, h⟩) <;> exact absurd h (by decide)

theorem msb_false {v : BitVec 32} (h : v.toNat < 2 ^ 31) : v.msb = false := by
  rw [BitVec.msb_eq_decide, decide_eq_false_iff_not]; omega

theorem div_word {v : BitVec 32} (h : v.toNat < 2 ^ 31) (u : ArithUnit) : (IntOp.divsi u v 4096#32).toNat = v.toNat / 4096 := by
  unfold IntOp.divsi
  rw [if_neg (not_corner v), BitVec.sdiv_eq, msb_false h]
  rw [show (4096#32 : BitVec 32).msb = false from by decide]
  exact BitVec.toNat_udiv

theorem rem_word {v : BitVec 32} (h : v.toNat < 2 ^ 31) (u : ArithUnit) : (IntOp.remsi u v 4096#32).toNat = v.toNat % 4096 := by
  unfold IntOp.remsi
  rw [if_neg (not_corner v), BitVec.srem_eq, msb_false h]
  rw [show (4096#32 : BitVec 32).msb = false from by decide]
  exact BitVec.toNat_umod

theorem sign_wide : signi (constantI S_ 32 4096#32) = constantI S_ 32 1#32 :=
  funext fun _ => (by decide : (if (4096#32 : BitVec 32) = 0 then 0 else if (4096#32 : BitVec 32).msb then -1 else 1) = 1#32)

theorem ne_self {w : ℕ} (v : BitVec w) : IntOp.cmpi .ne v v = 0#1 := by simp [IntOp.cmpi]

theorem andi_zero (v : BitVec 1) : IntOp.andi v 0#1 = 0#1 := by revert v; decide
theorem zero_andi (v : BitVec 1) : IntOp.andi 0#1 v = 0#1 := by revert v; decide
theorem select_zero {α : Type} (a b : α) : Scalar.select 0#1 a b = b := by simp [Scalar.select]

theorem quot_at (x : S4096.Idx → BitVec 32) (i : S4096.Idx) (h : (x i).toNat < 2 ^ 31) : (quot x i).toNat = (x i).toNat / 4096 := by
  have e : IntOp.andi (IntOp.cmpi .ne (signi x i) (1#32)) (IntOp.cmpi .ne (IntOp.remsi .host (x i) 4096#32) 0#32) = 0#1 := by
    by_cases hz : x i = 0
    · have : IntOp.remsi .host (x i) 4096#32 = 0#32 := by
        apply BitVec.eq_of_toNat_eq; rw [rem_word h, hz]; rfl
      rw [this, ne_self, andi_zero]
    · have : signi x i = 1#32 := by
        show (if x i = 0 then 0 else if (x i).msb then -1 else 1) = _
        rw [if_neg hz, msb_false h]; rfl
      rw [this, ne_self, zero_andi]
  unfold quot
  rw [sign_wide]
  show (Scalar.select (IntOp.andi (IntOp.cmpi .ne (signi x i) (1#32)) (IntOp.cmpi .ne (IntOp.remsi .host (x i) 4096#32) 0#32)) _ (IntOp.divsi .host (x i) 4096#32)).toNat = _
  rw [e, select_zero, div_word h]

theorem rmd_at (x : S4096.Idx → BitVec 32) (i : S4096.Idx) (h : (x i).toNat < 2 ^ 31) : (rmd x i).toNat = (x i).toNat % 4096 := by
  have hs : IntOp.cmpi .slt (IntOp.remsi .host (x i) 4096#32) 0#32 = 0#1 := by
    rw [WordCmp.cmpi_slt_of_lt (by rw [rem_word h]; have := Nat.mod_lt (x i).toNat (show 4096 > 0 by decide); omega) (by decide)]
    simp
  show (Scalar.select (IntOp.andi (IntOp.cmpi .ne (IntOp.cmpi .slt (IntOp.remsi .host (x i) 4096#32) 0#32) 0#1) (IntOp.cmpi .ne (IntOp.remsi .host (x i) 4096#32) 0#32)) _ (IntOp.remsi .host (x i) 4096#32)).toNat = _
  rw [hs, ne_self, zero_andi, select_zero, rem_word h]

/-! ## The sorted words -/

/-- A user's word: the user times 4096, plus the place. -/
def keys (u : S4096.Idx → BitVec 32) : S4096.Idx → BitVec 32 := addi (muli u (wide 4096#32)) (iotaInDim S4096 32 0)

theorem keys_at (u : S4096.Idx → BitVec 32) (hu : ∀ i, (u i).toNat < 100000) (k : ℕ) (h : k < 4096) :
    (keys u (ix k h)).toNat = (u (ix k h)).toNat * 4096 + k := by
  have := hu (ix k h)
  show (u (ix k h) * 4096#32 + BitVec.ofNat 32 k).toNat = _
  rw [BitVec.toNat_add, BitVec.toNat_mul, BitVec.toNat_ofNat, BitVec.toNat_ofNat]
  omega

theorem sort_at (u : S4096.Idx → BitVec 32) (hu : ∀ i, (u i).toNat < 100000) :
    ∃ π : Fin 4096 → Fin 4096, Function.Bijective π ∧ (∀ k h, Host.sort S4096 0 comparator_i32_d0 (keys u) (ix k h) = keys u (ix (π ⟨k, h⟩).val (π ⟨k, h⟩).isLt)) ∧
      ∀ i j, i ≤ j → (keys u (ix (π i).val (π i).isLt)).toNat ≤ (keys u (ix (π j).val (π j).isLt)).toNat := by
  let B : Fin 4096 → Fin 4096 → Bool := fun a b => comparator_i32_d0 (keys u (ix a.val a.isLt)) (keys u (ix b.val b.isLt)) == 1#1
  have hB (a b : Fin 4096) : B a b = decide ((keys u (ix a.val a.isLt)).toNat < (keys u (ix b.val b.isLt)).toNat) := by
    show (IntOp.cmpi .slt _ _ == 1#1) = _
    have ha := keys_at u hu a.val a.isLt
    have hb := keys_at u hu b.val b.isLt
    have := hu (ix a.val a.isLt); have := hu (ix b.val b.isLt); have := a.isLt; have := b.isLt
    rw [WordCmp.cmpi_slt_of_lt (by omega) (by omega)]
    cases decide ((keys u (ix a.val a.isLt)).toNat < (keys u (ix b.val b.isLt)).toNat) <;> rfl
  have along (j : S4096.Idx) (k : Fin 4096) : j.along (0 : Fin 1) k = ix k.val k.isLt := by
    funext a; match a with | 0 => rfl
  refine ⟨sortedFrom B, ⟨sortedFrom_injective B, sortedFrom_surjective B⟩, fun k h => ?_, fun i j hij => ?_⟩
  · unfold Host.sort
    rw [dif_pos (by decide)]
    have e : (fun k' k'' : Fin 4096 => comparator_i32_d0 (keys u ((ix k h).along (0 : Fin 1) k')) (keys u ((ix k h).along (0 : Fin 1) k'')) == 1#1) = B := by
      funext a b; exact congrArg₂ (fun p q => comparator_i32_d0 (keys u p) (keys u q) == 1#1) (along _ a) (along _ b)
    exact (congrArg (keys u) (along (ix k h) _)).trans (by
      exact congrArg (fun b => keys u (ix (sortedFrom b ⟨k, h⟩).val (sortedFrom b ⟨k, h⟩).isLt)) e)
  · rcases eq_or_lt_of_le hij with rfl | hl
    · exact le_refl _
    have hn := sortedFrom_noInversion B B (fun a b h => by rw [hB] at h ⊢; simp only [decide_eq_true_eq, decide_eq_false_iff_not] at h ⊢; omega) (fun a b h => h)
      (fun a b c h h' => by rw [hB] at h h' ⊢; simp only [decide_eq_false_iff_not] at h h' ⊢; omega) i j hl
    rw [hB] at hn
    simp only [decide_eq_false_iff_not] at hn
    omega

/-! ## How many users lie before a block -/

/-- The number of users before each multiple of 2048. -/
def before (x : S4096.Idx → BitVec 32) : S50.Idx → BitVec 32 :=
  Host.reduce IntOp.addi (extui 32 (cmpi .slt (broadcastInDim S50x4096 ![0, 1] bcast_S1x4096_S50x4096_0_1 (broadcastInDim S1x4096 ![1] bcast_S4096_S1x4096_1 x))
      (broadcastInDim S50x4096 ![0, 1] bcast_S50x1_S50x4096_0_1 (broadcastInDim S50x1 ![0] bcast_S50_S50x1_0
        (muli (iotaInDim S50 32 0) (broadcastInDim S50 ![] bcast_S_S50 (constantI S_ 32 2048#32)))))) natLt_1_32)
    (constantI S_ 32 0#32) reducesTo_S50x4096_S50_d1 h_S_

theorem before_at (x : S4096.Idx → BitVec 32) (hx : ∀ i, (x i).toNat < 2 ^ 31) (g : ℕ) (h : g < 50) :
    before x (ix50 g h) = BitVec.ofNat 32 ((Finset.univ : Finset (Fin 4096)).filter fun k => (x (ix k.val k.isLt)).toNat < 2048 * g).card := by
  unfold before
  rw [Host.reduce_eq_fold]
  have hw (i : S50x4096.Idx) : (extui 32 (cmpi .slt (broadcastInDim S50x4096 ![0, 1] bcast_S1x4096_S50x4096_0_1 (broadcastInDim S1x4096 ![1] bcast_S4096_S1x4096_1 x))
      (broadcastInDim S50x4096 ![0, 1] bcast_S50x1_S50x4096_0_1 (broadcastInDim S50x1 ![0] bcast_S50_S50x1_0
        (muli (iotaInDim S50 32 0) (broadcastInDim S50 ![] bcast_S_S50 (constantI S_ 32 2048#32)))))) natLt_1_32) i
      = if (x (ix (i 1).val (i 1).isLt)).toNat < 2048 * (i 0).val then 1#32 else 0#32 := by
    have h0 : (i 0).val < 50 := (i 0).isLt
    have e : broadcastInDim S50x4096 ![0, 1] bcast_S1x4096_S50x4096_0_1 (broadcastInDim S1x4096 ![1] bcast_S4096_S1x4096_1 x) i = x (ix (i 1).val (i 1).isLt) :=
      congrArg x (funext fun | 0 => rfl)
    have e1 : (BitVec.ofNat 32 (i 0).val * 2048#32).toNat = 2048 * (i 0).val := by
      rw [BitVec.toNat_mul, BitVec.toNat_ofNat, BitVec.toNat_ofNat]; omega
    have e2 : IntOp.cmpi .slt (x (ix (i 1).val (i 1).isLt)) (BitVec.ofNat 32 (i 0).val * 2048#32) = BitVec.ofBool (decide ((x (ix (i 1).val (i 1).isLt)).toNat < 2048 * (i 0).val)) := by
      rw [WordCmp.cmpi_slt_of_lt (hx _) (by rw [e1]; omega), e1]
    refine (congrArg (fun v => (IntOp.cmpi .slt v (BitVec.ofNat 32 (i 0).val * 2048#32)).setWidth 32) e).trans ((congrArg (BitVec.setWidth 32) e2).trans ?_)
    by_cases hc : (x (ix (i 1).val (i 1).isLt)).toNat < 2048 * (i 0).val
    · exact (congrArg (fun b => (BitVec.ofBool b).setWidth 32) (decide_eq_true hc)).trans (if_pos hc).symm
    · exact (congrArg (fun b => (BitVec.ofBool b).setWidth 32) (decide_eq_false hc)).trans (if_neg hc).symm
  have hd (i : S50x4096.Idx) : reducesTo_S50x4096_S50_d1.drop i = ix50 g h ↔ (i 0).val = g := by
    constructor
    · intro e
      have := congrArg (fun q : S50.Idx => (q 0).val) e
      exact (Shape.ReducesTo.drop_apply_val_of_eq reducesTo_S50x4096_S50_d1 i 0 0).symm.trans this
    · intro e
      funext a
      match a with
      | 0 => exact Fin.ext ((Shape.ReducesTo.drop_apply_val_of_eq reducesTo_S50x4096_S50_d1 i 0 0).trans e)
  have sum (S : Finset S50x4096.Idx) (f : S50x4096.Idx → BitVec 32) (p : S50x4096.Idx → Prop) [DecidablePred p] (hf : ∀ i, f i = if p i then 1#32 else 0#32) :
      S.fold IntOp.addi 0#32 f = BitVec.ofNat 32 (S.filter p).card := by
    induction S using Finset.cons_induction with
    | empty => rfl
    | cons a S ha ih =>
      rw [Finset.fold_cons, ih, Finset.filter_cons, hf a]
      split
      · rw [Finset.card_cons]
        show 1#32 + BitVec.ofNat 32 _ = _
        rw [Nat.add_comm, BitVec.ofNat_add]
      · show 0#32 + BitVec.ofNat 32 _ = _
        rw [BitVec.zero_add]
  refine (sum _ _ (fun i => (x (ix (i 1).val (i 1).isLt)).toNat < 2048 * (i 0).val) hw).trans ?_
  congr 1
  refine Finset.card_bij' (fun i _ => (i 1 : Fin 4096)) (fun k _ => (fun | 0 => ⟨g, h⟩ | 1 => k : S50x4096.Idx)) ?_ ?_ ?_ ?_
  · intro i hi
    simp only [Finset.mem_filter, Finset.mem_univ, true_and, hd] at hi
    refine Finset.mem_filter.mpr ⟨Finset.mem_univ _, ?_⟩
    rw [← hi.1]; exact hi.2
  · intro k hk
    simp only [Finset.mem_filter, Finset.mem_univ, true_and, hd] at hk ⊢
    exact hk
  · intro i hi
    simp only [Finset.mem_filter, Finset.mem_univ, true_and, hd] at hi
    funext a
    match a with
    | 0 => exact Fin.ext hi.1.symm
    | 1 => rfl
  · intro k hk; rfl

/-- In an ascending table an entry is below a bound exactly when it stands before the number of entries below it. -/
theorem lt_count_iff {n : ℕ} (f : Fin n → ℕ) (hf : ∀ i j, i ≤ j → f i ≤ f j) (t : ℕ) (k : Fin n) :
    k.val < ((Finset.univ : Finset (Fin n)).filter fun i => f i < t).card ↔ f k < t := by
  constructor
  · intro h
    by_contra hn
    have hs : ((Finset.univ : Finset (Fin n)).filter fun i => f i < t) ⊆ Finset.univ.filter fun i => i < k := by
      intro i hi
      simp only [Finset.mem_filter, Finset.mem_univ, true_and] at hi ⊢
      by_contra hik
      have := hf k i (not_lt.mp hik)
      omega
    have := Finset.card_le_card hs
    have hc : (Finset.univ.filter fun i : Fin n => i < k).card = k.val := by rw [Finset.filter_gt_eq_Iio, Fin.card_Iio]
    omega
  · intro h
    have hs : (Finset.univ.filter fun i : Fin n => i ≤ k) ⊆ (Finset.univ : Finset (Fin n)).filter fun i => f i < t := by
      intro i hi
      simp only [Finset.mem_filter, Finset.mem_univ, true_and] at hi ⊢
      exact lt_of_le_of_lt (hf i k hi) h
    have := Finset.card_le_card hs
    have hc : (Finset.univ.filter fun i : Fin n => i ≤ k).card = k.val + 1 := by rw [Finset.filter_ge_eq_Iic, Fin.card_Iic]
    omega

/-! ## The program's tables -/

section Tables

variable {F : FTy → Type} [FloatOps F]

variable (m : (ℓ : Loc nD τ sig) → Buf (Elt F) ℓ)

theorem usr_kept (d : Dev nD) : W2 m d (Proc.devRef .tc main_arg1) = W0 m d (Proc.devRef .tc main_arg1) := by
  rw [W2_of m d (by decide), W1_of m d (by decide)]

variable (W : Valuation τ sig (Elt F))

theorem sort_after : after opsB1 W (Proc.devRef .tc main_v10) = Host.sort S4096 0 comparator_i32_d0 (keys (W (Proc.devRef .tc main_arg1))) := by
  unfold opsB1
  after_results
  rfl

theorem c1_after : after opsB1 W (Proc.devRef .tc main_c_1) = constantI S_ 32 4096#32 := by
  unfold opsB1
  after_results

theorem quot_after (e : W (Proc.devRef .tc main_c_1) = constantI S_ 32 4096#32) : after opsB2 W (Proc.devRef .tc main_v11) = quot (W (Proc.devRef .tc main_v10)) := by
  unfold opsB2
  after_results
  simp only [e]
  rfl

theorem c2_after : after opsB2 W (Proc.devRef .tc main_c_2) = constantI S_ 32 4096#32 := by
  unfold opsB2
  after_results

theorem rmd_after (e : W (Proc.devRef .tc main_c_2) = constantI S_ 32 4096#32) : after opsB3 W (Proc.devRef .tc main_v12) = rmd (W (Proc.devRef .tc main_v10)) := by
  unfold opsB3
  after_results
  simp only [e]
  rfl

theorem before_after : after opsB4 W (Proc.devRef .tc main_v22) = before (W (Proc.devRef .tc main_v11)) := by
  unfold opsB4
  after_results
  rfl

/-- The sorted words. -/
def srt : S4096.Idx → BitVec 32 := Host.sort S4096 0 comparator_i32_d0 (keys (usr m))

theorem su_eq : suOf (tabs m) = quot (srt m) := by
  show W3 m 0 (Proc.devRef .tc main_v11) = _
  rw [W3_of m 0 (by decide), W2c_of m 0 (by decide)]
  refine (quot_after (W2a m 0) (c1_after (W2 m 0))).trans (congrArg quot ((sort_after (W2 m 0)).trans ?_))
  rw [usr_kept]; rfl
theorem ds_eq : dsOf (tabs m) = rmd (srt m) := by
  show W3 m 0 (Proc.devRef .tc main_v12) = _
  rw [W3_of m 0 (by decide)]
  refine (rmd_after (W2b m 0) (c2_after (W2a m 0))).trans (congrArg rmd ?_)
  rw [W2b_of m 0 (by decide)]
  refine (sort_after (W2 m 0)).trans ?_
  rw [usr_kept]; rfl
theorem sg_eq : sgOf (tabs m) = before (suOf (tabs m)) :=
  (tabs_held m 0).2.2.symm.trans ((before_after (W2c m 0)).trans (congrArg before ((W3_of m 0 (r := main_v11) (by decide)).symm.trans (tabs_held m 0).1)))

/-- The tables, of users below 100000. -/
theorem sorted (hu : ∀ i, (usr m i).toNat < 100000) : Sorted m := by
  intro c
  obtain rfl : c = 0 := Subsingleton.elim _ _
  obtain ⟨π, hπ, hk, hm⟩ := sort_at (usr m) hu
  have key (k : ℕ) (h : k < 4096) : (srt m (ix k h)).toNat = (usr m (ix (π ⟨k, h⟩).val (π ⟨k, h⟩).isLt)).toNat * 4096 + (π ⟨k, h⟩).val := by
    unfold srt; rw [hk, keys_at _ hu]
  have lt31 (i : S4096.Idx) : (srt m i).toNat < 2 ^ 31 := by
    obtain ⟨k, h, rfl⟩ : ∃ k h, i = ix k h := ⟨(i 0).val, (i 0).isLt, funext fun | 0 => rfl⟩
    rw [key]
    have := hu (ix (π ⟨k, h⟩).val (π ⟨k, h⟩).isLt)
    have := (π ⟨k, h⟩).isLt
    omega
  have su (k : ℕ) (h : k < 4096) : (suOf (tabs m) (ix k h)).toNat = (usr m (ix (π ⟨k, h⟩).val (π ⟨k, h⟩).isLt)).toNat := by
    rw [su_eq, quot_at _ _ (lt31 _), key]; have := (π ⟨k, h⟩).isLt; omega
  have ds (k : ℕ) (h : k < 4096) : (dsOf (tabs m) (ix k h)).toNat = (π ⟨k, h⟩).val := by
    rw [ds_eq, rmd_at _ _ (lt31 _), key]; have := (π ⟨k, h⟩).isLt; omega
  have hlt (k : ℕ) (h : k < 4096) : (suOf (tabs m) (ix k h)).toNat < 100000 := by rw [su]; exact hu _
  have mono : ∀ i j : Fin 4096, i ≤ j → (suOf (tabs m) (ix i.val i.isLt)).toNat ≤ (suOf (tabs m) (ix j.val j.isLt)).toNat := by
    intro i j hij
    have := hm i j hij
    rw [keys_at _ hu, keys_at _ hu] at this
    rw [su i.val i.isLt, su j.val j.isLt]
    have := (π i).isLt; have := (π j).isLt
    change (usr m (ix (π i).val (π i).isLt)).toNat ≤ (usr m (ix (π j).val (π j).isLt)).toNat
    omega
  have cnt (g k : ℕ) (h : k < 4096) : k < segs m g ↔ (suOf (tabs m) (ix k h)).toNat < 2048 * g :=
    lt_count_iff (fun i => (suOf (tabs m) (ix i.val i.isLt)).toNat) mono (2048 * g) ⟨k, h⟩
  have all (i : S4096.Idx) : (suOf (tabs m) i).toNat < 100000 := by
    obtain ⟨k, h, rfl⟩ : ∃ k h, i = ix k h := ⟨(i 0).val, (i 0).isLt, funext fun | 0 => rfl⟩
    exact hlt _ _
  have row (k : ℕ) (h : k < 4096) (r : Fin 4096) (e : r.val = (dsOf (tabs m) (ix k h)).toNat) : urow m r = ⟨(suOf (tabs m) (ix k h)).toNat, hlt k h⟩ := by
    have er : r = π ⟨k, h⟩ := Fin.ext (e.trans (ds k h))
    subst er
    apply Fin.ext
    show (usr m _).toNat % 100000 = (suOf (tabs m) (ix k h)).toNat
    rw [su, Nat.mod_eq_of_lt (hu _)]
  refine ⟨⟨fun g h => ?_, ?_, ?_, fun g hg => ?_, fun g hg => ?_, fun g hg k h h1 h2 => ?_, fun g hg k h h1 h2 => ?_, fun k h => ?_⟩, hlt, fun k h q e => ?_, fun k h q e => ?_, fun r hr => ?_⟩
  · rw [sg_eq]
    exact before_at _ (fun i => lt_of_lt_of_le (all i) (by decide)) g h
  · unfold segs; simp
  · unfold segs
    have e : ∀ k ∈ (Finset.univ : Finset (Fin 4096)), (suOf (tabs m) (ix k.val k.isLt)).toNat < 2048 * 49 :=
      fun k _ => lt_of_lt_of_le (hlt k.val k.isLt) (by norm_num)
    rw [Finset.filter_true_of_mem e, Finset.card_univ, Fintype.card_fin]
  · exact Finset.card_le_card fun k hk => by
      simp only [Finset.mem_filter, Finset.mem_univ, true_and] at hk ⊢; omega
  · exact (Finset.card_le_univ _).trans (le_of_eq (Fintype.card_fin _))
  · by_contra hn
    exact absurd ((cnt g k h).mpr (not_le.mp hn)) (by omega)
  · exact (cnt (g + 1) k h).mp h2
  · rw [ds]; exact (π ⟨k, h⟩).isLt
  · refine congrArg (AHOf (W3 m) 0) (funext fun a => ?_)
    match a with
    | 0 => rfl
    | 1 => exact row k h (q 0) e
  · refine congrArg (AUOf (W3 m) 0) (funext fun a => ?_)
    match a with
    | 0 => rfl
    | 1 => exact row k h (q 0) e
  · obtain ⟨k, hk⟩ := hπ.2 ⟨r, hr⟩
    exact ⟨k.val, k.isLt, by rw [ds]; exact congrArg Fin.val hk⟩

end Tables

end Cert.Proof
-- ==== Proof.Frame.lean ====
/-
  What the run leaves in the arguments' buffers, and the range that the precondition gives the list of items:
  the frame of the program, at any float values.
-/
module

public import proofs.«01_k».proof.Defs
public import proofs.«01_k».proof.Proof.Main
public import proofs.«01_k».proof.Proof.Sort
public import proofs.«01_k».proof.Proof.Gen.Pre_drawn_range
public import proofs.«01_k».proof.Proof.Gen.Kernel
public import Idealize.ShloMosaic.Lib.ReduceAll

@[expose] public section

set_option maxRecDepth 16384

noncomputable section

namespace Cert.Proof

open Cert.KernelIdeal Cert.KernelIdeal.Gen

open Idealize.ShloMosaic Idealize.ShloMosaic.TcCoe
open Idealize.ShloMosaic.SparseCore.Cfg (HIx Pay)
open Idealize.ShloMosaic.StableHlo (held seq after)
open Idealize.SL.Sem
open Idealize.ShloMosaic.Pipeline (Dat ucRefs)

variable {F : FTy → Type} [FloatOps F]

variable (m : (ℓ : Loc nD τ sig) → Buf (Elt F) ℓ) (ρ : Dev nD → PrngReg)

theorem uc_mem {r : Ref sig .tc} (h : r.isScoped = false) : (Proc.devRef .tc r : DevRef τ sig) ∈ ucRefs τ sig :=
  Finset.mem_filter.mpr ⟨StableHlo.devRef_mem_tcRefs _, fun h' => Bool.false_ne_true (h.symm.trans h')⟩

/-! ## The list of items -/

/-- The list the gather reads is the items' array, transposed and flattened: every word of it is a word of the array. -/
theorem ls_word (d : Dev nD) (j : S81920.Idx) :
    ∃ i : S4096x20.Idx, lsOf m d j = m (d, Proc.devRef .tc main_arg2) i := by
  refine ⟨(transposes_S4096x20_S20x4096_1_0).src (Shape.reshapeEquiv shapeCasts_S20x4096_S81920 j), ?_⟩
  have e : W1 m d rI = shapeCast S81920 (transpose S20x4096 [1, 0] (m (d, Proc.devRef .tc main_arg2)) transposes_S4096x20_S20x4096_1_0) shapeCasts_S20x4096_S81920 := by
    unfold W1 opsA
    after_results
    rfl
  show W1 m d rI j = _
  rw [e]; rfl

/-- The precondition's words, at any float values. -/
theorem range_of_pre (a0 : IVec S4096 32) (a1 : IVec S4096 32) (a2 : IVec S4096x20 32) (a3 : FVec F S100000x1000 .f32) (a4 : FVec F S100000x64 .f32)
    (a5 : FVec F S1000x64 .f32) (a6 : FVec F S128x192 .f32) (a7 : FVec F S64x192 .f32) (a8 : FVec F S192 .f32) (a9 : FVec F S64x64 .f32)
    (h : Cert.Pre_drawn_range.fn a0 a1 a2 a3 a4 a5 a6 a7 a8 a9 = fun _ => 1#1) :
    (∀ i, 1 ≤ (a0 i).toNat ∧ (a0 i).toNat ≤ 20) ∧ (∀ i, (a1 i).toNat < 100000) ∧ ∀ i, (a2 i).toNat < 1000 := by
  have one (p : Bool) : (BitVec.ofBool p = 1#1) ↔ p = true := by cases p <;> decide
  have both : ∀ p q : BitVec 1, IntOp.andi p q = 1#1 → p = 1#1 ∧ q = 1#1 := by decide
  have lo (n : ℕ) (hn : n < 2 ^ 31) (v : BitVec 32) (e : IntOp.cmpi .sge v (BitVec.ofNat 32 n) = 1#1) : n ≤ v.toNat ∧ v.toNat < 2 ^ 31 := by
    simp only [IntOp.cmpi, one, BitVec.sle_eq_decide, decide_eq_true_eq, BitVec.toInt_eq_toNat_cond, BitVec.toNat_ofNat] at e
    have := v.isLt
    have hm : n % 2 ^ 32 = n := Nat.mod_eq_of_lt (by omega)
    rw [hm] at e
    split_ifs at e <;> omega
  have hi (n : ℕ) (hn : n < 2 ^ 31) (v : BitVec 32) (hv : v.toNat < 2 ^ 31) (e : IntOp.cmpi .slt v (BitVec.ofNat 32 n) = 1#1) : v.toNat < n := by
    simp only [IntOp.cmpi, one, BitVec.slt_eq_decide, decide_eq_true_eq, BitVec.toInt_eq_toNat_cond, BitVec.toNat_ofNat] at e
    have hm : n % 2 ^ 32 = n := Nat.mod_eq_of_lt (by omega)
    rw [hm] at e
    split_ifs at e <;> omega
  have hi' (n : ℕ) (hn : n < 2 ^ 31) (v : BitVec 32) (hv : v.toNat < 2 ^ 31) (e : IntOp.cmpi .sle v (BitVec.ofNat 32 n) = 1#1) : v.toNat ≤ n := by
    simp only [IntOp.cmpi, one, BitVec.sle_eq_decide, decide_eq_true_eq, BitVec.toInt_eq_toNat_cond, BitVec.toNat_ofNat] at e
    have hm : n % 2 ^ 32 = n := Nat.mod_eq_of_lt (by omega)
    rw [hm] at e
    split_ifs at e <;> omega
  have : Subsingleton Cert.Pre_drawn_range.S_.Idx := ⟨fun a b => funext fun i => i.elim0⟩
  obtain ⟨e, e2⟩ := both _ _ (congrFun h fun i => i.elim0)
  obtain ⟨e0, e1⟩ := both _ _ e
  refine ⟨fun i => ?_, fun i => ?_, fun i => ?_⟩
  · obtain ⟨p, q⟩ := both _ _ (Host.reduce_andi_all _ _ _ _ _ e0 i)
    obtain ⟨l, s⟩ := lo 1 (by decide) _ p
    exact ⟨l, hi' 20 (by decide) _ s q⟩
  · obtain ⟨p, q⟩ := both _ _ (Host.reduce_andi_all _ _ _ _ _ e1 i)
    obtain ⟨-, s⟩ := lo 0 (by decide) _ p
    exact hi 100000 (by decide) _ s q
  · obtain ⟨p, q⟩ := both _ _ (Host.reduce_andi_all _ _ _ _ _ e2 i)
    obtain ⟨-, s⟩ := lo 0 (by decide) _ p
    exact hi 1000 (by decide) _ s q

/-- A launch memory whose items are in range gives the gather a list in range. -/
theorem preOK (h : ∀ d i, (m (d, Proc.devRef .tc main_arg2) i : BitVec 32).toNat < 1000) : PreOK (lsOf m) := by
  intro d j
  obtain ⟨i, e⟩ := ls_word m d j
  rw [e]; exact h d i

/-! ## The frame -/

/-- The run: every unscoped buffer at `W7`, every semaphore zero. -/
theorem run_args [∀ e, Nonempty (Elt F e)] (hu : ∀ d i, (m (d, Proc.devRef .tc main_arg1) i : BitVec 32).toNat < 100000)
    (h : ∀ d i, (m (d, Proc.devRef .tc main_arg2) i : BitVec 32).toNat < 1000) :
    θ_run (defs (F := F)) threads ⟨m, fun _ => 0, ρ⟩ fun r =>
      (∀ d : Dev nD, ∀ b : Ref sig .tc, b.isScoped = false → r.2.mem (d, Proc.devRef .tc b) = W7 m d (Proc.devRef .tc b)) ∧ r.2.sem = fun _ => 0 :=
  (θ_run defs _ _).mono (fun _ hr => ⟨fun d _ hb => hr.1 d _ (uc_mem hb), hr.2⟩) (run_main m ρ (preOK m h) (sorted m (hu 0)))

theorem frameI : Cert.quiescent_KernelIdeal := fun m ρ hpre => by
  have hr := fun d => range_of_pre _ _ _ _ _ _ _ _ _ _ (hpre d)
  exact (θ_run defs _ _).mono (fun r hr => ⟨fun c =>
      ⟨(hr.1 c main_arg0 rfl).trans (W7_arg m c (by decide)), (hr.1 c main_arg1 rfl).trans (W7_arg m c (by decide)), (hr.1 c main_arg2 rfl).trans (W7_arg m c (by decide)), (hr.1 c main_arg3 rfl).trans (W7_arg m c (by decide)), (hr.1 c main_arg4 rfl).trans (W7_arg m c (by decide)), (hr.1 c main_arg5 rfl).trans (W7_arg m c (by decide)), (hr.1 c main_arg6 rfl).trans (W7_arg m c (by decide)), (hr.1 c main_arg7 rfl).trans (W7_arg m c (by decide)), (hr.1 c main_arg8 rfl).trans (W7_arg m c (by decide)), (hr.1 c main_arg9 rfl).trans (W7_arg m c (by decide))⟩, hr.2⟩)
    (run_args (F := Ideal) m ρ (fun d => (hr d).2.1) fun d => (hr d).2.2)

end Cert.Proof

end
-- ==== Proof.FrameP.lean ====
/-
  The frame of the program as it is printed: it is the idealized program's text, so the run at the bit-exact values applies. The two
  programs are equal as texts but not as constants; their tables are shown equal first, and the texts over them afterwards.
-/
module

public import proofs.«01_k».proof.Proof.Frame

@[expose] public section

set_option maxRecDepth 16384
set_option maxHeartbeats 4000000

noncomputable section

namespace Cert.Proof

open Idealize.ShloMosaic Idealize.ShloMosaic.TcCoe Idealize.SL.Sem

/-- What the frame says, over the idealized program's text at the bit-exact values. -/
theorem frameBits (m : (ℓ : Loc Cert.KernelIdeal.nD Cert.KernelIdeal.τ Cert.KernelIdeal.sig) → Buf (Elt Bits) ℓ) (ρ : Dev Cert.KernelIdeal.nD → PrngReg)
    (hu : ∀ d i, (m (d, Proc.devRef .tc Cert.KernelIdeal.main_arg1) i : BitVec 32).toNat < 100000)
    (h : ∀ d i, (m (d, Proc.devRef .tc Cert.KernelIdeal.main_arg2) i : BitVec 32).toNat < 1000) :
    θ_run (Cert.KernelIdeal.defs (F := Bits)) Cert.KernelIdeal.threads ⟨m, fun _ => 0, ρ⟩ fun r =>
      (∀ d : Dev Cert.KernelIdeal.nD, ∀ b : Ref Cert.KernelIdeal.sig .tc, b.isScoped = false → untouched b →
        r.2.mem (d, Proc.devRef .tc b) = m (d, Proc.devRef .tc b)) ∧ r.2.sem = fun _ => 0 :=
  (θ_run Cert.KernelIdeal.defs _ _).mono (fun _ hr => ⟨fun d b hb ht => (hr.1 d b hb).trans (W7_arg m d ht), hr.2⟩) (run_args (F := Bits) m ρ hu h)

/-- The bodies of the two programs' labels are one text. -/
theorem defs₀_eq : Cert.Kernel.defs₀ (F := Bits) = Cert.KernelIdeal.defs₀ (F := Bits) := by
  funext p ℓ a
  match p, ℓ, a with
  | .tc, 0, _ => rfl
  | .tc, 1, _ => rfl
  | .tc, 2, _ => rfl
  | .scVector _ _, 0, _ => rfl
  | .scVector _ _, 1, _ => rfl
  | .scVector _ _, 2, _ => rfl
  | .scScalar _, 0, _ => rfl
  | .scScalar _, 1, _ => rfl
  | .scScalar _, 2, _ => rfl

/-- The pipelines of the two programs are one text. -/
theorem pcfgs_eq : Cert.Kernel.pcfgs (F := Bits) = Cert.KernelIdeal.pcfgs (F := Bits) := rfl

/-- A program's labels, its pipelines, the bodies of its labels and its calls on the SparseCores. -/
structure Table (τ : Topo) (sig : RefSig) where
  labels : Labels
  pcfgs : Fin 2 → Pipeline.PCfg sig labels (Elt Bits)
  bodies : Defs Cert.KernelIdeal.nD τ sig (Elt Bits) labels
  tiles : SparseCore.Cfg τ sig (Pipeline.Sig labels (Fin 2) fun p => (pcfgs p).Adm) 1

/-- The two programs' tables are one. -/
theorem table_eq : (⟨Cert.Kernel.Λ₀, Cert.Kernel.pcfgs (F := Bits), Cert.Kernel.defs₀ (F := Bits), Cert.Kernel.sc (F := Bits)⟩ : Table Cert.Kernel.τ Cert.Kernel.sig) = ⟨Cert.KernelIdeal.Λ₀, Cert.KernelIdeal.pcfgs (F := Bits), Cert.KernelIdeal.defs₀ (F := Bits), Cert.KernelIdeal.sc (F := Bits)⟩ := by
  unfold Cert.Kernel.sc
  rw [defs₀_eq, pcfgs_eq]
  rfl

/-- A run of the idealized program's text is a run of the printed program's: with the labels and the tables over them put in the
    idealized program's place, the two texts agree line by line. -/
theorem transfer (s) (post : PUnit × MemSt Cert.Kernel.nD Cert.Kernel.τ Cert.Kernel.sig (Elt Bits) → Prop)
    (h : θ_run (Cert.KernelIdeal.defs (F := Bits)) Cert.KernelIdeal.threads s post) :
    θ_run (Cert.Kernel.defs (F := Bits)) Cert.Kernel.threads s post := by
  unfold Cert.KernelIdeal.defs Cert.KernelIdeal.threads Cert.KernelIdeal.main Cert.KernelIdeal.fn_pad.body Cert.KernelIdeal.fn_sort.body Cert.KernelIdeal.fn_floor_divide.body Cert.KernelIdeal.fn_remainder.body Cert.KernelIdeal.fn_where.body Cert.KernelIdeal.fn_where_0.body at h
  unfold Cert.Kernel.defs Cert.Kernel.threads Cert.Kernel.main Cert.Kernel.fn_pad.body Cert.Kernel.fn_sort.body Cert.Kernel.fn_floor_divide.body Cert.Kernel.fn_remainder.body Cert.Kernel.fn_where.body Cert.Kernel.fn_where_0.body
  have hq := table_eq
  revert hq
  generalize Cert.Kernel.sc (F := Bits) = c
  revert c
  generalize Cert.Kernel.defs₀ (F := Bits) = D
  revert D
  generalize Cert.Kernel.pcfgs (F := Bits) = pc
  revert pc
  generalize Cert.Kernel.Λ₀ = Λ
  intro pc D c hq
  cases hq
  exact h

theorem frameP : Cert.quiescent_Kernel := fun m ρ hpre => by
  have hr := fun d => range_of_pre _ _ _ _ _ _ _ _ _ _ (hpre d)
  refine transfer _ _ ((θ_run _ _ _).mono (fun r hr => ?_) (frameBits m ρ (fun d => (hr d).2.1) fun d => (hr d).2.2))
  exact ⟨fun c =>
      ⟨hr.1 c Cert.KernelIdeal.main_arg0 rfl (by decide), hr.1 c Cert.KernelIdeal.main_arg1 rfl (by decide),
        hr.1 c Cert.KernelIdeal.main_arg2 rfl (by decide), hr.1 c Cert.KernelIdeal.main_arg3 rfl (by decide),
        hr.1 c Cert.KernelIdeal.main_arg4 rfl (by decide), hr.1 c Cert.KernelIdeal.main_arg5 rfl (by decide),
        hr.1 c Cert.KernelIdeal.main_arg6 rfl (by decide), hr.1 c Cert.KernelIdeal.main_arg7 rfl (by decide),
        hr.1 c Cert.KernelIdeal.main_arg8 rfl (by decide), hr.1 c Cert.KernelIdeal.main_arg9 rfl (by decide)⟩, hr.2⟩

end Cert.Proof

end
-- ==== Proof.Math.lean ====
/-
  The mathematics, for one user: the mean of the items in use, the gated update of the user's row and of each item's row, and
  the scores. Everything is over the extended reals. Both programs are read against these functions.
-/
module

public import Idealize.ShloMosaic.Lib.Pointwise

@[expose] public section

noncomputable section

namespace Cert.Proof.Spec

open Idealize.ShloMosaic

/-- Whether item `s` of a list of length `l` is in use: one or zero. -/
def inUse (l : ℕ) (s : Fin 20) : EReal := if s.val < l then 1 else 0

/-- The mean of the items in use, lane `e`. -/
def mean (it : Fin 20 → Fin 64 → EReal) (l : ℕ) (e : Fin 64) : EReal :=
  Ideal.div (∑ s, it s e * inUse l s) ((l : ℝ) : EReal)

/-- The gates' input part: the message is the row `x` followed by the row `y`. -/
def gateIn (x y : Fin 64 → EReal) (Wi : (⟨2, ![128, 192]⟩ : Shape).Idx → EReal) (b : Fin 192 → EReal) (j : Fin 192) : EReal :=
  ∑ k : Fin 64, x k * Wi (ix2 ⟨k.val, by omega⟩ j) + ∑ k : Fin 64, y k * Wi (ix2 ⟨64 + k.val, by omega⟩ j) + b j

/-- The gates' hidden part. -/
def gateHid (h : Fin 64 → EReal) (Wh : (⟨2, ![64, 192]⟩ : Shape).Idx → EReal) (j : Fin 192) : EReal :=
  ∑ k : Fin 64, h k * Wh (ix2 k j)

/-- The gated update of one lane. -/
def cell (gi gh : Fin 192 → EReal) (h : EReal) (e : Fin 64) : EReal :=
  (1 - Ideal.logistic (gi ⟨64 + e.val, by omega⟩ + gh ⟨64 + e.val, by omega⟩))
      * Ideal.tanh (gi ⟨128 + e.val, by omega⟩
          + Ideal.logistic (gi ⟨e.val, by omega⟩ + gh ⟨e.val, by omega⟩) * gh ⟨128 + e.val, by omega⟩)
    + Ideal.logistic (gi ⟨64 + e.val, by omega⟩ + gh ⟨64 + e.val, by omega⟩) * h

/-- The user's new row. -/
def user (u : Fin 64 → EReal) (it : Fin 20 → Fin 64 → EReal) (l : ℕ) (Wi : (⟨2, ![128, 192]⟩ : Shape).Idx → EReal)
    (Wh : (⟨2, ![64, 192]⟩ : Shape).Idx → EReal) (b : Fin 192 → EReal) (e : Fin 64) : EReal :=
  cell (gateIn u (mean it l) Wi b) (gateHid u Wh) (u e) e

/-- The new row of item `s`: updated where the item is in use. -/
def item (u : Fin 64 → EReal) (it : Fin 20 → Fin 64 → EReal) (l : ℕ) (Wi : (⟨2, ![128, 192]⟩ : Shape).Idx → EReal)
    (Wh : (⟨2, ![64, 192]⟩ : Shape).Idx → EReal) (b : Fin 192 → EReal) (s : Fin 20) (e : Fin 64) : EReal :=
  cell (gateIn (it s) u Wi b) (gateHid (it s) Wh) (it s e) e * inUse l s + it s e * (1 - inUse l s)

/-- One half, and the small number that keeps the divisors from zero, as the words that both programs write. -/
abbrev half : EReal := Ideal.ofBits .f32 0x3F000000#32
abbrev tiny : EReal := Ideal.ofBits .f32 0x322BCC77#32

/-- The score of item `n`, from the user's new row `v`, the user's history row, the column sums of every user's history and the item table. -/
def pred (v : Fin 64 → EReal) (hist : Fin 1000 → EReal) (cnt : Fin 1000 → EReal) (Wo : (⟨2, ![64, 64]⟩ : Shape).Idx → EReal)
    (tab : Fin 1000 → Fin 64 → EReal) (n : Fin 1000) : EReal :=
  half * Ideal.logistic (∑ k : Fin 64, (∑ k' : Fin 64, v k' * Wo (ix2 k' k)) * tab n k)
    + half * (half * Ideal.div (hist n) (∑ x, hist x + tiny) + half * Ideal.div (cnt n) (∑ x, cnt x + tiny))

end Cert.Proof.Spec

end
-- ==== Proof.Block.lean ====
/-
  What one point of the pipeline computes, over the extended reals: the three output blocks, row by row, are the mathematics
  of Math.lean on the row's own data.
-/
module

public import proofs.«01_k».proof.Proof.Dense
public import proofs.«01_k».proof.Proof.Math

@[expose] public section

set_option maxRecDepth 16384
set_option maxHeartbeats 4000000

noncomputable section

namespace Cert.Proof

open Cert.KernelIdeal Cert.KernelIdeal.Gen Idealize.ShloMosaic

/-! ## Copies laid one under the other -/

/-- A stack of copies of one block, read at an index: the block at the row's remainder. -/
theorem stackAt {α : Type} {n w N : ℕ} (hn : 0 < n) (x : (⟨2, ![n, w]⟩ : Shape).Idx → α) (j : (⟨2, ![N, w]⟩ : Shape).Idx) :
    ∀ (k : ℕ) (hs) (c : ℕ) (hc),
      concatenateAt (⟨2, ![N, w]⟩ : Shape) 0 j (List.replicate k (⟨⟨2, ![n, w]⟩, x⟩ : (s : Shape) × (s.Idx → α))) hs c hc
        = x (ix2 ⟨c % n, Nat.mod_lt _ hn⟩ (j 1))
  | 0, _, _, hc => absurd hc (Nat.not_lt_zero _)
  | 1, hs, c, hc => by
    have hc' : c < n := by simpa [List.replicate] using hc
    show concatenateAt _ 0 j [_] _ _ _ = _
    rw [concatenateAt_singleton]
    refine congrArg x (funext fun b => Fin.ext ?_)
    match b with
    | ⟨0, _⟩ => exact (Nat.mod_eq_of_lt hc').symm
    | ⟨1, _⟩ => rfl
  | k + 2, hs, c, hc => by
    show concatenateAt _ 0 j (_ :: _ :: List.replicate k _) _ _ _ = _
    rw [concatenateAt_cons]
    split
    · rename_i h
      have hc' : c < n := h
      refine congrArg x (funext fun b => Fin.ext ?_)
      match b with
      | ⟨0, _⟩ => exact (Nat.mod_eq_of_lt hc').symm
      | ⟨1, _⟩ => rfl
    · rename_i h
      have hc' : ¬ c < n := h
      refine (stackAt hn x j (k + 1) _ (c - n) _).trans (congrArg x (funext fun b => Fin.ext ?_))
      match b with
      | ⟨0, _⟩ => exact (Nat.mod_eq_sub_mod (Nat.le_of_not_lt hc')).symm
      | ⟨1, _⟩ => rfl

/-- Twenty copies of a block of 256 rows. -/
theorem stack20 {α : Type} {w : ℕ} (x : (⟨2, ![256, w]⟩ : Shape).Idx → α) (xs : List ((s : Shape) × (s.Idx → α)))
    (e : xs = List.replicate 20 ⟨⟨2, ![256, w]⟩, x⟩) (h) (r : Fin 5120) (j : Fin w) :
    concatenate (⟨2, ![5120, w]⟩ : Shape) 0 xs h (ix2 r j) = x (ix2 ⟨r.val % 256, Nat.mod_lt _ (by decide)⟩ j) := by
  subst e
  exact (concatenate_apply _ _ _ h _).trans (stackAt (by decide) x _ 20 _ _ _)

/-! ## The masks -/

/-- The words of the numbers 0 to 19. -/
def numWord : Fin 20 → BitVec 32 := ![0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32]

theorem num : ∀ s : Fin 20, Ideal.ofBits .f32 (numWord s) = ((s.val : ℝ) : EReal) := by
  intro s
  fin_cases s <;> simp [numWord, Ideal.ofBits, Ideal.ieee, -EReal.coe_mul] <;> norm_num

/-- The mask's word as a number. -/
theorem mask_word (p : Bool) : (FloatOps.sitofp .f32 (BitVec.setWidth 32 (BitVec.ofBool p)) : Ideal .f32) = if p then 1 else 0 := by
  show (((BitVec.setWidth 32 (BitVec.ofBool p)).toInt : ℝ) : EReal) = _
  cases p <;> simp

theorem mask_num (l : ℕ) (s : Fin 20) :
    (FloatOps.sitofp .f32 (BitVec.setWidth 32 (BitVec.ofBool (decide (Ideal.ofBits .f32 (numWord s) < ((l : ℝ) : EReal))))) : Ideal .f32)
      = Spec.inUse l s := by
  rw [mask_word, num, Spec.inUse]
  simp

/-- A row number's remainder by 256. -/
def srem : IVec S5120x1 32 := remsi (iota .tc S5120x1 32 [0] iota_S5120x1_d0_w32) (broadcast S5120x1 256#32)

/-- The row number of the list of 5120, divided by 256 and rounded down as the body writes it. -/
theorem srow_word (r : Fin 5120) :
    Scalar.select (IntOp.andi (k2_pay25 (ix2 r 0)) (IntOp.cmpi .ne (srem (ix2 r 0)) 0#32)) (IntOp.subi (k2_pay24 (ix2 r 0)) 1#32) (k2_pay24 (ix2 r 0))
      = BitVec.ofNat 32 (r.val / 256) := by
  unfold srem
  unfold_payloads
  pointwise
  revert r
  decide +kernel

theorem len_max (l : ℕ) (h : 1 ≤ l) : max ((l : ℝ) : EReal) 1 = ((l : ℝ) : EReal) :=
  max_eq_left (by exact_mod_cast h)

/-! ## The user's row -/

theorem gateIn_block (x0 : Vec Ideal S256x64 .f32) (x1 : Vec Ideal S20x256x128 .f32) (x3 : Vec Ideal S256x1 .f32) (x6 : Vec Ideal S128x192 .f32)
    (x8 : Vec Ideal S1x192 .f32) (p : Fin 256) (l : ℕ) (hl : 1 ≤ l) (h3 : x3 (ix2 p 0) = ((l : ℝ) : EReal)) (j : Fin 192) :
    k2_pay12 (vMem x0) (vLen x3) (vItm x1) (View.ld x6 r3) (k2_pay5 (View.ld x8 r5)) (vAgg x1 x3) (k2_pay11 (vLen x3)) (ix2 p j)
      = Spec.gateIn (fun k => x0 (ix2 p k)) (Spec.mean (fun s k => x1 (ix3 s p ⟨k.val, by omega⟩)) l) x6 (fun j => x8 (ix2 0 j)) j := by
  unfold vMem vAgg vLen vItm
  unfold_payloads
  have dv (a : ℕ) (h : a % 256 = 0) : (a + p.val) / 256 = a / 256 := by omega
  have dv0 : p.val / 256 = 0 := by omega
  have md : p.val % 256 = p.val := by omega
  pointwise [h3, len_max l hl, dv0, md]
  simp (disch := decide) only [dv, Nat.reduceDiv]
  unfold Spec.gateIn Spec.mean
  congr 1
  congr 1
  refine Finset.sum_congr rfl fun e _ => ?_
  congr 1
  congr 1
  simp only [← mask_num]
  simp only [Fin.sum_univ_castSucc, Fin.sum_univ_zero, zero_add]
  rw [show (0 : EReal) = Ideal.ofBits .f32 (numWord 0) by rw [num]; simp, show (1 : EReal) = Ideal.ofBits .f32 (numWord 1) by rw [num]; simp]
  rfl

/-- The user's row that a block writes. -/
theorem vUser_apply (x0 : Vec Ideal S256x64 .f32) (x1 : Vec Ideal S20x256x128 .f32) (x3 : Vec Ideal S256x1 .f32) (x6 : Vec Ideal S128x192 .f32)
    (x7 : Vec Ideal S64x192 .f32) (x8 : Vec Ideal S1x192 .f32) (p : Fin 256) (l : ℕ) (hl : 1 ≤ l) (h3 : x3 (ix2 p 0) = ((l : ℝ) : EReal)) (e : Fin 64) :
    vUser x0 x1 x3 x6 x7 x8 (ix2 p e)
      = Spec.user (fun k => x0 (ix2 p k)) (fun s k => x1 (ix3 s p ⟨k.val, by omega⟩)) l x6 x7 (fun j => x8 (ix2 0 j)) e := by
  unfold vUser vGate vCand vKeep Spec.user Spec.cell
  simp only [← gateIn_block x0 x1 x3 x6 x8 p l hl h3]
  unfold k2_pay17 k2_pay16 k2_pay15 k2_pay14 k2_pay13 vMem k2_pay2 Spec.gateHid
  pointwise

/-- The score that a block writes, from the user's row that it writes. -/
theorem vPred_apply (x0 : Vec Ideal S256x64 .f32) (x1 : Vec Ideal S20x256x128 .f32) (x2 : Vec Ideal S256x1000 .f32) (x3 : Vec Ideal S256x1 .f32)
    (x4 : Vec Ideal S8x1000 .f32) (x5 : Vec Ideal S64x1000 .f32) (x6 : Vec Ideal S128x192 .f32) (x7 : Vec Ideal S64x192 .f32)
    (x8 : Vec Ideal S1x192 .f32) (x9 : Vec Ideal S64x64 .f32) (p : Fin 256) (n : Fin 1000) :
    vPred x0 x1 x2 x3 x4 x5 x6 x7 x8 x9 (ix2 p n)
      = Spec.pred (fun k => vUser x0 x1 x3 x6 x7 x8 (ix2 p k)) (fun n => x2 (ix2 p n)) (fun n => ∑ y : Fin 8, x4 (ix2 y n)) x9 (fun n k => x5 (ix2 k n)) n := by
  unfold vPred k2_pay21 k2_pay20 k2_pay19 k2_pay18 Spec.pred vUser
  pointwise
  simp only [Finset.univ_unique, Finset.sum_singleton]

/-- The items' gates before the mask. -/
theorem pay22_apply (v0 : Vec Ideal S256x64 .f32) (v8 : FVec Ideal S5120x64 .f32) (v9 : Vec Ideal S128x192 .f32) (v10 : Vec Ideal S64x192 .f32)
    (v12 : FVec Ideal S1x192 .f32) (r : Fin 5120) (e : Fin 64) :
    k2_pay22 v0 v8 v9 v10 v12 (ix2 r e)
      = Spec.cell (Spec.gateIn (fun k => v8 (ix2 r k)) (fun k => v0 (ix2 ⟨r.val % 256, Nat.mod_lt _ (by decide)⟩ k)) v9 (fun j => v12 (ix2 0 j)))
          (Spec.gateHid (fun k => v8 (ix2 r k)) v10) (v8 (ix2 r e)) e := by
  unfold k2_pay22 Spec.cell Spec.gateIn Spec.gateHid
  generalize hM : addf (matmul (F := Ideal) dot_S256x64_S64x192_S256x192_1_0_0_1_n_n _ _ _ _) _ = M
  generalize hC : concatenate S5120x192 0 _ _ = C
  have hR (r : Fin 5120) (j : Fin 192) : C (ix2 r j) = M (ix2 ⟨r.val % 256, Nat.mod_lt _ (by decide)⟩ j) := by
    rw [← hC]
    exact stack20 M _ rfl _ r j
  pointwise [hR]
  simp only [← hM]
  pointwise
  simp only [add_assoc]

theorem vLen_apply (x3 : Vec Ideal S256x1 .f32) (p : Fin 256) (l : ℕ) (hl : 1 ≤ l) (h3 : x3 (ix2 p 0) = ((l : ℝ) : EReal)) :
    vLen x3 (ix2 p 0) = ((l : ℝ) : EReal) := by
  unfold vLen
  unfold_payloads
  pointwise [h3, len_max l hl]

theorem vItm_apply (x1 : Vec Ideal S20x256x128 .f32) (s : Fin 20) (p : Fin 256) (h : s.val * 256 + p.val < 5120) (e : Fin 64) :
    vItm x1 (ix2 ⟨s.val * 256 + p.val, h⟩ e) = x1 (ix3 s p ⟨e.val, by omega⟩) := by
  have h1 : (s.val * 256 + p.val) / 256 = s.val := by omega
  have h2 : (s.val * 256 + p.val) % 256 = p.val := by omega
  unfold vItm
  unfold_payloads
  pointwise [h1, h2]

theorem row_num (s : Fin 20) : (FloatOps.sitofp .f32 (BitVec.ofNat 32 s.val) : Ideal .f32) = Ideal.ofBits .f32 (numWord s) := by
  rw [num]
  show (((BitVec.ofNat 32 s.val).toInt : ℝ) : EReal) = _
  rw [show (BitVec.ofNat 32 s.val).toInt = (s.val : ℤ) from (by decide +kernel : ∀ s : Fin 20, (BitVec.ofNat 32 s.val).toInt = (s.val : ℤ)) s]
  rfl

/-- The items' row that a block writes. -/
theorem vItem_apply (x0 : Vec Ideal S256x64 .f32) (x1 : Vec Ideal S20x256x128 .f32) (x3 : Vec Ideal S256x1 .f32) (x6 : Vec Ideal S128x192 .f32)
    (x7 : Vec Ideal S64x192 .f32) (x8 : Vec Ideal S1x192 .f32) (s : Fin 20) (p : Fin 256) (l : ℕ) (hl : 1 ≤ l) (h3 : x3 (ix2 p 0) = ((l : ℝ) : EReal)) (e : Fin 64) :
    vItem x0 x1 x3 x6 x7 x8 (ix3 s p e)
      = Spec.item (fun k => x0 (ix2 p k)) (fun s k => x1 (ix3 s p ⟨k.val, by omega⟩)) l x6 x7 (fun j => x8 (ix2 0 j)) s e := by
  unfold vItem
  unfold k2_pay1 k2_pay23
  generalize hG : k2_pay22 (F := Ideal) _ _ _ _ _ = G
  generalize hC : concatenate S5120x1 0 _ _ = C
  generalize hS : remsi (s := S5120x1) (w := 32) _ _ = Sr
  have hSr : Sr = srem := hS.symm
  subst hSr
  have hR (r : Fin 5120) : C (ix2 r 0) = vLen x3 (ix2 ⟨r.val % 256, Nat.mod_lt _ (by decide)⟩ 0) := by
    rw [← hC]
    exact stack20 (vLen x3) _ rfl _ r 0
  have h1 : (s.val * 256 + p.val) / 256 = s.val := by omega
  have h2 : (s.val * 256 + p.val) % 256 = p.val := by omega
  pointwise [hR]
  simp only [srow_word, h1, h2, Fin.eta, row_num, vLen_apply x3 p l hl h3, mask_num, ← hG, pay22_apply, vItm_apply]
  unfold k2_pay5 vMem k2_pay2 Spec.item Spec.cell Spec.gateIn Spec.gateHid
  pointwise

end Cert.Proof

end
-- ==== Proof.Count.lean ====
/-
  The column sums that the first region leaves, over the extended reals: added over their eight rows, they are the sums of
  every column of the whole history table.
-/
module

public import proofs.«01_k».proof.Proof.Chunk
public import Idealize.ShloMosaic.Lib.Pointwise

@[expose] public section

set_option maxRecDepth 16384

noncomputable section

namespace Cert.Proof

open Cert.KernelIdeal Cert.KernelIdeal.Gen

open Idealize.ShloMosaic Idealize.ShloMosaic.TcCoe

/-- The history of user `k` at item `n`, zero past the last user. -/
def hAt (A : S1000x100000.Idx → Ideal .f32) (n : Fin 1000) (k : ℕ) : EReal := if h : k < 100000 then A (pt2 n ⟨k, h⟩) else 0

/-- The sum of every eighth row of a block. -/
theorem eighths (B : FVec Ideal S2048x1000 .f32) (y : Fin 8) (n : Fin 1000) :
    multiReduction .add [0] S8x1000 (shapeCast S256x8x1000 B shapeCasts_S2048x1000_S256x8x1000) 0x00000000#32 reduces_S256x8x1000_S8x1000 (.inl rfl) rfl (ix2 y n)
      = ∑ i : Fin 256, B (ix2 ⟨8 * i.val + y.val, by omega⟩ n) := by
  pointwise
  refine Finset.sum_congr rfl fun i _ => ?_
  exact congrArg (fun r => B (ix2 r n)) (Fin.ext (by show i.val * 8 + y.val = 8 * i.val + y.val; omega))

/-- A block's rows in the table: each below the table's end, or left out. -/
theorem step_apply (A : S1000x100000.Idx → Ideal .f32) (t : ℕ) (ht : t < 49) (z : Vec Ideal S8x1000 .f32) (y : Fin 8) (n : Fin 1000) :
    s6 (gi t ht) (xbH A t pad0) z (ix2 y n) = z (ix2 y n) + ∑ i ∈ Finset.range 256, hAt A n (2048 * t + (8 * i + y.val)) := by
  have e : (gi t ht 0).val = t := rfl
  rw [Finset.sum_range]
  unfold s6
  by_cases h : t < 48
  · rw [if_pos (show (gi t ht 0).val < 48 from h)]
    unfold k1_pay5
    rw [shapeCast_self]
    refine (congrArg (z (ix2 y n) + ·) (eighths _ y n)).trans ?_
    refine congrArg (z (ix2 y n) + ·) (Finset.sum_congr rfl fun i _ => ?_)
    have hi : 2048 * t + (8 * i.val + y.val) < 100000 := by omega
    rw [pay2_apply]
    unfold xbH hAt
    rw [dif_pos hi]
    exact (dif_pos (show 2048 * t + (8 * i.val + y.val) < 100000 from hi)).trans (congrArg A (funext fun | 0 => rfl | 1 => rfl))
  · obtain rfl : t = 48 := by omega
    rw [if_neg (show ¬ (gi 48 ht 0).val < 48 from h), pay6_eq, shapeCast_self]
    refine (congrArg (z (ix2 y n) + ·) (eighths _ y n)).trans ?_
    refine congrArg (z (ix2 y n) + ·) (Finset.sum_congr rfl fun i _ => ?_)
    unfold select
    rw [inRow_apply (gi 48 ht) e, pay2_apply]
    unfold xbH hAt
    by_cases hi : 2048 * 48 + (8 * i.val + y.val) < 100000
    · rw [dif_pos hi, decide_eq_true (show ((ix2 (⟨8 * i.val + y.val, by omega⟩ : Fin 2048) n : S2048x1000.Idx) 0).val < 1696 by show 8 * i.val + y.val < 1696; omega)]
      exact (dif_pos (show 2048 * 48 + (8 * i.val + y.val) < 100000 from hi)).trans (congrArg A (funext fun | 0 => rfl | 1 => rfl))
    · rw [dif_neg hi, decide_eq_false (show ¬ ((ix2 (⟨8 * i.val + y.val, by omega⟩ : Fin 2048) n : S2048x1000.Idx) 0).val < 1696 by show ¬ 8 * i.val + y.val < 1696; omega)]
      exact Ideal.ofBits_zero_f32

theorem cntStep_apply (A : S1000x100000.Idx → Ideal .f32) (t : ℕ) (ht : t < 49) (z : Vec Ideal S8x1000 .f32) (y : Fin 8) (n : Fin 1000) :
    cntStep A t z (ix2 y n) = (if t = 0 then 0 else z (ix2 y n)) + ∑ i ∈ Finset.range 256, hAt A n (2048 * t + (8 * i + y.val)) := by
  unfold cntStep
  rw [dif_pos ht, step_apply]
  refine congrArg (· + _) ?_
  unfold z6
  by_cases h : t = 0
  · rw [if_pos h, if_pos (show (gi t ht 0).val = 0 from h)]
    exact Ideal.ofBits_zero_f32
  · rw [if_neg h, if_neg (show ¬ (gi t ht 0).val = 0 from h)]

theorem cnt_apply (A : S1000x100000.Idx → Ideal .f32) (y : Fin 8) (n : Fin 1000) (t : ℕ) (ht : t < 49) :
    cnt A t (ix2 y n) = ∑ t' ∈ Finset.range (t + 1), ∑ i ∈ Finset.range 256, hAt A n (2048 * t' + (8 * i + y.val)) := by
  induction t with
  | zero =>
    rw [cnt, cntStep_apply A 0 ht, if_pos rfl, zero_add, Finset.sum_range_one]
  | succ t ih =>
    rw [cnt, cntStep_apply A (t + 1) ht, if_neg (Nat.succ_ne_zero t), ih (by omega), Finset.sum_range_succ _ (t + 1)]

/-- A sum over consecutive stretches of one length. -/
theorem sum_blocks (g : ℕ → EReal) (k m : ℕ) : ∑ a ∈ Finset.range m, ∑ b ∈ Finset.range k, g (k * a + b) = ∑ c ∈ Finset.range (k * m), g c := by
  induction m with
  | zero => simp
  | succ m ih => rw [Finset.sum_range_succ, ih, Nat.mul_succ, Finset.sum_range_add]

/-- The column sums. -/
theorem cnt_sum (A : S1000x100000.Idx → Ideal .f32) (n : Fin 1000) : ∑ y : Fin 8, cnt A 48 (ix2 y n) = ∑ k : Fin 100000, A (pt2 n k) := by
  have e : ∑ y : Fin 8, cnt A 48 (ix2 y n) = ∑ k ∈ Finset.range (100000 + 352), hAt A n k := by
    simp only [cnt_apply A _ n 48 (by decide)]
    rw [Finset.sum_comm]
    refine Eq.trans ?_ (sum_blocks (hAt A n) 2048 49)
    refine Finset.sum_congr rfl fun t _ => ?_
    rw [Finset.sum_comm]
    refine Eq.trans ?_ (sum_blocks (fun c => hAt A n (2048 * t + c)) 8 256)
    refine Finset.sum_congr rfl fun i _ => ?_
    rw [Finset.sum_range]
  rw [e, Finset.sum_range_add, Finset.sum_eq_zero (s := Finset.range 352), add_zero, Finset.sum_range]
  · exact Finset.sum_congr rfl fun k _ => dif_pos k.isLt
  · intro x _
    exact dif_neg (by omega)

end Cert.Proof

end
-- ==== Proof.RefVal.lean ====
/-
  The reference's three results, read at an index: the functions of `Spec` at one user's row.
-/
module

public import proofs.«01_k».proof.Proof.Math
public import proofs.«01_k».proof.Proof.Gen.ReferenceIdeal.Run
public import Idealize.ShloMosaic.Lib.Pointwise
public import Idealize.ShloMosaic.Lib.ReduceAll

@[expose] public section

noncomputable section

namespace Cert.Proof.Ref

open Cert.ReferenceIdeal Cert.ReferenceIdeal.Gen Cert.ReferenceIdeal.Value Idealize.ShloMosaic

/-! ## The gathered rows -/

/-- The reference's gather of items at row `r`, lane `e`: the table's row at the index's word, read signed and clamped. -/
theorem gather_row {α : Type} (x : S1000x64.Idx → α) (idx : IVec S81920x1 32) (r : Fin 81920) (e : Fin 64) :
    Host.gather gather_S1000x64_S81920x1_S81920x64_1_0_n_n_0_1_164 x idx (ix2 r e)
      = x (ix2 ⟨min (idx (ix2 r 0)).toInt.toNat 999, by omega⟩ e) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S1000x64_S81920x1_S81920x64_1_0_n_n_0_1_164.startIndexMap from List.mem_singleton.mpr rfl)]
    refine congrArg (fun i => min (idx i).toInt.toNat 999) (funext fun b => Fin.ext ?_)
    match b with
    | ⟨0, _⟩ => rfl
    | ⟨1, _⟩ => rfl
  · unfold GatherDims.start GatherDims.offCoord
    rw [dif_neg (show (1 : Fin 2) ∉ gather_S1000x64_S81920x1_S81920x64_1_0_n_n_0_1_164.startIndexMap by decide),
      dif_pos (show (1 : Fin 2) ∈ gather_S1000x64_S81920x1_S81920x64_1_0_n_n_0_1_164.sKept by decide), Nat.add_zero, Nat.zero_add]
    rfl

/-- The gather of the users' rows likewise. -/
theorem gather_mem {α : Type} (x : S100000x64.Idx → α) (idx : IVec S4096x1 32) (r : Fin 4096) (e : Fin 64) :
    Host.gather gather_S100000x64_S4096x1_S4096x64_1_0_n_n_0_1_164 x idx (ix2 r e)
      = x (ix2 ⟨min (idx (ix2 r 0)).toInt.toNat 99999, by omega⟩ e) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x64_S4096x1_S4096x64_1_0_n_n_0_1_164.startIndexMap from List.mem_singleton.mpr rfl)]
    refine congrArg (fun i => min (idx i).toInt.toNat 99999) (funext fun b => Fin.ext ?_)
    match b with
    | ⟨0, _⟩ => rfl
    | ⟨1, _⟩ => rfl
  · unfold GatherDims.start GatherDims.offCoord
    rw [dif_neg (show (1 : Fin 2) ∉ gather_S100000x64_S4096x1_S4096x64_1_0_n_n_0_1_164.startIndexMap by decide),
      dif_pos (show (1 : Fin 2) ∈ gather_S100000x64_S4096x1_S4096x64_1_0_n_n_0_1_164.sKept by decide), Nat.add_zero, Nat.zero_add]
    rfl

/-- The gather of the users' history rows likewise. -/
theorem gather_hist {α : Type} (x : S100000x1000.Idx → α) (idx : IVec S4096x1 32) (r : Fin 4096) (e : Fin 1000) :
    Host.gather gather_S100000x1000_S4096x1_S4096x1000_1_0_n_n_0_1_11000 x idx (ix2 r e)
      = x (ix2 ⟨min (idx (ix2 r 0)).toInt.toNat 99999, by omega⟩ e) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x1000_S4096x1_S4096x1000_1_0_n_n_0_1_11000.startIndexMap from List.mem_singleton.mpr rfl)]
    refine congrArg (fun i => min (idx i).toInt.toNat 99999) (funext fun b => Fin.ext ?_)
    match b with
    | ⟨0, _⟩ => rfl
    | ⟨1, _⟩ => rfl
  · unfold GatherDims.start GatherDims.offCoord
    rw [dif_neg (show (1 : Fin 2) ∉ gather_S100000x1000_S4096x1_S4096x1000_1_0_n_n_0_1_11000.startIndexMap by decide),
      dif_pos (show (1 : Fin 2) ∈ gather_S100000x1000_S4096x1_S4096x1000_1_0_n_n_0_1_11000.sKept by decide), Nat.add_zero, Nat.zero_add]
    rfl

/-- What the comparisons of the reference's gathers say of a word between zero and the last row's. -/
theorem word_range (v w : BitVec 32) (h : v.toNat ≤ w.toNat) (hw : w.toNat < 2 ^ 31) :
    IntOp.cmpi .slt v 0#32 = 0#1 ∧ IntOp.cmpi .sge v 0#32 = 1#1 ∧ IntOp.cmpi .sle v w = 1#1 ∧ v.toInt.toNat = v.toNat := by
  have e : v.toInt = (v.toNat : ℤ) := by
    rw [BitVec.toInt_eq_toNat_cond, if_pos (by omega)]
  have e' : w.toInt = (w.toNat : ℤ) := by
    rw [BitVec.toInt_eq_toNat_cond, if_pos (by omega)]
  simp only [IntOp.cmpi, BitVec.slt_eq_decide, BitVec.sle_eq_decide, e, e']
  refine ⟨?_, ?_, ?_, by omega⟩
  · rw [decide_eq_false (by simp)]; rfl
  · rw [decide_eq_true (by simp)]; rfl
  · rw [decide_eq_true (by omega)]; rfl

theorem word_item (v : BitVec 32) (h : v.toNat < 1000) :
    IntOp.cmpi .slt v 0#32 = 0#1 ∧ IntOp.cmpi .sge v 0#32 = 1#1 ∧ IntOp.cmpi .sle v 999#32 = 1#1 ∧ v.toInt.toNat = v.toNat :=
  word_range v 999#32 (by show _ ≤ 999; omega) (by decide)
theorem word_user (v : BitVec 32) (h : v.toNat < 100000) :
    IntOp.cmpi .slt v 0#32 = 0#1 ∧ IntOp.cmpi .sge v 0#32 = 1#1 ∧ IntOp.cmpi .sle v 99999#32 = 1#1 ∧ v.toInt.toNat = v.toNat :=
  word_range v 99999#32 (by show _ ≤ 99999; omega) (by decide)

/-- The reference's list of rows: negative words wrapped. -/
def list (a2 : IVec S4096x20 32) : IVec S81920x1 32 :=
  broadcastInDim S81920x1 ![0] bcast_S81920_S81920x1_0 (select (cmpi .slt (shapeCast _ a2 shapeCasts_S4096x20_S81920) (broadcastInDim S81920 ![] bcast_S_S81920 (constantI S_ 32 0#32))) (addi (shapeCast _ a2 shapeCasts_S4096x20_S81920) (broadcastInDim S81920 ![] bcast_S_S81920 (constantI S_ 32 1000#32))) (shapeCast _ a2 shapeCasts_S4096x20_S81920))

/-- The reference's gathered rows. -/
def rows (a2 : IVec S4096x20 32) (a5 : FVec Ideal S1000x64 .f32) : FVec Ideal S81920x64 .f32 :=
  select (broadcastInDim S81920x64 ![0] bcast_S81920_S81920x64_0 (Host.reduce IntOp.andi (andi (cmpi .sge (list a2) (broadcastInDim S81920x1 ![] bcast_S_S81920x1 (constantI S_ 32 0#32))) (cmpi .sle (list a2) (broadcastInDim S81920x1 ![0, 1] bcast_S1x1_S81920x1_0_1 (broadcastInDim S1x1 ![1] bcast_S1_S1x1_1 (constantI S1 32 999#32))))) (constantI S_ 1 1#1) reducesTo_S81920x1_S81920_d1 h_S_)) (Host.gather gather_S1000x64_S81920x1_S81920x64_1_0_n_n_0_1_164 a5 (list a2)) (broadcastInDim S81920x64 ![] bcast_S_S81920x64 (constant S_ .f32 0x7FC00000#32))

theorem list_apply (a2 : IVec S4096x20 32) (h : ∀ i, (a2 i).toNat < 1000) (r : Fin 81920) :
    list a2 (ix2 r 0) = a2 (ix2 ⟨r.val / 20, by omega⟩ ⟨r.val % 20, by omega⟩) := by
  unfold list
  pointwise
  rw [(word_item _ (h _)).1]
  rfl

/-- The row of the table that entry `(b, s)` of the items' array names. -/
def itemRow (a2 : IVec S4096x20 32) (b : Fin 4096) (s : Fin 20) : Fin 1000 := ⟨(a2 (ix2 b s)).toNat % 1000, Nat.mod_lt _ (by decide)⟩

theorem rows_apply (a2 : IVec S4096x20 32) (a5 : FVec Ideal S1000x64 .f32) (h : ∀ i, (a2 i).toNat < 1000) (r : Fin 81920) (e : Fin 64) :
    rows a2 a5 (ix2 r e) = a5 (ix2 (itemRow a2 ⟨r.val / 20, by omega⟩ ⟨r.val % 20, by omega⟩) e) := by
  have hA (r : Fin 81920) : Host.reduce IntOp.andi (andi (cmpi .sge (list a2) (broadcastInDim S81920x1 ![] bcast_S_S81920x1 (constantI S_ 32 0#32))) (cmpi .sle (list a2) (broadcastInDim S81920x1 ![0, 1] bcast_S1x1_S81920x1_0_1 (broadcastInDim S1x1 ![1] bcast_S1_S1x1_1 (constantI S1 32 999#32))))) (constantI S_ 1 1#1) reducesTo_S81920x1_S81920_d1 h_S_ (ix1 r) = 1#1 := by
    refine Host.reduce_andi_one _ _ _ _ _ rfl fun i => ?_
    rw [show i = ix2 (i 0) 0 from funext fun b => by
      match b with
      | ⟨0, _⟩ => rfl
      | ⟨1, _⟩ => exact Subsingleton.elim (α := Fin 1) _ _]
    pointwise [list_apply a2 h]
    rw [(word_item _ (h _)).2.1, (word_item _ (h _)).2.2.1]
    rfl
  unfold rows
  pointwise [gather_row, hA, list_apply a2 h]
  have hw := h (ix2 ⟨r.val / 20, by omega⟩ ⟨r.val % 20, by omega⟩)
  refine congrArg (fun i => a5 (ix2 i e)) (Fin.ext ?_)
  show min (a2 _).toInt.toNat 999 = (a2 _).toNat % 1000
  rw [(word_item _ hw).2.2.2, Nat.mod_eq_of_lt hw]
  omega

theorem rows_at (a2 : IVec S4096x20 32) (a5 : FVec Ideal S1000x64 .f32) (h : ∀ i, (a2 i).toNat < 1000) (b : Fin 4096) (s : Fin 20)
    (hr : b.val * 20 + s.val < 81920) (e : Fin 64) :
    rows a2 a5 (ix2 ⟨b.val * 20 + s.val, hr⟩ e) = a5 (ix2 (itemRow a2 b s) e) := by
  rw [rows_apply a2 a5 h]
  have h1 : (⟨(b.val * 20 + s.val) / 20, by omega⟩ : Fin 4096) = b := Fin.ext (by show _ / 20 = _; omega)
  have h2 : (⟨(b.val * 20 + s.val) % 20, by omega⟩ : Fin 20) = s := Fin.ext (by show _ % 20 = _; omega)
  rw [h1, h2]

/-- The reference's list of users: negative words wrapped. -/
def users (a1 : IVec S4096 32) : IVec S4096x1 32 :=
  broadcastInDim S4096x1 ![0] bcast_S4096_S4096x1_0 (select (cmpi .slt a1 (broadcastInDim S4096 ![] bcast_S_S4096 (constantI S_ 32 0#32))) (addi a1 (broadcastInDim S4096 ![] bcast_S_S4096 (constantI S_ 32 100000#32))) a1)

/-- For each user of the list, whether its word is within the tables' rows. -/
def within (a1 : IVec S4096 32) : IVec S4096 1 :=
  Host.reduce IntOp.andi (andi (cmpi .sge (users a1) (broadcastInDim S4096x1 ![] bcast_S_S4096x1 (constantI S_ 32 0#32))) (cmpi .sle (users a1) (broadcastInDim S4096x1 ![0, 1] bcast_S1x1_S4096x1_0_1 (broadcastInDim S1x1 ![1] bcast_S1_S1x1_1 (constantI S1 32 99999#32))))) (constantI S_ 1 1#1) reducesTo_S4096x1_S4096_d1 h_S_

/-- The users' gathered rows, and their gathered history rows. -/
def mems (a1 : IVec S4096 32) (a4 : FVec Ideal S100000x64 .f32) : FVec Ideal S4096x64 .f32 :=
  select (broadcastInDim S4096x64 ![0] bcast_S4096_S4096x64_0 (within a1)) (Host.gather gather_S100000x64_S4096x1_S4096x64_1_0_n_n_0_1_164 a4 (users a1)) (broadcastInDim S4096x64 ![] bcast_S_S4096x64 (constant S_ .f32 0x7FC00000#32))
def hists (a1 : IVec S4096 32) (a3 : FVec Ideal S100000x1000 .f32) : FVec Ideal S4096x1000 .f32 :=
  select (broadcastInDim S4096x1000 ![0] bcast_S4096_S4096x1000_0 (within a1)) (Host.gather gather_S100000x1000_S4096x1_S4096x1000_1_0_n_n_0_1_11000 a3 (users a1)) (broadcastInDim S4096x1000 ![] bcast_S_S4096x1000 (constant S_ .f32 0x7FC00000#32))

theorem users_apply (a1 : IVec S4096 32) (h : ∀ i, (a1 i).toNat < 100000) (r : Fin 4096) : users a1 (ix2 r 0) = a1 (ix1 r) := by
  unfold users
  pointwise
  rw [(word_user _ (h _)).1]
  rfl

theorem within_apply (a1 : IVec S4096 32) (h : ∀ i, (a1 i).toNat < 100000) (r : Fin 4096) : within a1 (ix1 r) = 1#1 := by
  refine Host.reduce_andi_one _ _ _ _ _ rfl fun i => ?_
  rw [show i = ix2 (i 0) 0 from funext fun b => by
    match b with
    | ⟨0, _⟩ => rfl
    | ⟨1, _⟩ => exact Subsingleton.elim (α := Fin 1) _ _]
  pointwise [users_apply a1 h]
  rw [(word_user _ (h _)).2.1, (word_user _ (h _)).2.2.1]
  rfl

/-- The row of the tables that user `b` names. -/
def userRow (a1 : IVec S4096 32) (b : Fin 4096) : Fin 100000 := ⟨(a1 (ix1 b)).toNat % 100000, Nat.mod_lt _ (by decide)⟩

/-- The gathers' clamped word is that row. -/
theorem clamp (a1 : IVec S4096 32) (h : ∀ i, (a1 i).toNat < 100000) (b : Fin 4096) (hb : min (a1 (ix1 b)).toInt.toNat 99999 < 100000) :
    (⟨min (a1 (ix1 b)).toInt.toNat 99999, hb⟩ : Fin 100000) = userRow a1 b := by
  have hw := h (ix1 b)
  refine Fin.ext ?_
  show min (a1 _).toInt.toNat 99999 = (a1 _).toNat % 100000
  rw [(word_user _ hw).2.2.2, Nat.mod_eq_of_lt hw]
  omega

theorem mems_apply (a1 : IVec S4096 32) (a4 : FVec Ideal S100000x64 .f32) (h : ∀ i, (a1 i).toNat < 100000) (b : Fin 4096) (e : Fin 64) :
    mems a1 a4 (ix2 b e) = a4 (ix2 (userRow a1 b) e) := by
  unfold mems
  pointwise [gather_mem, within_apply a1 h, users_apply a1 h]
  exact congrArg (fun i => a4 (ix2 i e)) (clamp a1 h b _)

theorem hists_apply (a1 : IVec S4096 32) (a3 : FVec Ideal S100000x1000 .f32) (h : ∀ i, (a1 i).toNat < 100000) (b : Fin 4096) (n : Fin 1000) :
    hists a1 a3 (ix2 b n) = a3 (ix2 (userRow a1 b) n) := by
  unfold hists
  pointwise [gather_hist, within_apply a1 h, users_apply a1 h]
  exact congrArg (fun i => a3 (ix2 i n)) (clamp a1 h b _)

/-! ## The masks and the lengths -/

theorem mask_word (s : Fin 20) (v : BitVec 32) (h : v.toNat ≤ 20) :
    (FloatOps.uitofp .f32 (IntOp.cmpi .slt (BitVec.ofNat 32 s.val) v) : Ideal .f32) = Spec.inUse v.toNat s := by
  have e : v.toInt = (v.toNat : ℤ) := by
    rw [BitVec.toInt_eq_toNat_cond, if_pos (by omega)]
  have es : (BitVec.ofNat 32 s.val).toInt = (s.val : ℤ) :=
    (by decide +kernel : ∀ s : Fin 20, (BitVec.ofNat 32 s.val).toInt = (s.val : ℤ)) s
  simp only [IntOp.cmpi, BitVec.slt_eq_decide, e, es, Spec.inUse]
  show ((((BitVec.ofBool _).toNat : ℕ) : ℝ) : EReal) = _
  by_cases hs : s.val < v.toNat <;> simp [hs]

theorem len_word (v : BitVec 32) (h : 1 ≤ v.toNat) (h' : v.toNat ≤ 20) :
    (FloatOps.sitofp .f32 (IntOp.maxsi v 1#32) : Ideal .f32) = ((v.toNat : ℝ) : EReal) := by
  have e : v.toInt = (v.toNat : ℤ) := by
    rw [BitVec.toInt_eq_toNat_cond, if_pos (by omega)]
  have hm : IntOp.maxsi v 1#32 = v := by
    unfold IntOp.maxsi
    rw [BitVec.slt_eq_decide, e]
    by_cases h1 : v = 1#32
    · subst h1; rfl
    · have : v.toNat ≠ 1 := fun h2 => h1 (BitVec.eq_of_toNat_eq h2)
      simp
      try omega
  rw [hm]
  show ((v.toInt : ℝ) : EReal) = _
  rw [e]; rfl

/-! ## The results -/

variable (V : Valuation τ sig (Elt Ideal))
  (a0 : IVec S4096 32) (a1 : IVec S4096 32) (a2 : IVec S4096x20 32) (a3 : FVec Ideal S100000x1000 .f32) (a4 : FVec Ideal S100000x64 .f32)
  (a5 : FVec Ideal S1000x64 .f32) (a6 : FVec Ideal S128x192 .f32) (a7 : FVec Ideal S64x192 .f32) (a8 : FVec Ideal S192 .f32) (a9 : FVec Ideal S64x64 .f32)

theorem v22_eq (h2 : V (Proc.devRef .tc main_arg2) = a2) (h5 : V (Proc.devRef .tc main_arg5) = a5) :
    res_main_v22 V = shapeCast _ (rows a2 a5) shapeCasts_S81920x64_S4096x20x64 := by
  subst h2 h5; rfl

theorem v19_eq (h1 : V (Proc.devRef .tc main_arg1) = a1) (h4 : V (Proc.devRef .tc main_arg4) = a4) :
    res_main_v19 V = mems a1 a4 := by
  subst h1 h4; rfl

theorem v0_eq (h1 : V (Proc.devRef .tc main_arg1) = a1) (h3 : V (Proc.devRef .tc main_arg3) = a3) :
    res_main_v0 V = hists a1 a3 := by
  subst h1 h3; rfl

theorem user_apply (h0 : V (Proc.devRef .tc main_arg0) = a0) (h1 : V (Proc.devRef .tc main_arg1) = a1)
    (h2 : V (Proc.devRef .tc main_arg2) = a2) (h4 : V (Proc.devRef .tc main_arg4) = a4)
    (h5 : V (Proc.devRef .tc main_arg5) = a5) (h6 : V (Proc.devRef .tc main_arg6) = a6)
    (h7 : V (Proc.devRef .tc main_arg7) = a7) (h8 : V (Proc.devRef .tc main_arg8) = a8)
    (hl : ∀ i, 1 ≤ (a0 i).toNat ∧ (a0 i).toNat ≤ 20) (hu : ∀ i, (a1 i).toNat < 100000) (hi : ∀ i, (a2 i).toNat < 1000) (b : Fin 4096) (e : Fin 64) :
    val3 V (Proc.devRef .tc main_v76) (ix2 b e)
      = Spec.user (fun k => a4 (ix2 (userRow a1 b) k)) (fun s k => a5 (ix2 (itemRow a2 b s) k)) (a0 (ix1 b)).toNat a6 a7 (fun j => a8 (ix1 j)) e := by
  rw [val3_main_v76]
  unfold res_main_v68 res_main_v47 res_main_v48 res_main_v29
  rw [v22_eq V a2 a5 h2 h5, v19_eq V a1 a4 h1 h4, h0, h6, h7, h8]
  pointwise [rows_at a2 a5 hi, mems_apply a1 a4 hu, mask_word _ _ (hl (ix1 b)).2, len_word _ (hl (ix1 b)).1 (hl (ix1 b)).2]
  rfl

theorem item_apply (h0 : V (Proc.devRef .tc main_arg0) = a0) (h1 : V (Proc.devRef .tc main_arg1) = a1)
    (h2 : V (Proc.devRef .tc main_arg2) = a2) (h4 : V (Proc.devRef .tc main_arg4) = a4)
    (h5 : V (Proc.devRef .tc main_arg5) = a5) (h6 : V (Proc.devRef .tc main_arg6) = a6)
    (h7 : V (Proc.devRef .tc main_arg7) = a7) (h8 : V (Proc.devRef .tc main_arg8) = a8)
    (hl : ∀ i, 1 ≤ (a0 i).toNat ∧ (a0 i).toNat ≤ 20) (hu : ∀ i, (a1 i).toNat < 100000) (hi : ∀ i, (a2 i).toNat < 1000) (b : Fin 4096) (s : Fin 20) (e : Fin 64) :
    val3 V (Proc.devRef .tc main_v121) (ix3 b s e)
      = Spec.item (fun k => a4 (ix2 (userRow a1 b) k)) (fun s k => a5 (ix2 (itemRow a2 b s) k)) (a0 (ix1 b)).toNat a6 a7 (fun j => a8 (ix1 j)) s e := by
  rw [val3_main_v121]
  unfold res_main_v103 res_main_v82 res_main_v83 res_main_v78 res_main_v29
  rw [v22_eq V a2 a5 h2 h5, v19_eq V a1 a4 h1 h4, h0, h6, h7, h8]
  have d1 : (b.val * 20 + s.val) / 20 = b.val := by omega
  have d2 : (b.val * 20 + s.val) % 20 = s.val := by omega
  pointwise [d1, d2, rows_at a2 a5 hi, mems_apply a1 a4 hu, mask_word _ _ (hl (ix1 b)).2, len_word _ (hl (ix1 b)).1 (hl (ix1 b)).2]
  rfl

theorem pred_apply (h1 : V (Proc.devRef .tc main_arg1) = a1) (h3 : V (Proc.devRef .tc main_arg3) = a3)
    (h5 : V (Proc.devRef .tc main_arg5) = a5) (h9 : V (Proc.devRef .tc main_arg9) = a9)
    (hu : ∀ i, (a1 i).toNat < 100000) (b : Fin 4096) (n : Fin 1000) :
    val3 V (Proc.devRef .tc main_v135) (ix2 b n)
      = Spec.pred (fun k => val3 V (Proc.devRef .tc main_v76) (ix2 b k)) (fun n => a3 (ix2 (userRow a1 b) n))
          (fun n => ∑ k : Fin 100000, a3 (ix2 k n)) a9 (fun n k => a5 (ix2 n k)) n := by
  rw [val3_main_v135]
  generalize hU : (addf (mulf (F := Ideal) _ _) (mulf _ (res_main_v19 V)) : FVec Ideal S4096x64 .f32) = U
  have hU' : U = val3 V (Proc.devRef .tc main_v76) := hU.symm.trans (val3_main_v76 V).symm
  clear hU
  unfold res_main_v7
  rw [v0_eq V a1 a3 h1 h3, h3, h5, h9]
  subst hU'
  generalize (val3 V (Proc.devRef .tc main_v76)) = U
  pointwise [hists_apply a1 a3 hu]
  rfl

end Cert.Proof.Ref

end
-- ==== Proof.Value.lean ====
/-
  What the kernel's three results hold at an index, over the extended reals: the functions of `Spec` on one user's own data,
  read from the arguments.
-/
module

public import proofs.«01_k».proof.Proof.Block
public import proofs.«01_k».proof.Proof.Frame
public import proofs.«01_k».proof.Proof.Count
public import proofs.«01_k».proof.Proof.RefVal
public import Idealize.ShloMosaic.Lib.KernelVsHost

@[expose] public section

set_option maxRecDepth 16384

noncomputable section

namespace Cert.Proof

open Cert.KernelIdeal Cert.KernelIdeal.Gen

open Idealize.ShloMosaic Idealize.ShloMosaic.TcCoe
open Idealize.ShloMosaic.StableHlo (after)
open Idealize.SL.Sem
open Idealize.ShloMosaic.Pipeline (Dat Window)

/-! ## The blocks -/

section blocks

/-- Row `p` of point `t`'s block is this row of the whole array. -/
def row (t : Fin cfg2.N) (p : Fin 256) : Fin 4096 := ⟨256 * t.val + p.val, by
  have h : t.val < 16 := t.isLt
  have := p.isLt
  omega⟩

theorem index_0 : ∀ t : Fin grid2.N, win2_0.index t 0 = t.val ∧ win2_0.index t 1 = 0 := by decide +kernel
theorem index_1 : ∀ t : Fin grid2.N, win2_1.index t 0 = 0 ∧ win2_1.index t 1 = t.val ∧ win2_1.index t 2 = 0 := by decide +kernel
theorem index_2 : ∀ t : Fin grid2.N, win2_2.index t 0 = t.val ∧ win2_2.index t 1 = 0 := by decide +kernel
theorem index_3 : ∀ t : Fin grid2.N, win2_3.index t 0 = t.val ∧ win2_3.index t 1 = 0 := by decide +kernel
theorem index_4 : ∀ t : Fin grid2.N, win2_4.index t 0 = 0 ∧ win2_4.index t 1 = 0 := by decide +kernel
theorem index_5 : ∀ t : Fin grid2.N, win2_5.index t 0 = 0 ∧ win2_5.index t 1 = 0 := by decide +kernel
theorem index_6 : ∀ t : Fin grid2.N, win2_6.index t 0 = 0 ∧ win2_6.index t 1 = 0 := by decide +kernel
theorem index_7 : ∀ t : Fin grid2.N, win2_7.index t 0 = 0 ∧ win2_7.index t 1 = 0 := by decide +kernel
theorem index_8 : ∀ t : Fin grid2.N, win2_8.index t 0 = 0 ∧ win2_8.index t 1 = 0 := by decide +kernel
theorem index_9 : ∀ t : Fin grid2.N, win2_9.index t 0 = 0 ∧ win2_9.index t 1 = 0 := by decide +kernel
theorem index_10 : ∀ t : Fin grid2.N, win2_10.index t 0 = t.val ∧ win2_10.index t 1 = 0 := by decide +kernel
theorem index_11 : ∀ t : Fin grid2.N, win2_11.index t 0 = t.val ∧ win2_11.index t 1 = 0 := by decide +kernel
theorem index_12 : ∀ t : Fin grid2.N, win2_12.index t 0 = 0 ∧ win2_12.index t 1 = t.val ∧ win2_12.index t 2 = 0 := by decide +kernel

variable (V : Dev nD → Valuation τ sig (Elt Ideal)) (c : Dev nD) (t : Fin cfg2.N)

theorem blk_0 (p : Fin 256) (k : Fin 64) : blkOf V c 0 t (ix2 p k) = V c (Proc.devRef .tc main_v25_2) (ix2 (row t p) k) := by
  unfold blkOf
  rw [View.read_apply]
  show V c _ _ = V c _ _
  congr 1
  funext a
  apply Fin.ext
  match a with
  | ⟨0, _⟩ => show win2_0.index t 0 * 256 + 1 * p.val = 256 * t.val + p.val; rw [(index_0 t).1]; omega
  | ⟨1, _⟩ => show win2_0.index t 1 * 64 + 1 * k.val = k.val; rw [(index_0 t).2]; omega

theorem blk_1 (s : Fin 20) (p : Fin 256) (k : Fin 128) : blkOf V c 1 t (ix3 s p k) = V c (Proc.devRef .tc main_v26) (ix3 s (row t p) k) := by
  unfold blkOf
  rw [View.read_apply]
  show V c _ _ = V c _ _
  congr 1
  funext a
  apply Fin.ext
  match a with
  | ⟨0, _⟩ => show win2_1.index t 0 * 20 + 1 * s.val = s.val; rw [(index_1 t).1]; omega
  | ⟨1, _⟩ => show win2_1.index t 1 * 256 + 1 * p.val = 256 * t.val + p.val; rw [(index_1 t).2.1]; omega
  | ⟨2, _⟩ => show win2_1.index t 2 * 128 + 1 * k.val = k.val; rw [(index_1 t).2.2]; omega

theorem blk_2 (p : Fin 256) (k : Fin 1000) : blkOf V c 2 t (ix2 p k) = V c (Proc.devRef .tc main_v25_1) (ix2 (row t p) k) := by
  unfold blkOf
  rw [View.read_apply]
  show V c _ _ = V c _ _
  congr 1
  funext a
  apply Fin.ext
  match a with
  | ⟨0, _⟩ => show win2_2.index t 0 * 256 + 1 * p.val = 256 * t.val + p.val; rw [(index_2 t).1]; omega
  | ⟨1, _⟩ => show win2_2.index t 1 * 1000 + 1 * k.val = k.val; rw [(index_2 t).2]; omega

theorem blk_3 (p : Fin 256) (k : Fin 1) : blkOf V c 3 t (ix2 p k) = V c (Proc.devRef .tc main_v3) (ix2 (row t p) k) := by
  unfold blkOf
  rw [View.read_apply]
  show V c _ _ = V c _ _
  congr 1
  funext a
  apply Fin.ext
  match a with
  | ⟨0, _⟩ => show win2_3.index t 0 * 256 + 1 * p.val = 256 * t.val + p.val; rw [(index_3 t).1]; omega
  | ⟨1, _⟩ => show win2_3.index t 1 * 1 + 1 * k.val = k.val; rw [(index_3 t).2]; omega

theorem blk_4 : blkOf V c 4 t = V c (Proc.devRef .tc main_v25_0) := by
  funext y
  unfold blkOf
  rw [View.read_apply]
  show V c _ _ = V c _ _
  congr 1
  funext a
  apply Fin.ext
  match a with
  | ⟨0, _⟩ => show win2_4.index t 0 * 8 + 1 * (y 0).val = (y 0).val; rw [(index_4 t).1]; omega
  | ⟨1, _⟩ => show win2_4.index t 1 * 1000 + 1 * (y 1).val = (y 1).val; rw [(index_4 t).2]; omega

theorem blk_5 : blkOf V c 5 t = V c (Proc.devRef .tc main_v27) := by
  funext y
  unfold blkOf
  rw [View.read_apply]
  show V c _ _ = V c _ _
  congr 1
  funext a
  apply Fin.ext
  match a with
  | ⟨0, _⟩ => show win2_5.index t 0 * 64 + 1 * (y 0).val = (y 0).val; rw [(index_5 t).1]; omega
  | ⟨1, _⟩ => show win2_5.index t 1 * 1000 + 1 * (y 1).val = (y 1).val; rw [(index_5 t).2]; omega

theorem blk_6 : blkOf V c 6 t = V c (Proc.devRef .tc main_arg6) := by
  funext y
  unfold blkOf
  rw [View.read_apply]
  show V c _ _ = V c _ _
  congr 1
  funext a
  apply Fin.ext
  match a with
  | ⟨0, _⟩ => show win2_6.index t 0 * 128 + 1 * (y 0).val = (y 0).val; rw [(index_6 t).1]; omega
  | ⟨1, _⟩ => show win2_6.index t 1 * 192 + 1 * (y 1).val = (y 1).val; rw [(index_6 t).2]; omega

theorem blk_7 : blkOf V c 7 t = V c (Proc.devRef .tc main_arg7) := by
  funext y
  unfold blkOf
  rw [View.read_apply]
  show V c _ _ = V c _ _
  congr 1
  funext a
  apply Fin.ext
  match a with
  | ⟨0, _⟩ => show win2_7.index t 0 * 64 + 1 * (y 0).val = (y 0).val; rw [(index_7 t).1]; omega
  | ⟨1, _⟩ => show win2_7.index t 1 * 192 + 1 * (y 1).val = (y 1).val; rw [(index_7 t).2]; omega

theorem blk_8 : blkOf V c 8 t = V c (Proc.devRef .tc main_v28) := by
  funext y
  unfold blkOf
  rw [View.read_apply]
  show V c _ _ = V c _ _
  congr 1
  funext a
  apply Fin.ext
  match a with
  | ⟨0, _⟩ => show win2_8.index t 0 * 1 + 1 * (y 0).val = (y 0).val; rw [(index_8 t).1]; omega
  | ⟨1, _⟩ => show win2_8.index t 1 * 192 + 1 * (y 1).val = (y 1).val; rw [(index_8 t).2]; omega

theorem blk_9 : blkOf V c 9 t = V c (Proc.devRef .tc main_arg9) := by
  funext y
  unfold blkOf
  rw [View.read_apply]
  show V c _ _ = V c _ _
  congr 1
  funext a
  apply Fin.ext
  match a with
  | ⟨0, _⟩ => show win2_9.index t 0 * 64 + 1 * (y 0).val = (y 0).val; rw [(index_9 t).1]; omega
  | ⟨1, _⟩ => show win2_9.index t 1 * 64 + 1 * (y 1).val = (y 1).val; rw [(index_9 t).2]; omega

/-! ## The output arrays when the region is left -/

theorem idx_inj_10 : ∀ t t' : Fin cfg2.N, win2_10.index t = win2_10.index t' → t = t' :=
  fun t t' h => Fin.ext ((index_10 t).1.symm.trans ((congrFun h 0).trans (index_10 t').1))
theorem idx_inj_11 : ∀ t t' : Fin cfg2.N, win2_11.index t = win2_11.index t' → t = t' :=
  fun t t' h => Fin.ext ((index_11 t).1.symm.trans ((congrFun h 0).trans (index_11 t').1))
theorem idx_inj_12 : ∀ t t' : Fin cfg2.N, win2_12.index t = win2_12.index t' → t = t' :=
  fun t t' h => Fin.ext ((index_12 t).2.1.symm.trans ((congrFun h 1).trans (index_12 t').2.1))

theorem flush_10 : ∀ t : Fin grid2.N, win2_10.flush t = true := by decide +kernel
theorem flush_11 : ∀ t : Fin grid2.N, win2_11.flush t = true := by decide +kernel
theorem flush_12 : ∀ t : Fin grid2.N, win2_12.flush t = true := by decide +kernel

theorem zero3 : (![0, 0, 0] : Fin 3 → Nat) = fun _ => 0 := by decide

theorem emb_10 (p : Fin 256) (n : Fin 1000) : ((cfg2.win 10).blk t).view.emb (ix2 p n) = (ix2 (row t p) n : S4096x1000.Idx) := by
  funext a
  apply Fin.ext
  match a with
  | ⟨0, _⟩ => show win2_10.index t 0 * 256 + 1 * p.val = 256 * t.val + p.val; rw [(index_10 t).1]; omega
  | ⟨1, _⟩ => show win2_10.index t 1 * 1000 + 1 * n.val = n.val; rw [(index_10 t).2]; omega

theorem emb_11 (p : Fin 256) (e : Fin 64) : ((cfg2.win 11).blk t).view.emb (ix2 p e) = (ix2 (row t p) e : S4096x64.Idx) := by
  funext a
  apply Fin.ext
  match a with
  | ⟨0, _⟩ => show win2_11.index t 0 * 256 + 1 * p.val = 256 * t.val + p.val; rw [(index_11 t).1]; omega
  | ⟨1, _⟩ => show win2_11.index t 1 * 64 + 1 * e.val = e.val; rw [(index_11 t).2]; omega

theorem emb_12 (s : Fin 20) (p : Fin 256) (e : Fin 64) : ((cfg2.win 12).blk t).view.emb (ix3 s p e) = (ix3 s (row t p) e : S20x4096x64.Idx) := by
  funext a
  apply Fin.ext
  match a with
  | ⟨0, _⟩ => show win2_12.index t 0 * 20 + 1 * s.val = s.val; rw [(index_12 t).1]; omega
  | ⟨1, _⟩ => show win2_12.index t 1 * 256 + 1 * p.val = 256 * t.val + p.val; rw [(index_12 t).2.1]; omega
  | ⟨2, _⟩ => show win2_12.index t 2 * 64 + 1 * e.val = e.val; rw [(index_12 t).2.2]; omega

theorem pred_at (p : Fin 256) (n : Fin 1000) :
    (dat1 V c).arrAt 10 cfg2.N (ix2 (row t p) n)
      = vPred (blkOf V c 0 t) (blkOf V c 1 t) (blkOf V c 2 t) (blkOf V c 3 t) (blkOf V c 4 t) (blkOf V c 5 t) (blkOf V c 6 t) (blkOf V c 7 t) (blkOf V c 8 t) (blkOf V c 9 t) (ix2 p n) := by
  have h := (dat1 V c).arrAt_emb_eq_flushed 10 (fun t t' _ _ hne => (cfg2.win 10).disjoint_blk fun h => hne (idx_inj_10 t t' h)) t (flush_10 t) (ix2 p n)
  rw [emb_10] at h
  refine h.trans ?_
  show (dat1 V c).after 10 t (ix2 p n) = _
  rw [after_10, View.canon_cons_unit_zero (S := S256x1000) zero2]

theorem user_at (p : Fin 256) (e : Fin 64) :
    (dat1 V c).arrAt 11 cfg2.N (ix2 (row t p) e)
      = vUser (blkOf V c 0 t) (blkOf V c 1 t) (blkOf V c 3 t) (blkOf V c 6 t) (blkOf V c 7 t) (blkOf V c 8 t) (ix2 p e) := by
  have h := (dat1 V c).arrAt_emb_eq_flushed 11 (fun t t' _ _ hne => (cfg2.win 11).disjoint_blk fun h => hne (idx_inj_11 t t' h)) t (flush_11 t) (ix2 p e)
  rw [emb_11] at h
  refine h.trans ?_
  show (dat1 V c).after 11 t (ix2 p e) = _
  rw [after_11, View.canon_cons_unit_zero (S := S256x64) zero2]

theorem item_at (s : Fin 20) (p : Fin 256) (e : Fin 64) :
    (dat1 V c).arrAt 12 cfg2.N (ix3 s (row t p) e)
      = vItem (blkOf V c 0 t) (blkOf V c 1 t) (blkOf V c 3 t) (blkOf V c 6 t) (blkOf V c 7 t) (blkOf V c 8 t) (ix3 s p e) := by
  have h := (dat1 V c).arrAt_emb_eq_flushed 12 (fun t t' _ _ hne => (cfg2.win 12).disjoint_blk fun h => hne (idx_inj_12 t t' h)) t (flush_12 t) (ix3 s p e)
  rw [emb_12] at h
  refine h.trans ?_
  show (dat1 V c).after 12 t (ix3 s p e) = _
  rw [after_12, View.canon_cons_unit_zero (S := S20x256x64) zero3]

end blocks

/-! ## The column sums when the first region is left -/

section counts

variable {F : FTy → Type} [FloatOps F]
variable (V : Dev nD → Valuation τ sig (Elt F)) (a : (pcfg1 (F := F)).Adm) (seg : ℕ → ℕ) (gH : S4096x1000.Idx → F .f32) (gU : S4096x64.Idx → F .f32) (c : Dev nD)

theorem flush1_2' (t : Fin (cfg1 a).N) : ((cfg1 a).win 2).flush t = true ↔ t.val = 48 := by
  have ht : t.val < 49 := lt_of_lt_of_eq t.isLt N_1
  by_cases h : t.val + 1 < 49
  · rw [flush1_2 a t h]
    exact ⟨fun h => absurd h (by decide), fun e => absurd h (by omega)⟩
  · refine ⟨fun _ => by omega, fun _ => ?_⟩
    rw [Window.flush_eq_flushOf]
    show (true && (decide (t.val + 1 = grid1.N) || decide (∃ h : t.val + 1 < grid1.N, cc1_transform_2 (grid1.coords ⟨t.val + 1, h⟩) ≠ cc1_transform_2 (grid1.coords t)))) = true
    rw [decide_eq_true (show t.val + 1 = grid1.N by rw [N_1]; omega)]
    rfl

theorem emb1_2 (t : Fin (cfg1 a).N) (q : S8x1000.Idx) : (((cfg1 a).win 2).blk t).view.emb q = (q : S8x1000.Idx) := by
  funext x
  apply Fin.ext
  match x with
  | ⟨0, _⟩ => show 0 * 8 + 1 * (q 0).val = (q 0).val; omega
  | ⟨1, _⟩ => show 0 * 1000 + 1 * (q 1).val = (q 1).val; omega

/-- The buffer of the partial sums is written back once, after the last point. -/
theorem counts_eq : (dat0 V a seg gH gU c).arrAt 2 (cfg1 a).N = cnt (AHOf V c) 48 := by
  funext q
  have hN : 48 < (cfg1 a).N := lt_of_lt_of_eq (by decide : 48 < 49) N_1.symm
  have h := (dat0 V a seg gH gU c).arrAt_emb_eq_flushed 2
    (fun t t' ht ht' hne => absurd (Fin.ext (((flush1_2' a t).mp ht).trans ((flush1_2' a t').mp ht').symm)) hne) ⟨48, hN⟩ ((flush1_2' a _).mpr rfl) q
  exact (congrArg _ (emb1_2 a ⟨48, hN⟩ q).symm).trans h

end counts

/-! ## The arrays when the region is entered -/

section entry

variable (m : (ℓ : Loc nD τ sig) → Buf (Elt Ideal) ℓ) (d : Dev nD)

/-! What each of the host's stretches leaves in the buffers read here, over any contents before it. -/

theorem opsC_v26 (W : Valuation τ sig (Elt Ideal)) : after opsC W (Proc.devRef .tc main_v26) = shapeCast S20x4096x128 (W rO) shapeCasts_S81920x128_S20x4096x128 := by
  unfold opsC
  after_results
  try rfl
theorem opsC_v27 (W : Valuation τ sig (Elt Ideal)) : after opsC W (Proc.devRef .tc main_v27) = transpose S64x1000 [1, 0] (W (Proc.devRef .tc main_arg5)) transposes_S1000x64_S64x1000_1_0 := by
  unfold opsC
  after_results
  try rfl
theorem opsC_v28 (W : Valuation τ sig (Elt Ideal)) : after opsC W (Proc.devRef .tc main_v28) = shapeCast S1x192 (W (Proc.devRef .tc main_arg8)) shapeCasts_S192_S1x192 := by
  unfold opsC
  after_results
  try rfl
theorem opsB4_v23 (W : Valuation τ sig (Elt Ideal)) : after opsB4 W (Proc.devRef .tc main_v23) = transpose S1000x100000 [1, 0] (W (Proc.devRef .tc main_arg3)) transposes_S100000x1000_S1000x100000_1_0 := by
  unfold opsB4
  after_results
  try rfl
theorem opsB4_v24 (W : Valuation τ sig (Elt Ideal)) : after opsB4 W (Proc.devRef .tc main_v24) = transpose S64x100000 [1, 0] (W (Proc.devRef .tc main_arg4)) transposes_S100000x64_S64x100000_1_0 := by
  unfold opsB4
  after_results
  try rfl

/-- A buffer that no stretch from the SparseCore call to the second region writes. -/
theorem W4_W2 {r : Ref sig .tc} (h : (r ∉ wrB1 ∧ r ∉ wrB2 ∧ r ∉ wrB3 ∧ r ∉ wrB4) ∧ r ≠ main_v25_1 ∧ r ≠ main_v25_2 ∧ ∀ w, r ≠ Pipeline.arrRef spec1 w) :
    W4 m d (Proc.devRef .tc r) = W2 m d (Proc.devRef .tc r) := by
  rw [W4_of m d h.2, W3_of m d h.1.2.2.2, W2c_of m d h.1.2.2.1, W2b_of m d h.1.2.1, W2a_of m d h.1.1]

theorem W4_arg {r : Ref sig .tc} (h : untouched r) : W4 m d (Proc.devRef .tc r) = m (d, Proc.devRef .tc r) := by
  rw [W4_of m d h.2.2.2.1, W3_arg m d h]

theorem W2c_arg {r : Ref sig .tc} (h : untouched r) : W2c m d (Proc.devRef .tc r) = m (d, Proc.devRef .tc r) :=
  (W3_of m d h.2.2.1.2.2.2).symm.trans (W3_arg m d h)

theorem W5_v3 : W5 m d (Proc.devRef .tc main_v3) = shapeCast S4096x1 (sitofp .f32 (m (d, Proc.devRef .tc main_arg0)) : FVec Ideal S4096 .f32) shapeCasts_S4096_S4096x1 := by
  rw [W5_of m d (by decide), W4_W2 m d (by decide), W2_of m d (by decide)]
  unfold W1 opsA
  after_results
  rfl

theorem W5_v26 : W5 m d (Proc.devRef .tc main_v26) = shapeCast S20x4096x128 (gt (tbOf m) (lsOf m) d) shapeCasts_S81920x128_S20x4096x128 := by
  rw [← W2_rO, ← W4_W2 m d (r := main_v5) (by decide)]
  exact opsC_v26 _

theorem lsOf_eq : lsOf m d = shapeCast S81920 (transpose S20x4096 [1, 0] (m (d, Proc.devRef .tc main_arg2)) transposes_S4096x20_S20x4096_1_0) shapeCasts_S20x4096_S81920 := by
  show W1 m d rI = _
  unfold W1 opsA
  after_results
  try rfl

theorem tbOf_eq : ∃ z : S_.Idx → Ideal .f32, tbOf m d = pad S1000x128 ![0, 0] ![0, 64] ![0, 0] (m (d, Proc.devRef .tc main_arg5)) z pads_S1000x64_S1000x128_000_0640 h_S_ := by
  refine ⟨sitofp .f32 (constantI S_ 32 0#32), ?_⟩
  show W1 m d rX = _
  unfold W1 opsA
  after_results
  try rfl

variable (a0 : IVec S4096 32) (a1 : IVec S4096 32) (a2 : IVec S4096x20 32) (a3 : FVec Ideal S100000x1000 .f32) (a4 : FVec Ideal S100000x64 .f32)
  (a5 : FVec Ideal S1000x64 .f32) (a6 : FVec Ideal S128x192 .f32) (a7 : FVec Ideal S64x192 .f32) (a8 : FVec Ideal S192 .f32) (a9 : FVec Ideal S64x64 .f32)

/-- Word `4096 s + b` of the list is entry `(b, s)` of the items' array. -/
theorem list_at (h2 : m (d, Proc.devRef .tc main_arg2) = a2) (b : Fin 4096) (s : Fin 20) (h : s.val * 4096 + b.val < 81920) :
    lsOf m d (ixL ⟨s.val * 4096 + b.val, h⟩) = a2 (ix2 b s) := by
  rw [lsOf_eq, h2]
  refine (shapeCast_apply _ _ _ (ix2 s b) ?_).trans ?_
  · rw [Shape.rowMajor_val_two, Shape.rowMajor_val_one]
    rfl
  · pointwise

/-- A lane below 64 of the padded table is the table's. -/
theorem table_at (h5 : m (d, Proc.devRef .tc main_arg5) = a5) (n : Fin 1000) (k : Fin 64) (hk : k.val < 128) :
    tbOf m d (ixT n ⟨k.val, hk⟩) = a5 (ix2 n k) := by
  obtain ⟨z, e⟩ := tbOf_eq m d
  rw [e, h5]
  refine pad_apply_of_inside _ _ _ _ _ _ _ _ (ix2 n k) fun a => ?_
  match a with
  | ⟨0, _⟩ => show n.val = 0 + n.val * (0 + 1); omega
  | ⟨1, _⟩ => show k.val = 0 + k.val * (0 + 1); omega

/-- The gathered rows as the region finds them: at step `s` of user `b`, the row of the table that entry `(b, s)` names. -/
theorem items_at (h2 : m (d, Proc.devRef .tc main_arg2) = a2) (h5 : m (d, Proc.devRef .tc main_arg5) = a5)
    (s : Fin 20) (b : Fin 4096) (k : Fin 64) (hk : k.val < 128) :
    W5 m d (Proc.devRef .tc main_v26) (ix3 s b ⟨k.val, hk⟩) = a5 (ix2 (Ref.itemRow a2 b s) k) := by
  have hr : s.val * 4096 + b.val < 81920 := by omega
  rw [W5_v26]
  refine (shapeCast_apply _ _ _ (ix2 ⟨s.val * 4096 + b.val, hr⟩ ⟨k.val, hk⟩) ?_).trans ?_
  · rw [Shape.rowMajor_val_two, Shape.rowMajor_val_three]
    rfl
  · show tbOf m d (ixT ⟨(lsOf m d (ixL ⟨s.val * 4096 + b.val, hr⟩)).toNat % 1000, _⟩ ⟨k.val, hk⟩) = _
    rw [table_at m d a5 h5]
    refine congrArg (fun n => a5 (ix2 n k)) (Fin.ext ?_)
    show (lsOf m d _).toNat % 1000 = (a2 _).toNat % 1000
    rw [list_at m d a2 h2 b s hr]

/-- The lengths as the region finds them. -/
theorem len_at (h0 : m (d, Proc.devRef .tc main_arg0) = a0) (hl : ∀ i, 1 ≤ (a0 i).toNat ∧ (a0 i).toNat ≤ 20) (b : Fin 4096) :
    W5 m d (Proc.devRef .tc main_v3) (ix2 b 0) = (((a0 (ix1 b)).toNat : ℝ) : EReal) := by
  rw [W5_v3, h0]
  refine (shapeCast_apply _ _ _ (ix1 b) ?_).trans ?_
  · rw [Shape.rowMajor_val_two, Shape.rowMajor_val_one]
    show b.val = b.val * 1 + 0
    omega
  · show (((a0 (ix1 b)).toInt : ℝ) : EReal) = _
    have := (hl (ix1 b)).2
    rw [BitVec.toInt_eq_toNat_cond, if_pos (by omega)]
    rfl

theorem bias_at (h8 : m (d, Proc.devRef .tc main_arg8) = a8) (j : Fin 192) :
    W5 m d (Proc.devRef .tc main_v28) (ix2 0 j) = a8 (ix1 j) := by
  rw [show W5 m d (Proc.devRef .tc main_v28) = _ from opsC_v28 _, W4_arg m d (by decide), h8]
  refine shapeCast_apply _ _ _ (ix1 j) ?_
  rw [Shape.rowMajor_val_two, Shape.rowMajor_val_one]
  show j.val = 0 * 192 + j.val
  omega

theorem tableT_at (h5 : m (d, Proc.devRef .tc main_arg5) = a5) (k : Fin 64) (n : Fin 1000) :
    W5 m d (Proc.devRef .tc main_v27) (ix2 k n) = a5 (ix2 n k) := by
  rw [show W5 m d (Proc.devRef .tc main_v27) = _ from opsC_v27 _, W4_arg m d (by decide), h5]
  pointwise

theorem urow_eq (h1 : m (0, Proc.devRef .tc main_arg1) = a1) (b : Fin 4096) : urow m b = Ref.userRow a1 b := by
  subst h1
  exact Fin.ext (congrArg (fun i => (usr m i).toNat % 100000) (funext fun x => match x with | ⟨0, _⟩ => rfl))

theorem hRows_apply (b : Fin 4096) (n : Fin 1000) : hRows m (ix2 b n) = W3 m 0 (Proc.devRef .tc main_v23) (pt2 n (urow m b)) :=
  congrArg (AHOf (W3 m) 0) (funext fun | 0 => rfl | 1 => rfl)
theorem uRows_apply (b : Fin 4096) (k : Fin 64) : uRows m (ix2 b k) = W3 m 0 (Proc.devRef .tc main_v24) (pt2 k (urow m b)) :=
  congrArg (AUOf (W3 m) 0) (funext fun | 0 => rfl | 1 => rfl)

/-- The two transposed tables at an index. -/
theorem histT_at (h3 : m (d, Proc.devRef .tc main_arg3) = a3) (n : Fin 1000) (k : Fin 100000) :
    W3 m d (Proc.devRef .tc main_v23) (pt2 n k) = a3 (ix2 k n) := by
  rw [show W3 m d (Proc.devRef .tc main_v23) = _ from opsB4_v23 _, W2c_arg m d (by decide), h3]
  exact congrArg a3 (funext fun x => match x with | ⟨0, _⟩ => rfl | ⟨1, _⟩ => rfl)
theorem memT_at (h4 : m (d, Proc.devRef .tc main_arg4) = a4) (e : Fin 64) (k : Fin 100000) :
    W3 m d (Proc.devRef .tc main_v24) (pt2 e k) = a4 (ix2 k e) := by
  rw [show W3 m d (Proc.devRef .tc main_v24) = _ from opsB4_v24 _, W2c_arg m d (by decide), h4]
  exact congrArg a4 (funext fun x => match x with | ⟨0, _⟩ => rfl | ⟨1, _⟩ => rfl)

/-- The user's row, the user's history row and the column sums as the second region finds them. -/
theorem hist_at (h1 : m (0, Proc.devRef .tc main_arg1) = a1) (h3 : m (0, Proc.devRef .tc main_arg3) = a3) (b : Fin 4096) (n : Fin 1000) :
    W5 m d (Proc.devRef .tc main_v25_1) (ix2 b n) = a3 (ix2 (Ref.userRow a1 b) n) := by
  rw [W5_of m d (by decide), show W4 m d (Proc.devRef .tc main_v25_1) = hRows m from V'_rH _ _ _ _ _ d, hRows_apply, histT_at m 0 a3 h3, urow_eq m a1 h1]

theorem user_row_at (h1 : m (0, Proc.devRef .tc main_arg1) = a1) (h4 : m (0, Proc.devRef .tc main_arg4) = a4) (b : Fin 4096) (k : Fin 64) :
    W5 m d (Proc.devRef .tc main_v25_2) (ix2 b k) = a4 (ix2 (Ref.userRow a1 b) k) := by
  rw [W5_of m d (by decide), show W4 m d (Proc.devRef .tc main_v25_2) = uRows m from V'_rU _ _ _ _ _ d, uRows_apply, memT_at m 0 a4 h4, urow_eq m a1 h1]

theorem W5_counts (y : Fin 8) (n : Fin 1000) : W5 m d (Proc.devRef .tc main_v25_0) (ix2 y n) = cnt (AHOf (W3 m) d) 48 (ix2 y n) := by
  rw [W5_of m d (by decide)]
  exact congrFun ((V'_arr (W3 m) (tabs m) (segs m) (hRows m) (uRows m) d 2).trans (counts_eq _ _ _ _ _ d)) _

/-- Sums over the eight rows of equal terms are equal. -/
theorem rows_congr (f g : Fin 8 → EReal) (h : ∀ y, f y = g y) : ∑ y, f y = ∑ y, g y := Finset.sum_congr rfl fun y _ => h y

theorem counts_at (h3 : m (d, Proc.devRef .tc main_arg3) = a3) (n : Fin 1000) :
    ∑ y : Fin 8, cnt (AHOf (W3 m) d) 48 (ix2 y n) = ∑ k : Fin 100000, a3 (ix2 k n) :=
  (cnt_sum _ n).trans (Finset.sum_congr rfl fun k _ => histT_at m d a3 h3 n k)

/-! ## The results -/

/-- Every row of the whole array is a row of one point's block. -/
theorem row_surj (b : Fin 4096) : ∃ t : Fin cfg2.N, ∃ p : Fin 256, b = row t p :=
  ⟨⟨b.val / 256, by show _ < 16; omega⟩, ⟨b.val % 256, by omega⟩, Fin.ext (by show b.val = 256 * (b.val / 256) + b.val % 256; omega)⟩

theorem W7_pred : W7 m d (Proc.devRef .tc main_v29_0) = (dat1 (W5 m) d).arrAt 10 cfg2.N :=
  (W7_of m d (by decide)).trans (Pipeline.afterRegion_arr (dat1 (W5 m) d) (W5 m d) winFacts2.arr_inj 10)
theorem W7_user : W7 m d (Proc.devRef .tc main_v29_1) = (dat1 (W5 m) d).arrAt 11 cfg2.N :=
  (W7_of m d (by decide)).trans (Pipeline.afterRegion_arr (dat1 (W5 m) d) (W5 m d) winFacts2.arr_inj 11)
theorem W6_item : W6 m d (Proc.devRef .tc main_v29_2) = (dat1 (W5 m) d).arrAt 12 cfg2.N :=
  Pipeline.afterRegion_arr (dat1 (W5 m) d) (W5 m d) winFacts2.arr_inj 12
theorem W7_item : W7 m d (Proc.devRef .tc main_v30)
    = transpose S4096x20x64 [1, 0, 2] ((dat1 (W5 m) d).arrAt 12 cfg2.N) transposes_S20x4096x64_S4096x20x64_1_0_2 := by
  rw [← W6_item]
  unfold W7 opsD
  after_results
  try rfl

theorem user_apply (h0 : m (0, Proc.devRef .tc main_arg0) = a0) (h1 : m (0, Proc.devRef .tc main_arg1) = a1)
    (h2 : m (0, Proc.devRef .tc main_arg2) = a2) (h4 : m (0, Proc.devRef .tc main_arg4) = a4)
    (h5 : m (0, Proc.devRef .tc main_arg5) = a5) (h6 : m (0, Proc.devRef .tc main_arg6) = a6)
    (h7 : m (0, Proc.devRef .tc main_arg7) = a7) (h8 : m (0, Proc.devRef .tc main_arg8) = a8)
    (hl : ∀ i, 1 ≤ (a0 i).toNat ∧ (a0 i).toNat ≤ 20) (b : Fin 4096) (e : Fin 64) :
    W7 m 0 (Proc.devRef .tc main_v29_1) (ix2 b e)
      = Spec.user (fun k => a4 (ix2 (Ref.userRow a1 b) k)) (fun s k => a5 (ix2 (Ref.itemRow a2 b s) k)) (a0 (ix1 b)).toNat a6 a7 (fun j => a8 (ix1 j)) e := by
  obtain ⟨t, p, rfl⟩ := row_surj b
  rw [W7_user, user_at, vUser_apply _ _ _ _ _ _ p _ (hl (ix1 (row t p))).1 ((blk_3 _ _ _ p 0).trans (len_at m 0 a0 h0 hl _))]
  simp only [blk_0, blk_1, blk_6, blk_7, blk_8, items_at m 0 a2 a5 h2 h5, bias_at m 0 a8 h8, user_row_at m 0 a1 a4 h1 h4,
    W5_arg m 0 (r := main_arg6) (by decide), W5_arg m 0 (r := main_arg7) (by decide), h6, h7]

theorem item_apply (h0 : m (0, Proc.devRef .tc main_arg0) = a0) (h1 : m (0, Proc.devRef .tc main_arg1) = a1)
    (h2 : m (0, Proc.devRef .tc main_arg2) = a2) (h4 : m (0, Proc.devRef .tc main_arg4) = a4)
    (h5 : m (0, Proc.devRef .tc main_arg5) = a5) (h6 : m (0, Proc.devRef .tc main_arg6) = a6)
    (h7 : m (0, Proc.devRef .tc main_arg7) = a7) (h8 : m (0, Proc.devRef .tc main_arg8) = a8)
    (hl : ∀ i, 1 ≤ (a0 i).toNat ∧ (a0 i).toNat ≤ 20) (b : Fin 4096) (s : Fin 20) (e : Fin 64) :
    W7 m 0 (Proc.devRef .tc main_v30) (ix3 b s e)
      = Spec.item (fun k => a4 (ix2 (Ref.userRow a1 b) k)) (fun s k => a5 (ix2 (Ref.itemRow a2 b s) k)) (a0 (ix1 b)).toNat a6 a7 (fun j => a8 (ix1 j)) s e := by
  obtain ⟨t, p, rfl⟩ := row_surj b
  rw [W7_item]
  have hT (X : S20x4096x64.Idx → Ideal .f32) : transpose S4096x20x64 [1, 0, 2] X transposes_S20x4096x64_S4096x20x64_1_0_2 (ix3 (row t p) s e)
      = X (ix3 s (row t p) e) := by pointwise
  refine (hT _).trans ?_
  rw [item_at, vItem_apply _ _ _ _ _ _ s p _ (hl (ix1 (row t p))).1 ((blk_3 _ _ _ p 0).trans (len_at m 0 a0 h0 hl _))]
  simp only [blk_0, blk_1, blk_6, blk_7, blk_8, items_at m 0 a2 a5 h2 h5, bias_at m 0 a8 h8, user_row_at m 0 a1 a4 h1 h4,
    W5_arg m 0 (r := main_arg6) (by decide), W5_arg m 0 (r := main_arg7) (by decide), h6, h7]

theorem pred_apply (h1 : m (0, Proc.devRef .tc main_arg1) = a1) (h3 : m (0, Proc.devRef .tc main_arg3) = a3)
    (h5 : m (0, Proc.devRef .tc main_arg5) = a5) (h9 : m (0, Proc.devRef .tc main_arg9) = a9) (b : Fin 4096) (n : Fin 1000) :
    W7 m 0 (Proc.devRef .tc main_v29_0) (ix2 b n)
      = Spec.pred (fun k => W7 m 0 (Proc.devRef .tc main_v29_1) (ix2 b k)) (fun n => a3 (ix2 (Ref.userRow a1 b) n))
          (fun n => ∑ k : Fin 100000, a3 (ix2 k n)) a9 (fun n k => a5 (ix2 n k)) n := by
  obtain ⟨t, p, rfl⟩ := row_surj b
  rw [W7_pred, pred_at, vPred_apply, W7_user]
  simp only [user_at, blk_2, blk_4, blk_5, blk_9, tableT_at m 0 a5 h5, hist_at m 0 a1 a3 h1 h3,
    W5_arg m 0 (r := main_arg9) (by decide), h9]
  exact congrArg (fun f => Spec.pred _ _ f a9 _ n) (funext fun n => (rows_congr _ _ fun y => W5_counts m 0 y n).trans (counts_at m 0 a3 h3 n))

end entry

end Cert.Proof

end
-- ==== Proof.lean ====
/-
  The certificate: the frames of the two kernel programs and of the reference, the step between the kernel programs, and the
  equality of the kernel's three results with the reference's over the extended reals.
-/
module

public import proofs.«01_k».proof.Defs
public import proofs.«01_k».proof.Proof.FrameP
public import proofs.«01_k».proof.Proof.Value
public import proofs.«01_k».proof.Proof.RefVal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn_range

@[expose] public section

set_option maxRecDepth 16384
set_option maxHeartbeats 4000000

noncomputable section

namespace Cert.Proof

open Idealize.ShloMosaic Idealize.ShloMosaic.TcCoe Idealize.SL.Sem

/-- The reference writes none of its arguments. -/
theorem frameR : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

theorem frameR_drawn : Cert.quiescent_ReferenceIdeal_pre_drawn_range := fun m ρ _ => frameR m ρ trivial

/-- The kernel's three results are the reference's. -/
theorem algebraic : Cert.algebraic_KernelIdeal_ReferenceIdeal := by
  intro m g m' g' hpre hargs
  have hr := fun c => range_of_pre _ _ _ _ _ _ _ _ _ _ (hpre c)
  have hu : ∀ c, Cert.ReferenceIdeal.Value.val3 (StableHlo.launchContents m' c) (Proc.devRef .tc Cert.ReferenceIdeal.main_v76) = W7 m c (Proc.devRef .tc Cert.KernelIdeal.main_v29_1) := by
    intro c
    obtain rfl : c = 0 := Subsingleton.elim _ _
    obtain ⟨h0, h1, h2, -, h4, h5, h6, h7, h8, -⟩ := hargs 0
    funext y
    rw [show y = ix2 (y 0) (y 1) from funext fun a => match a with | ⟨0, _⟩ => rfl | ⟨1, _⟩ => rfl]
    exact (Ref.user_apply (StableHlo.launchContents m' 0) _ _ _ _ _ _ _ _ h0 h1 h2 h4 h5 h6 h7 h8 (hr 0).1 (hr 0).2.1 (hr 0).2.2 _ _).trans
      (user_apply m _ _ _ _ _ _ _ _ rfl rfl rfl rfl rfl rfl rfl rfl (hr 0).1 _ _).symm
  have hi : ∀ c, Cert.ReferenceIdeal.Value.val3 (StableHlo.launchContents m' c) (Proc.devRef .tc Cert.ReferenceIdeal.main_v121) = W7 m c (Proc.devRef .tc Cert.KernelIdeal.main_v30) := by
    intro c
    obtain rfl : c = 0 := Subsingleton.elim _ _
    obtain ⟨h0, h1, h2, -, h4, h5, h6, h7, h8, -⟩ := hargs 0
    funext y
    rw [show y = ix3 (y 0) (y 1) (y 2) from funext fun a => match a with | ⟨0, _⟩ => rfl | ⟨1, _⟩ => rfl | ⟨2, _⟩ => rfl]
    exact (Ref.item_apply (StableHlo.launchContents m' 0) _ _ _ _ _ _ _ _ h0 h1 h2 h4 h5 h6 h7 h8 (hr 0).1 (hr 0).2.1 (hr 0).2.2 _ _ _).trans
      (item_apply m _ _ _ _ _ _ _ _ rfl rfl rfl rfl rfl rfl rfl rfl (hr 0).1 _ _ _).symm
  have hp : ∀ c, Cert.ReferenceIdeal.Value.val3 (StableHlo.launchContents m' c) (Proc.devRef .tc Cert.ReferenceIdeal.main_v135) = W7 m c (Proc.devRef .tc Cert.KernelIdeal.main_v29_0) := by
    intro c
    obtain rfl : c = 0 := Subsingleton.elim _ _
    obtain ⟨-, h1, -, h3, -, h5, -, -, -, h9⟩ := hargs 0
    funext y
    rw [show y = ix2 (y 0) (y 1) from funext fun a => match a with | ⟨0, _⟩ => rfl | ⟨1, _⟩ => rfl]
    refine (Ref.pred_apply (StableHlo.launchContents m' 0) _ _ _ _ h1 h3 h5 h9 (hr 0).2.1 _ _).trans
      (Eq.trans ?_ (pred_apply m _ _ _ _ rfl rfl rfl rfl _ _).symm)
    rw [hu 0]
  refine ⟨fun c => W7 m c (Proc.devRef .tc Cert.KernelIdeal.main_v29_0), fun c => W7 m c (Proc.devRef .tc Cert.KernelIdeal.main_v29_1),
    fun c => W7 m c (Proc.devRef .tc Cert.KernelIdeal.main_v30), ?_, ?_⟩
  · refine (θ_run Cert.KernelIdeal.defs _ _).mono (fun r h c =>
      ⟨h.1 c Cert.KernelIdeal.main_v29_0 rfl, h.1 c Cert.KernelIdeal.main_v29_1 rfl, h.1 c Cert.KernelIdeal.main_v30 rfl, ?_⟩)
      (run_args (F := Ideal) m g (fun c => (hr c).2.1) fun c => (hr c).2.2)
    exact ⟨(h.1 c Cert.KernelIdeal.main_arg0 rfl).trans (W7_arg m c (by decide)), (h.1 c Cert.KernelIdeal.main_arg1 rfl).trans (W7_arg m c (by decide)),
      (h.1 c Cert.KernelIdeal.main_arg2 rfl).trans (W7_arg m c (by decide)), (h.1 c Cert.KernelIdeal.main_arg3 rfl).trans (W7_arg m c (by decide)),
      (h.1 c Cert.KernelIdeal.main_arg4 rfl).trans (W7_arg m c (by decide)), (h.1 c Cert.KernelIdeal.main_arg5 rfl).trans (W7_arg m c (by decide)),
      (h.1 c Cert.KernelIdeal.main_arg6 rfl).trans (W7_arg m c (by decide)), (h.1 c Cert.KernelIdeal.main_arg7 rfl).trans (W7_arg m c (by decide)),
      (h.1 c Cert.KernelIdeal.main_arg8 rfl).trans (W7_arg m c (by decide)), (h.1 c Cert.KernelIdeal.main_arg9 rfl).trans (W7_arg m c (by decide))⟩
  · exact (θ_run Cert.ReferenceIdeal.defs _ _).mono (fun r h c =>
      ⟨((h c).1.trans (Cert.ReferenceIdeal.Value.val3_main_v135 (StableHlo.launchContents m' c)).symm).trans (hp c),
        ((h c).2.1.trans (Cert.ReferenceIdeal.Value.val3_main_v76 (StableHlo.launchContents m' c)).symm).trans (hu c),
        ((h c).2.2.1.trans (Cert.ReferenceIdeal.Value.val3_main_v121 (StableHlo.launchContents m' c)).symm).trans (hi c), (h c).2.2.2⟩) (Cert.ReferenceIdeal.Value.run m' g')

theorem claim : Cert.Claim :=
  ⟨Cert.Kernel.Gen.facts, Cert.KernelIdeal.Gen.facts, Cert.ReferenceIdeal.Gen.facts, Cert.Pre_drawn_range.Gen.facts,
    frameP, frameI, frameR, frameR_drawn, trivial, algebraic⟩

end Cert.Proof

end
